-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "no_past" .f32 0xC61C4000#32 ⊥
  ∧ IdealRules.named_const.Statement Cert.KernelIdeal.κ "dead" .f32 0xC3200000#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)) (v3 : (c : Dev Cert.Kernel6Ideal.nD) → Buf (Elt Ideal) ((c.tc : Thread Cert.Kernel6Ideal.nD Cert.Kernel6Ideal.τ).loc Cert.Kernel6Ideal.main_v2_3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_v2_3) = v3 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v43) = v0 c
          ∧ r.2.mem ((c.tc : Thread Cert.Reference6Ideal.nD Cert.Reference6Ideal.τ).loc Cert.Reference6Ideal.main_v44) = v1 c
          ∧ r.2.mem ((c.tc : Thread Cert.Reference6Ideal.nD Cert.Reference6Ideal.τ).loc Cert.Reference6Ideal.main_v45) = v2 c
          ∧ r.2.mem ((c.tc : Thread Cert.Reference6Ideal.nD Cert.Reference6Ideal.τ).loc Cert.Reference6Ideal.main_v46) = v3 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S2x8192x512 : Shape := ⟨3, ![2, 8192, 512]⟩
abbrev S512x256 : Shape := ⟨2, ![512, 256]⟩
abbrev S_ : Shape := ⟨0, ![]⟩
abbrev S1x256x256 : Shape := ⟨3, ![1, 256, 256]⟩
abbrev S1x8192x256 : Shape := ⟨3, ![1, 8192, 256]⟩
abbrev S256x256 : Shape := ⟨2, ![256, 256]⟩
abbrev S1x128 : Shape := ⟨2, ![1, 128]⟩
abbrev S256x128 : Shape := ⟨2, ![256, 128]⟩
abbrev S256x1 : Shape := ⟨2, ![256, 1]⟩
abbrev S256x512 : Shape := ⟨2, ![256, 512]⟩
abbrev S1x256x1 : Shape := ⟨3, ![1, 256, 1]⟩
abbrev S1 : Shape := ⟨1, ![1]⟩
abbrev S1x1x1 : Shape := ⟨3, ![1, 1, 1]⟩
abbrev S1x256x128 : Shape := ⟨3, ![1, 256, 128]⟩

abbrev nBuf : Space → Nat
  | .hbm => 14
  | .vmem => 9
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S512x256, .bf16⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x8192x512, .f32⟩
  | .hbm, ⟨9, _⟩ => ⟨S2x8192x512, .f32⟩
  | .hbm, ⟨10, _⟩ => ⟨S2x8192x512, .bf16⟩
  | .hbm, ⟨11, _⟩ => ⟨S2x8192x512, .bf16⟩
  | .hbm, ⟨12, _⟩ => ⟨S2x8192x512, .bf16⟩
  | .hbm, ⟨13, _⟩ => ⟨S2x8192x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x256, .bf16⟩
  | .local _ .vmem, ⟨5, _⟩ => ⟨S1x8192x256, .bf16⟩
  | .local _ .vmem, ⟨6, _⟩ => ⟨S512x256, .bf16⟩
  | .local _ .vmem, ⟨7, _⟩ => ⟨S1x256x256, .bf16⟩
  | .local _ .vmem, ⟨8, _⟩ => ⟨S1x256x256, .bf16⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 2, 32], ![false, false, false]⟩

def k0_mult1 (i : grid0.Coords) : BitVec 32 :=
  let arg2 : BitVec 32 := BitVec.ofNat 32 (i 2).val
  let c256_i32 : BitVec 32 := 256#32
  let v28 : BitVec 32 := Scalar.muli arg2 c256_i32
  v28
def k0_off1 (i : grid0.Coords) : Fin 3 → Nat :=
  let c0_11 : Index := 0#32
  let arg2 : BitVec 32 := BitVec.ofNat 32 (i 2).val
  let c256_i32 : BitVec 32 := 256#32
  let v28 : BitVec 32 := Scalar.muli arg2 c256_i32
  let v29 : BitVec 32 := v28
  let v35 : Index := Scalar.indexCast v29
  let c0_12 : Index := 0#32
  ![0, v35.toNat, 0]
def k0_mult2 (i : grid0.Coords) : BitVec 32 :=
  let arg2 : BitVec 32 := BitVec.ofNat 32 (i 2).val
  let c1_i32 : BitVec 32 := 1#32
  let v191 : BitVec 32 := Scalar.subi arg2 c1_i32
  let c0_i32_53 : BitVec 32 := 0#32
  let v192 : BitVec 32 := Scalar.subi v191 c0_i32_53
  let c0_i32_54 : BitVec 32 := 0#32
  let v193 : BitVec 32 := Scalar.maxsi v192 c0_i32_54
  let c256_i32_55 : BitVec 32 := 256#32
  let v194 : BitVec 32 := Scalar.muli v193 c256_i32_55
  v194
def k0_off2 (i : grid0.Coords) : Fin 3 → Nat :=
  let c0_56 : Index := 0#32
  let arg2 : BitVec 32 := BitVec.ofNat 32 (i 2).val
  let c1_i32 : BitVec 32 := 1#32
  let v191 : BitVec 32 := Scalar.subi arg2 c1_i32
  let c0_i32_53 : BitVec 32 := 0#32
  let v192 : BitVec 32 := Scalar.subi v191 c0_i32_53
  let c0_i32_54 : BitVec 32 := 0#32
  let v193 : BitVec 32 := Scalar.maxsi v192 c0_i32_54
  let c256_i32_55 : BitVec 32 := 256#32
  let v194 : BitVec 32 := Scalar.muli v193 c256_i32_55
  let v195 : BitVec 32 := v194
  let v196 : Index := Scalar.indexCast v195
  let c0_57 : Index := 0#32
  ![0, v196.toNat, 0]
def k0_mult3 (i : grid0.Coords) (arg8 : BitVec 32) : BitVec 32 :=
  let arg2 : BitVec 32 := BitVec.ofNat 32 (i 2).val
  let c1_i32_97 : BitVec 32 := 1#32
  let v352 : BitVec 32 := Scalar.subi arg2 c1_i32_97
  let v353 : BitVec 32 := Scalar.subi v352 arg8
  let c0_i32_98 : BitVec 32 := 0#32
  let v354 : BitVec 32 := Scalar.maxsi v353 c0_i32_98
  let c256_i32_99 : BitVec 32 := 256#32
  let v355 : BitVec 32 := Scalar.muli v354 c256_i32_99
  v355

def k0_off3 (i : grid0.Coords) (arg8 : BitVec 32) : Fin 3 → Nat :=
  let c0_100 : Index := 0#32
  let arg2 : BitVec 32 := BitVec.ofNat 32 (i 2).val
  let c1_i32_97 : BitVec 32 := 1#32
  let v352 : BitVec 32 := Scalar.subi arg2 c1_i32_97
  let v353 : BitVec 32 := Scalar.subi v352 arg8
  let c0_i32_98 : BitVec 32 := 0#32
  let v354 : BitVec 32 := Scalar.maxsi v353 c0_i32_98
  let c256_i32_99 : BitVec 32 := 256#32
  let v355 : BitVec 32 := Scalar.muli v354 c256_i32_99
  let v356 : BitVec 32 := v355
  let v357 : Index := Scalar.indexCast v356
  let c0_101 : Index := 0#32
  ![0, v357.toNat, 0]

def k0_chk1 (i : grid0.Coords) (arg8 : BitVec 32) : Prop :=
  (256 ∣ (k0_mult3 i arg8).toNat) ∧
  (∀ a, (k0_off3 i arg8) a + S1x256x256.size a ≤ S1x8192x256.size a)
theorem k0_mult3_dvd : ∀ (i : grid0.Coords) (arg8 : BitVec 32) (k0_hw1 : k0_chk1 i arg8), 256 ∣ (k0_mult3 i arg8).toNat := fun i arg8 k0_hw1 => k0_hw1.1
theorem k0_off3_inb : ∀ (i : grid0.Coords) (arg8 : BitVec 32) (k0_hw1 : k0_chk1 i arg8), ∀ a, (k0_off3 i arg8) a + S1x256x256.size a ≤ S1x8192x256.size a := fun i arg8 k0_hw1 => k0_hw1.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
abbrev S2x8192x512 : Shape := ⟨3, ![2, 8192, 512]⟩
abbrev S512x256 : Shape := ⟨2, ![512, 256]⟩
abbrev S_ : Shape := ⟨0, ![]⟩
abbrev S1x256x256 : Shape := ⟨3, ![1, 256, 256]⟩
abbrev S1x8192x256 : Shape := ⟨3, ![1, 8192, 256]⟩
abbrev S256x256 : Shape := ⟨2, ![256, 256]⟩
abbrev S1x128 : Shape := ⟨2, ![1, 128]⟩
abbrev S256x128 : Shape := ⟨2, ![256, 128]⟩
abbrev S256x1 : Shape := ⟨2, ![256, 1]⟩
abbrev S256x512 : Shape := ⟨2, ![256, 512]⟩
abbrev S1x256x1 : Shape := ⟨3, ![1, 256, 1]⟩
abbrev S1 : Shape := ⟨1, ![1]⟩
abbrev S1x1x1 : Shape := ⟨3, ![1, 1, 1]⟩
abbrev S1x256x128 : Shape := ⟨3, ![1, 256, 128]⟩

abbrev nBuf : Space → Nat
  | .hbm => 14
  | .vmem => 9
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S512x256, .bf16⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x8192x512, .f32⟩
  | .hbm, ⟨9, _⟩ => ⟨S2x8192x512, .f32⟩
  | .hbm, ⟨10, _⟩ => ⟨S2x8192x512, .bf16⟩
  | .hbm, ⟨11, _⟩ => ⟨S2x8192x512, .bf16⟩
  | .hbm, ⟨12, _⟩ => ⟨S2x8192x512, .bf16⟩
  | .hbm, ⟨13, _⟩ => ⟨S2x8192x512, .bf16⟩
  | .local _ .vmem, ⟨0, _⟩ => ⟨S1x256x256, .bf16⟩
  | .local _ .vmem, ⟨1, _⟩ => ⟨S1x256x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x256, .bf16⟩
  | .local _ .vmem, ⟨5, _⟩ => ⟨S1x8192x256, .bf16⟩
  | .local _ .vmem, ⟨6, _⟩ => ⟨S512x256, .bf16⟩
  | .local _ .vmem, ⟨7, _⟩ => ⟨S1x256x256, .bf16⟩
  | .local _ .vmem, ⟨8, _⟩ => ⟨S1x256x256, .bf16⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F] [Named F]

def κ : String → Option EReal := fun
  | "dead" => some ⊥
  | "log2e" => some (((Real.log 2)⁻¹ : ℝ) : EReal)
  | "no_past" => some ⊥
  | _ => none

abbrev grid0 : Pipeline.Grid := ⟨3, ![2, 2, 32], ![false, false, false]⟩

def k0_mult1 (i : grid0.Coords) : BitVec 32 :=
  let arg2 : BitVec 32 := BitVec.ofNat 32 (i 2).val
  let c256_i32 : BitVec 32 := 256#32
  let v28 : BitVec 32 := Scalar.muli arg2 c256_i32
  v28
def k0_off1 (i : grid0.Coords) : Fin 3 → Nat :=
  let c0_11 : Index := 0#32
  let arg2 : BitVec 32 := BitVec.ofNat 32 (i 2).val
  let c256_i32 : BitVec 32 := 256#32
  let v28 : BitVec 32 := Scalar.muli arg2 c256_i32
  let v29 : BitVec 32 := v28
  let v35 : Index := Scalar.indexCast v29
  let c0_12 : Index := 0#32
  ![0, v35.toNat, 0]
def k0_mult2 (i : grid0.Coords) : BitVec 32 :=
  let arg2 : BitVec 32 := BitVec.ofNat 32 (i 2).val
  let c1_i32 : BitVec 32 := 1#32
  let v191 : BitVec 32 := Scalar.subi arg2 c1_i32
  let c0_i32_53 : BitVec 32 := 0#32
  let v192 : BitVec 32 := Scalar.subi v191 c0_i32_53
  let c0_i32_54 : BitVec 32 := 0#32
  let v193 : BitVec 32 := Scalar.maxsi v192 c0_i32_54
  let c256_i32_55 : BitVec 32 := 256#32
  let v194 : BitVec 32 := Scalar.muli v193 c256_i32_55
  v194
def k0_off2 (i : grid0.Coords) : Fin 3 → Nat :=
  let c0_56 : Index := 0#32
  let arg2 : BitVec 32 := BitVec.ofNat 32 (i 2).val
  let c1_i32 : BitVec 32 := 1#32
  let v191 : BitVec 32 := Scalar.subi arg2 c1_i32
  let c0_i32_53 : BitVec 32 := 0#32
  let v192 : BitVec 32 := Scalar.subi v191 c0_i32_53
  let c0_i32_54 : BitVec 32 := 0#32
  let v193 : BitVec 32 := Scalar.maxsi v192 c0_i32_54
  let c256_i32_55 : BitVec 32 := 256#32
  let v194 : BitVec 32 := Scalar.muli v193 c256_i32_55
  let v195 : BitVec 32 := v194
  let v196 : Index := Scalar.indexCast v195
  let c0_57 : Index := 0#32
  ![0, v196.toNat, 0]
def k0_mult3 (i : grid0.Coords) (arg8 : BitVec 32) : BitVec 32 :=
  let arg2 : BitVec 32 := BitVec.ofNat 32 (i 2).val
  let c1_i32_97 : BitVec 32 := 1#32
  let v352 : BitVec 32 := Scalar.subi arg2 c1_i32_97
  let v353 : BitVec 32 := Scalar.subi v352 arg8
  let c0_i32_98 : BitVec 32 := 0#32
  let v354 : BitVec 32 := Scalar.maxsi v353 c0_i32_98
  let c256_i32_99 : BitVec 32 := 256#32
  let v355 : BitVec 32 := Scalar.muli v354 c256_i32_99
  v355

def k0_off3 (i : grid0.Coords) (arg8 : BitVec 32) : Fin 3 → Nat :=
  let c0_100 : Index := 0#32
  let arg2 : BitVec 32 := BitVec.ofNat 32 (i 2).val
  let c1_i32_97 : BitVec 32 := 1#32
  let v352 : BitVec 32 := Scalar.subi arg2 c1_i32_97
  let v353 : BitVec 32 := Scalar.subi v352 arg8
  let c0_i32_98 : BitVec 32 := 0#32
  let v354 : BitVec 32 := Scalar.maxsi v353 c0_i32_98
  let c256_i32_99 : BitVec 32 := 256#32
  let v355 : BitVec 32 := Scalar.muli v354 c256_i32_99
  let v356 : BitVec 32 := v355
  let v357 : Index := Scalar.indexCast v356
  let c0_101 : Index := 0#32
  ![0, v357.toNat, 0]

def k0_chk1 (i : grid0.Coords) (arg8 : BitVec 32) : Prop :=
  (256 ∣ (k0_mult3 i arg8).toNat) ∧
  (∀ a, (k0_off3 i arg8) a + S1x256x256.size a ≤ S1x8192x256.size a)
theorem k0_mult3_dvd : ∀ (i : grid0.Coords) (arg8 : BitVec 32) (k0_hw1 : k0_chk1 i arg8), 256 ∣ (k0_mult3 i arg8).toNat := fun i arg8 k0_hw1 => k0_hw1.1
theorem k0_off3_inb : ∀ (i : grid0.Coords) (arg8 : BitVec 32) (k0_hw1 : k0_chk1 i arg8), ∀ a, (k0_off3 i arg8) a + S1x256x256.size a ≤ S1x8192x256.size a := fun i arg8 k0_hw1 => k0_hw1.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== ReferenceIdeal.lean ====
abbrev S2x8192x512 : Shape := ⟨3, ![2, 8192, 512]⟩
abbrev S2x8192x8x64 : Shape := ⟨4, ![2, 8192, 8, 64]⟩
abbrev S2x8x8192x8192 : Shape := ⟨4, ![2, 8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x1x8192x8192 : Shape := ⟨4, ![1, 1, 8192, 8192]⟩
abbrev S2x8x64x8192 : Shape := ⟨4, ![2, 8, 64, 8192]⟩

abbrev nBuf : Space → Nat
  | .hbm => 70
  | .vmem => 0
  | .smem => 0
  | _ => 0

abbrev bufTy : (tb : Table) → Fin (tcTables nBuf tb) → BufTy
  | .hbm, ⟨0, _⟩ => ⟨S2x8192x512, .f32⟩
  | .hbm, ⟨1, _⟩ => ⟨S2x8192x512, .f32⟩
  | .hbm, ⟨2, _⟩ => ⟨S2x8192x512, .f32⟩
  | .hbm, ⟨3, _⟩ => ⟨S2x8192x8x64, .f32⟩
  | .hbm, ⟨4, _⟩ => ⟨S2x8192x8x64, .f32⟩
  | .hbm, ⟨5, _⟩ => ⟨S2x8192x8x64, .f32⟩
  | .hbm, ⟨6, _⟩ => ⟨S2x8x8192x8192, .f32⟩
  | .hbm, ⟨7, _⟩ => ⟨S_, .f32⟩
  | .hbm, ⟨8, _⟩ => ⟨S2x8x8192x8192, .f32⟩
  | .hbm, ⟨9, _⟩ => ⟨S2x8x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S1x1x8192x8192, .i1⟩
  | .hbm, ⟨17, _⟩ => ⟨S2x8x8192x8192, .f32⟩
  | .hbm, ⟨18, _⟩ => ⟨S2x8x8192x8192, .f32⟩
  | .hbm, ⟨19, _⟩ => ⟨S_, .f32⟩
  | .hbm, ⟨20, _⟩ => ⟨S2x8x8192x8192, .f32⟩
  | .hbm, ⟨21, _⟩ => ⟨S2x8x8192x8192, .f32⟩
  | .hbm, ⟨22, _⟩ => ⟨S2x8x8192x8192, .f32⟩
  | .hbm, ⟨23, _⟩ => ⟨S2x8x8192x8192, .f32⟩
  | .hbm, ⟨24, _⟩ => ⟨S2x8x8192x8192, .i1⟩
  | .hbm, ⟨25, _⟩ => ⟨S2x8x8192x8192, .f32⟩
  | .hbm, ⟨26, _⟩ => ⟨S2x8x8192x8192, .f32⟩
  | .hbm, ⟨27, _⟩ => ⟨S2x8x8192x8192, .f32⟩
  | .hbm, ⟨28, _⟩ => ⟨S2x8x8192x8192, .f32⟩
  | .hbm, ⟨29, _⟩ => ⟨S2x8x8192x8192, .f32⟩
  | .hbm, ⟨30, _⟩ => ⟨S2x8x8192x8192, .f32⟩
  | .hbm, ⟨31, _⟩ => ⟨S2x8x8192x8192, .f32⟩
  | .hbm, ⟨32, _⟩ => ⟨S2x8x8192x8192, .f32⟩
  | .hbm, ⟨33, _⟩ => ⟨S2x8x8192x8192, .f32⟩
  | .hbm, ⟨34, _⟩ => ⟨S_, .f32⟩
  | .hbm, ⟨35, _⟩ => ⟨S_, .f32⟩
  | .hbm, ⟨36, _⟩ => ⟨S2x8x8192x8192, .i1⟩
  | .hbm, ⟨37, _⟩ => ⟨S2x8x8192x8192, .f32⟩
  | .hbm, ⟨38, _⟩ => ⟨S2x8x8192x8192, .f32⟩
  | .hbm, ⟨39, _⟩ => ⟨S2x8x8192x8192, .f32⟩
  | .hbm, ⟨40, _⟩ => ⟨S_, .f32⟩
  | .hbm, ⟨41, _⟩ => ⟨S2x8x8192x8192, .f32⟩
  | .hbm, ⟨42, _⟩ => ⟨S2x8x8192x8192, .f32⟩
  | .hbm, ⟨43, _⟩ => ⟨S2x8x8192x8192, .f32⟩
  | .hbm, ⟨44, _⟩ => ⟨S2x8x8192x8192, .f32⟩
  | .hbm, ⟨45, _⟩ => ⟨S2x8x8192x8192, .i1⟩
  | .hbm, ⟨46, _⟩ => ⟨S2x8x8192x8192, .f32⟩
  | .hbm, ⟨47, _⟩ => ⟨S2x8x8192x8192, .f32⟩
  | .hbm, ⟨48, _⟩ => ⟨S2x8x8192x8192, .f32⟩
  | .hbm, ⟨49, _⟩ => ⟨S2x8x8192x8192, .f32⟩
  | .hbm, ⟨50, _⟩ => ⟨S2x8x8192x8192, .f32⟩
  | .hbm, ⟨51, _⟩ => ⟨S2x8x8192x8192, .f32⟩
  | .hbm, ⟨52, _⟩ => ⟨S2x8x8192x8192, .f32⟩
  | .hbm, ⟨53, _⟩ => ⟨S2x8x8192x8192, .f32⟩
  | .hbm, ⟨54, _⟩ => ⟨S2x8x8192x8192, .f32⟩
  | .hbm, ⟨55, _⟩ => ⟨S_, .f32⟩
  | .hbm, ⟨56, _⟩ => ⟨S_, .f32⟩
  | .hbm, ⟨57, _⟩ => ⟨S2x8x8192x8192, .f32⟩
  | .hbm, ⟨58, _⟩ => ⟨S2x8x8192x8192, .f32⟩
  | .hbm, ⟨59, _⟩ => ⟨S2x8x8192x8192, .f32⟩
  | .hbm, ⟨60, _⟩ => ⟨S2x8x8192x8192, .f32⟩
  | .hbm, ⟨61, _⟩ => ⟨S_, .f32⟩
  | .hbm, ⟨62, _⟩ => ⟨S_, .f32⟩
  | .hbm, ⟨63, _⟩ => ⟨S2x8x8192x8192, .i1⟩
  | .hbm, ⟨64, _⟩ => ⟨S2x8x8192x8192, .f32⟩
  | .hbm, ⟨65, _⟩ => ⟨S2x8x8192x8192, .f32⟩
  | .hbm, ⟨66, _⟩ => ⟨S2x8x64x8192, .f32⟩
  | .hbm, ⟨67, _⟩ => ⟨S2x8192x8x64, .f32⟩
  | .hbm, ⟨68, _⟩ => ⟨S2x8192x512, .f32⟩
  | .hbm, ⟨69, _⟩ => ⟨S2x8192x512, .bf16⟩
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_cst_0 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v15 : Ref sig .tc := ⟨.hbm, 38, rfl⟩
abbrev main_call2_v0 : Ref sig .tc := ⟨.hbm, 39, rfl⟩
abbrev main_call2_call0_cst : Ref sig .tc := ⟨.hbm, 40, rfl⟩
abbrev main_call2_call0_v0 : Ref sig .tc := ⟨.hbm, 41, rfl⟩
abbrev main_call2_call0_v1 : Ref sig .tc := ⟨.hbm, 42, rfl⟩
abbrev main_call2_call0_v2 : Ref sig .tc := ⟨.hbm, 43, rfl⟩
abbrev main_call2_call0_v3 : Ref sig .tc := ⟨.hbm, 44, rfl⟩
abbrev main_call2_call0_v4 : Ref sig .tc := ⟨.hbm, 45, rfl⟩
abbrev main_call2_call0_v5 : Ref sig .tc := ⟨.hbm, 46, rfl⟩
abbrev main_call2_call0_v6 : Ref sig .tc := ⟨.hbm, 47, rfl⟩
abbrev main_call2_call0_v7 : Ref sig .tc := ⟨.hbm, 48, rfl⟩
abbrev main_call2_call0_v8 : Ref sig .tc := ⟨.hbm, 49, rfl⟩
abbrev main_call2_call0_v9 : Ref sig .tc := ⟨.hbm, 50, rfl⟩
abbrev main_call2_call0_v10 : Ref sig .tc := ⟨.hbm, 51, rfl⟩
abbrev main_call2_call0_v11 : Ref sig .tc := ⟨.hbm, 52, rfl⟩
abbrev main_call2_v1 : Ref sig .tc := ⟨.hbm, 53, rfl⟩
abbrev main_v16 : Ref sig .tc := ⟨.hbm, 54, rfl⟩
abbrev main_call3_cst : Ref sig .tc := ⟨.hbm, 55, rfl⟩
abbrev main_call3_v0 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_cst_1 : Ref sig .tc := ⟨.hbm, 61, rfl⟩
abbrev main_call4_v0 : Ref sig .tc := ⟨.hbm, 62, rfl⟩
abbrev main_call4_v1 : Ref sig .tc := ⟨.hbm, 63, rfl⟩
abbrev main_call4_v2 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S2x1024x5632 : Shape := ⟨3, ![2, 1024, 5632]⟩
abbrev S2x2816x1024 : Shape := ⟨3, ![2, 2816, 1024]⟩
abbrev S16384x512 : Shape := ⟨2, ![16384, 512]⟩
abbrev S1024x1024 : Shape := ⟨2, ![1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x512 : Shape := ⟨2, ![1024, 512]⟩
abbrev S512x1024 : Shape := ⟨2, ![512, 1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 13
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x5632, .f32⟩
  | .hbm, ⟨3, _⟩ => ⟨S2x2816x1024, .f32⟩
  | .hbm, ⟨4, _⟩ => ⟨S16384x512, .bf16⟩
  | .hbm, ⟨5, _⟩ => ⟨S16384x512, .bf16⟩
  | .hbm, ⟨6, _⟩ => ⟨S1024x1024, .f32⟩
  | .hbm, ⟨7, _⟩ => ⟨S1024, .f32⟩
  | .hbm, ⟨8, _⟩ => ⟨S1024x1024, .bf16⟩
  | .hbm, ⟨9, _⟩ => ⟨S2x1024x5632, .bf16⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .f32⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Kernel2Ideal.lean ====
abbrev S16384x1024 : Shape := ⟨2, ![16384, 1024]⟩
abbrev S1024 : Shape := ⟨1, ![1024]⟩
abbrev S2x1024x5632 : Shape := ⟨3, ![2, 1024, 5632]⟩
abbrev S2x2816x1024 : Shape := ⟨3, ![2, 2816, 1024]⟩
abbrev S16384x512 : Shape := ⟨2, ![16384, 512]⟩
abbrev S1024x1024 : Shape := ⟨2, ![1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x512 : Shape := ⟨2, ![1024, 512]⟩
abbrev S512x1024 : Shape := ⟨2, ![512, 1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 13
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x5632, .f32⟩
  | .hbm, ⟨3, _⟩ => ⟨S2x2816x1024, .f32⟩
  | .hbm, ⟨4, _⟩ => ⟨S16384x512, .bf16⟩
  | .hbm, ⟨5, _⟩ => ⟨S16384x512, .bf16⟩
  | .hbm, ⟨6, _⟩ => ⟨S1024x1024, .f32⟩
  | .hbm, ⟨7, _⟩ => ⟨S1024, .f32⟩
  | .hbm, ⟨8, _⟩ => ⟨S1024x1024, .bf16⟩
  | .hbm, ⟨9, _⟩ => ⟨S2x1024x5632, .bf16⟩
  | .hbm, ⟨10, _⟩ => ⟨S1x1024, .f32⟩
  | .hbm, ⟨11, _⟩ => ⟨S1x1024, .f32⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .f32⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x1024, .bf16⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S16384x1024 : Shape := ⟨2, ![16384, 1024]⟩
abbrev S1024 : Shape := ⟨1, ![1024]⟩
abbrev S2x1024x5632 : Shape := ⟨3, ![2, 1024, 5632]⟩
abbrev S2x2816x1024 : Shape := ⟨3, ![2, 2816, 1024]⟩
abbrev S16384x512 : Shape := ⟨2, ![16384, 512]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 66
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x5632, .f32⟩
  | .hbm, ⟨3, _⟩ => ⟨S2x2816x1024, .f32⟩
  | .hbm, ⟨4, _⟩ => ⟨S16384x512, .bf16⟩
  | .hbm, ⟨5, _⟩ => ⟨S16384x512, .bf16⟩
  | .hbm, ⟨6, _⟩ => ⟨S1024x1024, .f32⟩
  | .hbm, ⟨7, _⟩ => ⟨S1024, .f32⟩
  | .hbm, ⟨8, _⟩ => ⟨S16384x1024, .bf16⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .f32⟩
  | .hbm, ⟨23, _⟩ => ⟨S16384x1024, .f32⟩
  | .hbm, ⟨24, _⟩ => ⟨S16384x1024, .f32⟩
  | .hbm, ⟨25, _⟩ => ⟨S1x1024, .f32⟩
  | .hbm, ⟨26, _⟩ => ⟨S16384x1024, .f32⟩
  | .hbm, ⟨27, _⟩ => ⟨S16384x1024, .f32⟩
  | .hbm, ⟨28, _⟩ => ⟨S1x1024x5632, .f32⟩
  | .hbm, ⟨29, _⟩ => ⟨S1024x5632, .f32⟩
  | .hbm, ⟨30, _⟩ => ⟨S1x2816x1024, .f32⟩
  | .hbm, ⟨31, _⟩ => ⟨S2816x1024, .f32⟩
  | .hbm, ⟨32, _⟩ => ⟨S16384x5632, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S_, .f32⟩
  | .hbm, ⟨38, _⟩ => ⟨S16384x2816, .f32⟩
  | .hbm, ⟨39, _⟩ => ⟨S16384x2816, .f32⟩
  | .hbm, ⟨40, _⟩ => ⟨S_, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x2816, .f32⟩
  | .hbm, ⟨45, _⟩ => ⟨S16384x1024, .f32⟩
  | .hbm, ⟨46, _⟩ => ⟨S_, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384, .f32⟩
  | .hbm, ⟨53, _⟩ => ⟨S16384x1, .f32⟩
  | .hbm, ⟨54, _⟩ => ⟨S_, .f32⟩
  | .hbm, ⟨55, _⟩ => ⟨S16384x1, .f32⟩
  | .hbm, ⟨56, _⟩ => ⟨S16384x1, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x1024, .f32⟩
  | .hbm, ⟨62, _⟩ => ⟨S16384x1024, .f32⟩
  | .hbm, ⟨63, _⟩ => ⟨S1x1024, .f32⟩
  | .hbm, ⟨64, _⟩ => ⟨S16384x1024, .f32⟩
  | .hbm, ⟨65, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_v32 : Ref sig .tc := ⟨.hbm, 53, rfl⟩
abbrev main_cst_4 : Ref sig .tc := ⟨.hbm, 54, rfl⟩
abbrev main_v33 : Ref sig .tc := ⟨.hbm, 55, rfl⟩
abbrev main_v34 : Ref sig .tc := ⟨.hbm, 56, rfl⟩
abbrev main_cst_5 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024x1024 : Shape := ⟨2, ![1024, 1024]⟩
abbrev S1x1024x5632 : Shape := ⟨3, ![1, 1024, 5632]⟩
abbrev S1x2816x1024 : Shape := ⟨3, ![1, 2816, 1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x5632, .f32⟩
  | .hbm, ⟨3, _⟩ => ⟨S2x2816x1024, .f32⟩
  | .hbm, ⟨4, _⟩ => ⟨S2x1024x5632, .bf16⟩
  | .hbm, ⟨5, _⟩ => ⟨S1x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel3Ideal.lean ====
abbrev S16384x1024 : Shape := ⟨2, ![16384, 1024]⟩
abbrev S1024 : Shape := ⟨1, ![1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024x1024 : Shape := ⟨2, ![1024, 1024]⟩
abbrev S1x1024x5632 : Shape := ⟨3, ![1, 1024, 5632]⟩
abbrev S1x2816x1024 : Shape := ⟨3, ![1, 2816, 1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x5632, .f32⟩
  | .hbm, ⟨3, _⟩ => ⟨S2x2816x1024, .f32⟩
  | .hbm, ⟨4, _⟩ => ⟨S2x1024x5632, .bf16⟩
  | .hbm, ⟨5, _⟩ => ⟨S1x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16384x1024 : Shape := ⟨2, ![16384, 1024]⟩
abbrev S1024 : Shape := ⟨1, ![1024]⟩
abbrev S2x1024x5632 : Shape := ⟨3, ![2, 1024, 5632]⟩
abbrev S2x2816x1024 : Shape := ⟨3, ![2, 2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x5632, .f32⟩
  | .hbm, ⟨3, _⟩ => ⟨S2x2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1x1024x5632, .f32⟩
  | .hbm, ⟨21, _⟩ => ⟨S1024x5632, .f32⟩
  | .hbm, ⟨22, _⟩ => ⟨S1x2816x1024, .f32⟩
  | .hbm, ⟨23, _⟩ => ⟨S2816x1024, .f32⟩
  | .hbm, ⟨24, _⟩ => ⟨S16384x5632, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024x1024 : Shape := ⟨2, ![1024, 1024]⟩
abbrev S1x1024x5632 : Shape := ⟨3, ![1, 1024, 5632]⟩
abbrev S1x2816x1024 : Shape := ⟨3, ![1, 2816, 1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x5632, .f32⟩
  | .hbm, ⟨3, _⟩ => ⟨S2x2816x1024, .f32⟩
  | .hbm, ⟨4, _⟩ => ⟨S2x1024x5632, .bf16⟩
  | .hbm, ⟨5, _⟩ => ⟨S1x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel4Ideal.lean ====
abbrev S16384x1024 : Shape := ⟨2, ![16384, 1024]⟩
abbrev S1024 : Shape := ⟨1, ![1024]⟩
abbrev S2x1024x5632 : Shape := ⟨3, ![2, 1024, 5632]⟩
abbrev S2x2816x1024 : Shape := ⟨3, ![2, 2816, 1024]⟩
abbrev S1x1024 : Shape := ⟨2, ![1, 1024]⟩
abbrev S1024x1024 : Shape := ⟨2, ![1024, 1024]⟩
abbrev S1x1024x5632 : Shape := ⟨3, ![1, 1024, 5632]⟩
abbrev S1x2816x1024 : Shape := ⟨3, ![1, 2816, 1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x5632, .f32⟩
  | .hbm, ⟨3, _⟩ => ⟨S2x2816x1024, .f32⟩
  | .hbm, ⟨4, _⟩ => ⟨S2x1024x5632, .bf16⟩
  | .hbm, ⟨5, _⟩ => ⟨S1x1024, .f32⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .f32⟩
  | .local _ .vmem, ⟨5, _⟩ => ⟨S1024x1024, .f32⟩
  | .local _ .vmem, ⟨6, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S16384x1024 : Shape := ⟨2, ![16384, 1024]⟩
abbrev S1024 : Shape := ⟨1, ![1024]⟩
abbrev S2x1024x5632 : Shape := ⟨3, ![2, 1024, 5632]⟩
abbrev S2x2816x1024 : Shape := ⟨3, ![2, 2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 42
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x5632, .f32⟩
  | .hbm, ⟨3, _⟩ => ⟨S2x2816x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S1x1024x5632, .f32⟩
  | .hbm, ⟨21, _⟩ => ⟨S1024x5632, .f32⟩
  | .hbm, ⟨22, _⟩ => ⟨S1x2816x1024, .f32⟩
  | .hbm, ⟨23, _⟩ => ⟨S2816x1024, .f32⟩
  | .hbm, ⟨24, _⟩ => ⟨S16384x5632, .f32⟩
  | .hbm, ⟨25, _⟩ => ⟨S16384x2816, .f32⟩
  | .hbm, ⟨26, _⟩ => ⟨S16384x2816, .f32⟩
  | .hbm, ⟨27, _⟩ => ⟨S16384x2816, .f32⟩
  | .hbm, ⟨28, _⟩ => ⟨S16384x2816, .f32⟩
  | .hbm, ⟨29, _⟩ => ⟨S_, .f32⟩
  | .hbm, ⟨30, _⟩ => ⟨S16384x2816, .f32⟩
  | .hbm, ⟨31, _⟩ => ⟨S16384x2816, .f32⟩
  | .hbm, ⟨32, _⟩ => ⟨S_, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S16384x2816, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_2 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Kernel5.lean ====
abbrev S16384x1024 : Shape := ⟨2, ![16384, 1024]⟩
abbrev S1024 : Shape := ⟨1, ![1024]⟩
abbrev S2x1024x5632 : Shape := ⟨3, ![2, 1024, 5632]⟩
abbrev S2x2816x1024 : Shape := ⟨3, ![2, 2816, 1024]⟩
abbrev S16384x512 : Shape := ⟨2, ![16384, 512]⟩
abbrev S1024x1024 : Shape := ⟨2, ![1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1024x512 : Shape := ⟨2, ![1024, 512]⟩
abbrev S512x1024 : Shape := ⟨2, ![512, 1024]⟩
abbrev S1024x1 : Shape := ⟨2, ![1024, 1]⟩
abbrev S1x1024x256 : Shape := ⟨3, ![1, 1024, 256]⟩
abbrev S1024x256 : Shape := ⟨2, ![1024, 256]⟩
abbrev S1x256x1024 : Shape := ⟨3, ![1, 256, 1024]⟩
abbrev S256x1024 : Shape := ⟨2, ![256, 1024]⟩

abbrev nBuf : Space → Nat
  | .hbm => 11
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x5632, .f32⟩
  | .hbm, ⟨3, _⟩ => ⟨S2x2816x1024, .f32⟩
  | .hbm, ⟨4, _⟩ => ⟨S16384x512, .bf16⟩
  | .hbm, ⟨5, _⟩ => ⟨S16384x512, .bf16⟩
  | .hbm, ⟨6, _⟩ => ⟨S1024x1024, .f32⟩
  | .hbm, ⟨7, _⟩ => ⟨S1024x1024, .bf16⟩
  | .hbm, ⟨8, _⟩ => ⟨S2x1024x5632, .bf16⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x5632, .bf16⟩
  | .local _ .vmem, ⟨4, _⟩ => ⟨S1x2816x1024, .f32⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S16384x1024 : Shape := ⟨2, ![16384, 1024]⟩
abbrev S1024 : Shape := ⟨1, ![1024]⟩
abbrev S2x1024x5632 : Shape := ⟨3, ![2, 1024, 5632]⟩
abbrev S2x2816x1024 : Shape := ⟨3, ![2, 2816, 1024]⟩
abbrev S16384x512 : Shape := ⟨2, ![16384, 512]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S16384x5632 : Shape := ⟨2, ![16384, 5632]⟩
abbrev S16384x2816 : Shape := ⟨2, ![16384, 2816]⟩

abbrev nBuf : Space → Nat
  | .hbm => 49
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S2x1024x5632, .f32⟩
  | .hbm, ⟨3, _⟩ => ⟨S2x2816x1024, .f32⟩
  | .hbm, ⟨4, _⟩ => ⟨S16384x512, .bf16⟩
  | .hbm, ⟨5, _⟩ => ⟨S16384x512, .bf16⟩
  | .hbm, ⟨6, _⟩ => ⟨S1024x1024, .f32⟩
  | .hbm, ⟨7, _⟩ => ⟨S16384x1024, .bf16⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S1x1024x5632, .f32⟩
  | .hbm, ⟨28, _⟩ => ⟨S1024x5632, .f32⟩
  | .hbm, ⟨29, _⟩ => ⟨S1x2816x1024, .f32⟩
  | .hbm, ⟨30, _⟩ => ⟨S2816x1024, .f32⟩
  | .hbm, ⟨31, _⟩ => ⟨S16384x5632, .f32⟩
  | .hbm, ⟨32, _⟩ => ⟨S16384x2816, .f32⟩
  | .hbm, ⟨33, _⟩ => ⟨S16384x2816, .f32⟩
  | .hbm, ⟨34, _⟩ => ⟨S16384x2816, .f32⟩
  | .hbm, ⟨35, _⟩ => ⟨S16384x2816, .f32⟩
  | .hbm, ⟨36, _⟩ => ⟨S_, .f32⟩
  | .hbm, ⟨37, _⟩ => ⟨S16384x2816, .f32⟩
  | .hbm, ⟨38, _⟩ => ⟨S16384x2816, .f32⟩
  | .hbm, ⟨39, _⟩ => ⟨S_, .f32⟩
  | .hbm, ⟨40, _⟩ => ⟨S16384x2816, .f32⟩
  | .hbm, ⟨41, _⟩ => ⟨S16384x2816, .f32⟩
  | .hbm, ⟨42, _⟩ => ⟨S16384x2816, .f32⟩
  | .hbm, ⟨43, _⟩ => ⟨S16384x2816, .f32⟩
  | .hbm, ⟨44, _⟩ => ⟨S16384x1024, .f32⟩
  | .hbm, ⟨45, _⟩ => ⟨S_, .f32⟩
  | .hbm, ⟨46, _⟩ => ⟨S16384x1024, .f32⟩
  | .hbm, ⟨47, _⟩ => ⟨S16384x1024, .f32⟩
  | .hbm, ⟨48, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]
-- ==== Kernel6.lean ====
abbrev S2x8192x1024 : Shape := ⟨3, ![2, 8192, 1024]⟩
abbrev S1024 : Shape := ⟨1, ![1024]⟩
abbrev S1024x3072 : Shape := ⟨2, ![1024, 3072]⟩
abbrev S3x512 : Shape := ⟨2, ![3, 512]⟩
abbrev S1x1024 : Shape := ⟨2, ![1, 1024]⟩
abbrev S2x8192x512 : Shape := ⟨3, ![2, 8192, 512]⟩
abbrev S1x512x1024 : Shape := ⟨3, ![1, 512, 1024]⟩
abbrev S1x512x512 : Shape := ⟨3, ![1, 512, 512]⟩
abbrev S520x512 : Shape := ⟨2, ![520, 512]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S8x512 : Shape := ⟨2, ![8, 512]⟩
abbrev S1x512 : Shape := ⟨2, ![1, 512]⟩

abbrev nBuf : Space → Nat
  | .hbm => 10
  | .vmem => 14
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3072, .f32⟩
  | .hbm, ⟨3, _⟩ => ⟨S3x512, .f32⟩
  | .hbm, ⟨4, _⟩ => ⟨S1024x3072, .bf16⟩
  | .hbm, ⟨5, _⟩ => ⟨S1x1024, .f32⟩
  | .hbm, ⟨6, _⟩ => ⟨S2x8192x512, .bf16⟩
  | .hbm, ⟨7, _⟩ => ⟨S2x8192x512, .bf16⟩
  | .hbm, ⟨8, _⟩ => ⟨S2x8192x512, .bf16⟩
  | .hbm, ⟨9, _⟩ => ⟨S2x8192x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S3x512, .f32⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S520x512, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference6Ideal.lean ====
abbrev S2x8192x1024 : Shape := ⟨3, ![2, 8192, 1024]⟩
abbrev S1024 : Shape := ⟨1, ![1024]⟩
abbrev S1024x3072 : Shape := ⟨2, ![1024, 3072]⟩
abbrev S3x512 : Shape := ⟨2, ![3, 512]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3072 : Shape := ⟨3, ![2, 8192, 3072]⟩
abbrev S2x8192x512 : Shape := ⟨3, ![2, 8192, 512]⟩
abbrev S2x8194x512 : Shape := ⟨3, ![2, 8194, 512]⟩
abbrev S1x512 : Shape := ⟨2, ![1, 512]⟩
abbrev S512 : Shape := ⟨1, ![512]⟩
abbrev S1x1x512 : Shape := ⟨3, ![1, 1, 512]⟩

abbrev nBuf : Space → Nat
  | .hbm => 56
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3072, .f32⟩
  | .hbm, ⟨3, _⟩ => ⟨S3x512, .f32⟩
  | .hbm, ⟨4, _⟩ => ⟨S2x8192x1024, .f32⟩
  | .hbm, ⟨5, _⟩ => ⟨S_, .f32⟩
  | .hbm, ⟨6, _⟩ => ⟨S2x8192, .f32⟩
  | .hbm, ⟨7, _⟩ => ⟨S2x8192x1, .f32⟩
  | .hbm, ⟨8, _⟩ => ⟨S_, .f32⟩
  | .hbm, ⟨9, _⟩ => ⟨S2x8192x1, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S2x8192x1, .f32⟩
  | .hbm, ⟨15, _⟩ => ⟨S2x8192x1024, .f32⟩
  | .hbm, ⟨16, _⟩ => ⟨S2x8192x1024, .f32⟩
  | .hbm, ⟨17, _⟩ => ⟨S1x1x1024, .f32⟩
  | .hbm, ⟨18, _⟩ => ⟨S2x8192x1024, .f32⟩
  | .hbm, ⟨19, _⟩ => ⟨S2x8192x1024, .f32⟩
  | .hbm, ⟨20, _⟩ => ⟨S2x8192x3072, .f32⟩
  | .hbm, ⟨21, _⟩ => ⟨S2x8192x512, .f32⟩
  | .hbm, ⟨22, _⟩ => ⟨S2x8192x512, .f32⟩
  | .hbm, ⟨23, _⟩ => ⟨S2x8192x512, .f32⟩
  | .hbm, ⟨24, _⟩ => ⟨S2x8192x512, .f32⟩
  | .hbm, ⟨25, _⟩ => ⟨S2x8192x512, .f32⟩
  | .hbm, ⟨26, _⟩ => ⟨S2x8192x512, .f32⟩
  | .hbm, ⟨27, _⟩ => ⟨S2x8192x512, .f32⟩
  | .hbm, ⟨28, _⟩ => ⟨S_, .i32⟩
  | .hbm, ⟨29, _⟩ => ⟨S_, .f32⟩
  | .hbm, ⟨30, _⟩ => ⟨S2x8194x512, .f32⟩
  | .hbm, ⟨31, _⟩ => ⟨S2x8192x512, .f32⟩
  | .hbm, ⟨32, _⟩ => ⟨S1x512, .f32⟩
  | .hbm, ⟨33, _⟩ => ⟨S512, .f32⟩
  | .hbm, ⟨34, _⟩ => ⟨S1x1x512, .f32⟩
  | .hbm, ⟨35, _⟩ => ⟨S2x8192x512, .f32⟩
  | .hbm, ⟨36, _⟩ => ⟨S2x8192x512, .f32⟩
  | .hbm, ⟨37, _⟩ => ⟨S2x8192x512, .f32⟩
  | .hbm, ⟨38, _⟩ => ⟨S1x512, .f32⟩
  | .hbm, ⟨39, _⟩ => ⟨S512, .f32⟩
  | .hbm, ⟨40, _⟩ => ⟨S1x1x512, .f32⟩
  | .hbm, ⟨41, _⟩ => ⟨S2x8192x512, .f32⟩
  | .hbm, ⟨42, _⟩ => ⟨S2x8192x512, .f32⟩
  | .hbm, ⟨43, _⟩ => ⟨S2x8192x512, .f32⟩
  | .hbm, ⟨44, _⟩ => ⟨S1x512, .f32⟩
  | .hbm, ⟨45, _⟩ => ⟨S512, .f32⟩
  | .hbm, ⟨46, _⟩ => ⟨S1x1x512, .f32⟩
  | .hbm, ⟨47, _⟩ => ⟨S2x8192x512, .f32⟩
  | .hbm, ⟨48, _⟩ => ⟨S2x8192x512, .f32⟩
  | .hbm, ⟨49, _⟩ => ⟨S2x8192x512, .f32⟩
  | .hbm, ⟨50, _⟩ => ⟨S2x8192x512, .f32⟩
  | .hbm, ⟨51, _⟩ => ⟨S2x8192x512, .f32⟩
  | .hbm, ⟨52, _⟩ => ⟨S2x8192x512, .bf16⟩
  | .hbm, ⟨53, _⟩ => ⟨S2x8192x512, .bf16⟩
  | .hbm, ⟨54, _⟩ => ⟨S2x8192x512, .bf16⟩
  | .hbm, ⟨55, _⟩ => ⟨S2x8192x512, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_call0_v0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩

abbrev nD : Nat := 1
abbrev τ : Topo := Topo.v7x

variable {F : FTy → Type} [FloatOps F]
-- ==== Proof.KI.Model.lean ====
/-
  What one grid point of the stick-breaking kernel computes, as functions of the contents of its four input blocks:
  the tiles of keys and values it loads (`tile`), the state carried by its loop (`St`), the state the loop starts from
  (`start`, after the diagonal tile and the tile before it), one trip (`trip`), and the trips still to run (`trips`).
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody

@[expose] public section

noncomputable section

namespace Cert.KernelIdeal.SB

open Cert.KernelIdeal Cert.KernelIdeal.Gen
open Idealize.ShloMosaic Idealize.ShloMosaic.TcCoe
open Idealize.SL Idealize.SL.Sem

variable {F : FTy → Type} [FloatOps F] [Named F]

/-- The two constants the idealized program names. -/
def deadC : F .f32 := Named.named κ "dead" 0xC3200000#32
def log2eC : F .f32 := Named.named κ "log2e" 0x3FB8AA3B#32

/-- The loop's state: the counter, the flag, and per head the accumulator and the carried sum. -/
abbrev St (F : FTy → Type) : Type :=
  BitVec 32 × BitVec 1 × FVec F S256x128 .f32 × FVec F S256x1 .f32 × FVec F S256x128 .f32 × FVec F S256x1 .f32
    × FVec F S256x128 .f32 × FVec F S256x1 .f32 × FVec F S256x128 .f32 × FVec F S256x1 .f32

/-- Tile `n` (256 rows) of a block of 8192 rows. -/
def tile (d : Vec F S1x8192x256 .bf16) (n : ℕ) : Vec F S1x256x256 .bf16 :=
  fun x => d fun
    | 0 => x 0
    | 1 => (⟨(n * 256 + (x 1).val) % 8192, Nat.mod_lt _ (by decide)⟩ : Fin 8192)
    | 2 => x 2

/-- The flag computed at the end of a trip from the largest carried sum. -/
def aliveOf (v : FVec F S1x1x1 .f32) : BitVec 1 := Scalar.cmpf .ogt (k0_pay10 v) deadC

/-- The loop's state on entry, from the query block, the table, and the two tiles of keys and of values. -/
def start (a2 : BitVec 32) (v0 : Vec F S1x256x256 .bf16) (v2 : Vec F S512x256 .bf16) (v36 v39 v197 v200 : Vec F S1x256x256 .bf16) : St F :=
  let v10 := k0_pay13 v0
  let v16 := k0_pay14 v0
  let v21 := k0_pay15 v0
  let v27 := k0_pay16 v0
  let v30 := k0_pay17 (F := F)
  let v31 := k0_pay18 (F := F)
  let v34 := k0_pay19
  let v37 := k0_pay20 v36
  let v40 := k0_pay21 v39
  let v42 := k0_pay22 v10 v37
  let v61 := k0_pay23 v10 v34 v37
  let v63 := k0_pay24 v16 v37
  let v82 := k0_pay25 v16 v34 v37
  let v84 := k0_pay26 v21 v37
  let v105 := k0_pay27 v27 v37
  let v125 := k0_pay28 v2 v61
  let v126 := k0_pay29 v2 v82
  let v127 := k0_pay30 v2 v34 v84
  let v128 := k0_pay31 v2 v27 v34 v37
  let v129 := k0_pay32 v2 v42 v61
  let v139 := k0_pay33 v30 v31 v34 v40 v129
  let v141 := k0_pay34 v31 v125
  let v152 := k0_pay35 v30 v31 v34 v40 v63 v126
  let v154 := k0_pay36 v31 v126
  let v165 := k0_pay37 v30 v31 v34 v40 v84 v127
  let v167 := k0_pay38 v31 v127
  let v178 := k0_pay39 v30 v31 v34 v40 v105 v128
  let v180 := k0_pay40 v31 v128
  let v181 := Scalar.cmpi .sgt a2 0#32
  let v184 := k0_pay42 a2 v141 0#32
  let v186 := k0_pay43 a2 v154 0#32
  let v188 := k0_pay44 a2 v167 0#32
  let v190 := k0_pay45 a2 v180 0#32
  let v198 := k0_pay46 v197
  let v201 := k0_pay47 v200
  let v203 := k0_pay48 v10 v197
  let v220 := k0_pay49 v10 v197
  let v222 := k0_pay50 v16 v197
  let v223 := k0_pay51 (F := F)
  let v239 := k0_pay52 v222 v223
  let v241 := k0_pay53 v21 v198
  let v258 := k0_pay54 v21 v198
  let v260 := k0_pay55 v27 v198
  let v262 := k0_pay56 v27 v198
  let v269 := k0_pay57 v27 v198
  let v270 := k0_pay58 (F := F)
  let v281 := k0_pay62 v2 v262 v269 v270
  let v290 := k0_pay63 v2 v139 v184 v201 v203 v220
  let v292 := k0_pay64 v2 v184 v220
  let v301 := k0_pay65 v2 v152 v186 v201 v222 v239
  let v303 := k0_pay66 v2 v186 v239
  let v312 := k0_pay67 v2 v165 v188 v201 v241 v258
  let v314 := k0_pay68 v2 v188 v258
  let v322 := k0_pay69 v2 v190 v201 v260 v262 v269 v270
  (1#32, Scalar.cmpf .ogt (k0_pay6 v141 v154 v167 v180 v181 v190 v281 v292 v303 v314) deadC,
    v290, k0_pay2 v141 v181 v292, v301, k0_pay3 v154 v181 v303, v312, k0_pay4 v167 v181 v314, k0_pay1 v178 v322, k0_pay5 v180 v181 v190 v281)

/-- One trip of the loop, on its two tiles. -/
def trip (v10 v16 v21 v27 : FVec F S256x128 .bf16) (v2 : FVec F S512x256 .bf16) (v358 v361 : Vec F S1x256x256 .bf16) (s : St F) : St F :=
  let arg8 := s.1
  let arg10 := s.2.2.1
  let arg11 := s.2.2.2.1
  let arg12 := s.2.2.2.2.1
  let arg13 := s.2.2.2.2.2.1
  let arg14 := s.2.2.2.2.2.2.1
  let arg15 := s.2.2.2.2.2.2.2.1
  let arg16 := s.2.2.2.2.2.2.2.2.1
  let arg17 := s.2.2.2.2.2.2.2.2.2
  let v359 := k0_pay70 v358
  let v362 := k0_pay71 v361
  let v364 := k0_pay72 v10 v358
  let v381 := k0_pay73 v10 v358
  let v383 := k0_pay74 v16 v358
  let v385 := k0_pay75 v16 v358
  let v392 := k0_pay76 v16 v358
  let v393 := k0_pay77 (F := F)
  let cst_126 : FVec F S256x256 .f32 := constant S256x256 .f32 0x00000000#32
  let v402 := k0_pay78 v21 v359
  let v419 := k0_pay79 v21 v359
  let v421 := k0_pay80 v27 v359
  let v438 := k0_pay81 v27 v359
  let v439 := k0_pay82 v2 v381
  let v440 := k0_pay83 v2 v385 v392 v393
  (Scalar.addi arg8 1#32, Scalar.cmpf .ogt (k0_pay10 (k0_pay94 v2 arg11 arg13 arg15 arg17 v419 v438 v439 v440 cst_126)) deadC,
    k0_pay86 arg10 arg11 v362 v364 v439, k0_pay87 arg11 v439, k0_pay88 arg12 arg13 v362 v383 v440, k0_pay89 arg13 v440,
    k0_pay90 v2 arg14 arg15 v362 v402 v419 cst_126, k0_pay91 v2 arg15 v419 cst_126, k0_pay92 v2 arg16 arg17 v362 v421 v438, k0_pay93 v2 arg17 v438)

/-- `k` trips still to run, the next one on tile `k - 1`: they run while the flag is up. -/
def trips (v10 v16 v21 v27 : FVec F S256x128 .bf16) (v2 : FVec F S512x256 .bf16) (d4 d5 : Vec F S1x8192x256 .bf16) : ℕ → St F → St F
  | 0, s => s
  | k + 1, s => if s.2.1 = 1#1 then trips v10 v16 v21 v27 v2 d4 d5 k (trip v10 v16 v21 v27 v2 (tile d4 k) (tile d5 k) s) else s

/-- What the point's two stores leave, from its four input blocks: the state after the loop. -/
def fin (n : ℕ) (v0 : Vec F S1x256x256 .bf16) (v2 : Vec F S512x256 .bf16) (d4 d5 : Vec F S1x8192x256 .bf16) : St F :=
  trips (k0_pay13 v0) (k0_pay14 v0) (k0_pay15 v0) (k0_pay16 v0) v2 d4 d5 (n - 1)
    (start (BitVec.ofNat 32 n) v0 v2 (tile d4 n) (tile d5 n) (tile d4 (n - 1)) (tile d5 (n - 1)))

/-! ## The loads are the tiles -/

theorem ld_tile (d : Vec F S1x8192x256 .bf16) (off : Fin 3 → ℕ) (n : ℕ) (hn : n < 32) (h : off = ![0, n * 256, 0])
    (inb : ∀ a, off a + S1x256x256.size a ≤ S1x8192x256.size a) :
    View.ld d (Rect.unit (s := S1x8192x256) off S1x256x256.size inb) = tile d n := by
  subst h
  funext x
  unfold View.ld tile
  congr 1
  funext a
  have h1 : (x 1).val < 256 := (x 1).isLt
  fin_cases a
  · apply Fin.ext; show 0 + 1 * (x 0).val = _; show _ = (x 0).val; omega
  · apply Fin.ext; show n * 256 + 1 * (x 1).val = (n * 256 + (x 1).val) % 8192
    rw [Nat.mod_eq_of_lt (by omega)]; omega
  · apply Fin.ext; show 0 + 1 * (x 2).val = (x 2).val; omega

theorem off1_eq (i : grid0.Coords) : k0_off1 i = ![0, (i 2).val * 256, 0] := by
  have h : ∀ n : Fin 32, (Scalar.indexCast (Scalar.muli (BitVec.ofNat 32 n.val) 256#32) : BitVec 32).toNat = n.val * 256 := by decide +kernel
  exact congrArg (fun k => (![0, k, 0] : Fin 3 → ℕ)) (h (i 2))

theorem off2_eq (i : grid0.Coords) : k0_off2 i = ![0, ((i 2).val - 1) * 256, 0] := by
  have h : ∀ n : Fin 32, (Scalar.indexCast (Scalar.muli (Scalar.maxsi (Scalar.subi (Scalar.subi (BitVec.ofNat 32 n.val) 1#32) 0#32) 0#32) 256#32) : BitVec 32).toNat
      = (n.val - 1) * 256 := by decide +kernel
  exact congrArg (fun k => (![0, k, 0] : Fin 3 → ℕ)) (h (i 2))

theorem word3 : ∀ n j : Fin 32, (Scalar.muli (Scalar.maxsi (Scalar.subi (Scalar.subi (BitVec.ofNat 32 n.val) 1#32) (BitVec.ofNat 32 j.val)) 0#32) 256#32 : BitVec 32).toNat
      = (n.val - 1 - j.val) * 256 := by decide +kernel

theorem off3_eq (i : grid0.Coords) (j : ℕ) (hj : j < 32) : k0_off3 i (BitVec.ofNat 32 j) = ![0, ((i 2).val - 1 - j) * 256, 0] :=
  congrArg (fun k => (![0, k, 0] : Fin 3 → ℕ)) (word3 (i 2) ⟨j, hj⟩)

theorem chk_of_lt (i : grid0.Coords) (j : ℕ) (hj : j < 32) : k0_chk1 i (BitVec.ofNat 32 j) := by
  have h2 : (i 2).val < 32 := (i 2).isLt
  refine ⟨?_, ?_⟩
  · have : (k0_mult3 i (BitVec.ofNat 32 j)).toNat = ((i 2).val - 1 - j) * 256 := word3 (i 2) ⟨j, hj⟩
    rw [this]; exact Dvd.intro_left _ rfl
  · rw [off3_eq i j hj]; intro a; fin_cases a
    · show 0 + 1 ≤ 1; omega
    · show ((i 2).val - 1 - j) * 256 + 256 ≤ 8192; omega
    · show 0 + 256 ≤ 256; omega

theorem test_lt : ∀ n j : Fin 32, (Scalar.cmpi .slt (BitVec.ofNat 32 j.val) (BitVec.ofNat 32 n.val) : BitVec 1) = if j < n then 1#1 else 0#1 := by decide +kernel

theorem addi_one (j : ℕ) : (Scalar.addi (BitVec.ofNat 32 j) 1#32 : BitVec 32) = BitVec.ofNat 32 (j + 1) := by
  show BitVec.ofNat 32 j + BitVec.ofNat 32 1 = _
  rw [← BitVec.ofNat_add]

end Cert.KernelIdeal.SB

end
-- ==== Proof.KI.Body.lean ====
/-
  The kernel's body at one grid point: run from whole staging memrefs at any contents, it ends with the inputs as they
  were and the two halves of the result's block stored. The loop is a label that calls itself; it is met by induction on
  the trips still to run (`loop_le`), its counter being `n - k` with `k` trips to run at grid row `n`.
-/
module

public import proofs.«01_k».proof.Proof.KI.Model
public import Idealize.ShloMosaic.Lib.Tactic

@[expose] public section

noncomputable section

namespace Cert.KernelIdeal.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The trips still to run, as a natural number. -/
abbrev 𝒱₀ : Variants := Variants.nat

section Label

variable (c : Dev nD) (i : grid0.Coords) (arg4 : Memref sig .tc .vmem S1x8192x256 .bf16) (harg4 : arg4.IsWhole)
  (arg5 : Memref sig .tc .vmem S1x8192x256 .bf16) (harg5 : arg5.IsWhole)
  (v11 v17 v22 v28 : FVec F S256x128 .bf16) (v3 : FVec F S512x256 .bf16)
  (f4 : Buf (Elt F) (arg4.view.loc (c : Thread nD τ))) (f5 : Buf (Elt F) (arg5.view.loc (c : Thread nD τ)))

/-- The two blocks the loop reads, held whole. -/
def held : sProp 𝕄 :=
  iprop((arg4.view.loc (c : Thread nD τ) ↦[arg4.view.set]{fullShare} f4) ∗ (arg5.view.loc (c : Thread nD τ) ↦[arg5.view.set]{fullShare} f5))

/-- The loop from state `s` with `k` trips to run: it keeps the two blocks and returns the state after the trips. -/
def loopSpec (k : ℕ) (s : St F) : sWPT 𝕄 (St F) := do
  sWPT.consume (held c arg4 arg5 f4 f5)
  sWPT.produce (held c arg4 arg5 f4 f5)
  pure (trips v11 v17 v22 v28 v3 (arg4.view.read (Elt F) f4) (arg5.view.read (Elt F) f5) k s)

theorem loopSpec_apply (k : ℕ) (s : St F) (K : St F → sProp 𝕄) :
    loopSpec c arg4 arg5 v11 v17 v22 v28 v3 f4 f5 k s K
      = iprop(held c arg4 arg5 f4 f5 ∗ (held c arg4 arg5 f4 f5 -∗ K (trips v11 v17 v22 v28 v3 (arg4.view.read (Elt F) f4) (arg5.view.read (Elt F) f5) k s))) := rfl

theorem loop_le (E : Set ℕ) :
    ∀ k j, 1 ≤ j → j + k = max 1 (i 2).val → ∀ (b : BitVec 1) (r : FVec F S256x128 .f32 × FVec F S256x1 .f32 × FVec F S256x128 .f32 × FVec F S256x1 .f32
        × FVec F S256x128 .f32 × FVec F S256x1 .f32 × FVec F S256x128 .f32 × FVec F S256x1 .f32) (K : St F → sProp 𝕄),
      loopSpec c arg4 arg5 v11 v17 v22 v28 v3 f4 f5 k (BitVec.ofNat 32 j, b, r) K
      ⊢ wp frame (wpE (defs₀ (F := F)) 𝒱₀ (c : Thread nD τ) (some k)) E
          (defs₀ (F := F) .tc 1 ⟨i, arg4, harg4, arg5, harg5, v11, v17, v22, v28, v3, BitVec.ofNat 32 j, b, r.1, r.2.1, r.2.2.1, r.2.2.2.1, r.2.2.2.2.1,
            r.2.2.2.2.2.1, r.2.2.2.2.2.2.1, r.2.2.2.2.2.2.2⟩) K := by
  have h2 : (i 2).val < 32 := (i 2).isLt
  intro k
  induction k with
  | zero =>
    intro j hj1 hj b r K
    obtain ⟨r1, r2, r3, r4, r5, r6, r7, r8⟩ := r
    rw [loopSpec_apply, trips]
    show _ ⊢ wp frame (wpE (defs₀ (F := F)) 𝒱₀ (c : Thread nD τ) (some 0)) E
      (cc0_while1 i arg4 harg4 arg5 harg5 v11 v17 v22 v28 v3 (BitVec.ofNat 32 j) b r1 r2 r3 r4 r5 r6 r7 r8) K
    rw [cc0_while1_eq_skeleton]; unfold cc0_while1_skel
    have ht : (Scalar.cmpi .slt (BitVec.ofNat 32 j) (BitVec.ofNat 32 (i 2).val) : BitVec 1) = 0#1 := by
      have := test_lt (i 2) ⟨j, by omega⟩
      rw [this, if_neg]; intro h; have : j < (i 2).val := h; omega
    have htest : ¬ (Scalar.andi (Scalar.cmpi .slt (BitVec.ofNat 32 j) (BitVec.ofNat 32 (i 2).val)) b : BitVec 1) = 1#1 := by
      rw [ht]; revert b; decide
    simp only [htest, ↓reduceIte, Prog.pure_eq_ret]
    iintro ⟨H, Hk⟩
    rw [wp_ret]; imodintro
    iapply Hk
    iexact H
  | succ k ih =>
    intro j hj1 hj b r K
    obtain ⟨r1, r2, r3, r4, r5, r6, r7, r8⟩ := r
    have hjn : j < (i 2).val := by omega
    rw [loopSpec_apply]
    show _ ⊢ wp frame (wpE (defs₀ (F := F)) 𝒱₀ (c : Thread nD τ) (some (k + 1))) E
      (cc0_while1 i arg4 harg4 arg5 harg5 v11 v17 v22 v28 v3 (BitVec.ofNat 32 j) b r1 r2 r3 r4 r5 r6 r7 r8) K
    rw [cc0_while1_eq_skeleton]; unfold cc0_while1_skel
    have ht : (Scalar.cmpi .slt (BitVec.ofNat 32 j) (BitVec.ofNat 32 (i 2).val) : BitVec 1) = 1#1 := by
      have := test_lt (i 2) ⟨j, by omega⟩
      rw [this, if_pos]; exact hjn
    have htest : (Scalar.andi (Scalar.cmpi .slt (BitVec.ofNat 32 j) (BitVec.ofNat 32 (i 2).val)) b : BitVec 1) = b := by
      rw [ht]; revert b; decide
    simp only [htest]
    by_cases hb : b = 1#1
    · simp only [hb, ↓reduceIte, k0_part8_eq_skeleton, k0_part9_eq_skeleton, k0_part10_eq_skeleton]
      unfold k0_part8_skel k0_part9_skel k0_part10_skel
      simp only [Prog.lift, Prog.bind_op, Prog.bind_ret, Prog.pure_eq_ret]
      have e8 := off3_eq i j (by omega)
      unfold held
      iintro ⟨⟨H4, H5⟩, Hk⟩
      iapply (wp_assume 𝒱₀ (c : Thread nD τ) (some (k + 1)) E (chk_of_lt i j (by omega)))
      iapply (wp_load 𝒱₀ (c : Thread nD τ) (some (k + 1)) E (m := arg4) (arg4.view.setOn_subset_set _)) $$ H4; iintro H4
      iapply (wp_load 𝒱₀ (c : Thread nD τ) (some (k + 1)) E (m := arg5) (arg5.view.setOn_subset_set _)) $$ H5; iintro H5
      simp only [View.readAt_eq_ld, ld_tile _ _ _ (show (i 2).val - 1 - j < 32 by omega) e8]
      have hk : (i 2).val - 1 - j = k := by omega
      rw [hk, addi_one]
      let s' : St F := trip v11 v17 v22 v28 v3 (tile (arg4.view.read (Elt F) f4) k) (tile (arg5.view.read (Elt F) f5) k)
        (BitVec.ofNat 32 j, 1#1, r1, r2, r3, r4, r5, r6, r7, r8)
      have e : trips v11 v17 v22 v28 v3 (arg4.view.read (Elt F) f4) (arg5.view.read (Elt F) f5) (k + 1)
            (BitVec.ofNat 32 j, 1#1, r1, r2, r3, r4, r5, r6, r7, r8)
          = trips v11 v17 v22 v28 v3 (arg4.view.read (Elt F) f4) (arg5.view.read (Elt F) f5) k (BitVec.ofNat 32 (j + 1), s'.2.1, s'.2.2) := by
        have h1 : s'.1 = BitVec.ofNat 32 (j + 1) := addi_one j
        rw [trips, if_pos rfl, ← h1]
      rw [e]
      iapply (wp_call_spec 𝒱₀ (c : Thread nD τ) (some (k + 1)) E (loopSpec c arg4 arg5 v11 v17 v22 v28 v3 f4 f5 k (BitVec.ofNat 32 (j + 1), s'.2.1, s'.2.2)) k
        (fun u hu => by cases hu; exact Nat.lt_succ_self k)
        (ih (j + 1) (by omega) (by omega) s'.2.1 s'.2.2))
      rw [loopSpec_apply]; unfold held
      isplitl [H4 H5]
      · isplitl [H4]; · iexact H4
        iexact H5
      iintro ⟨H4, H5⟩
      rw [wp_ret]; imodintro
      iapply Hk
      isplitl [H4]; · iexact H4
      iexact H5
    · simp only [hb, ↓reduceIte, Prog.pure_eq_ret]
      iintro ⟨H, Hk⟩
      rw [wp_ret]; imodintro
      have e : trips v11 v17 v22 v28 v3 (arg4.view.read (Elt F) f4) (arg5.view.read (Elt F) f5) (k + 1) (BitVec.ofNat 32 j, b, r1, r2, r3, r4, r5, r6, r7, r8)
          = (BitVec.ofNat 32 j, b, r1, r2, r3, r4, r5, r6, r7, r8) := by
        rw [trips, if_neg hb]
      rw [e]
      iapply Hk
      iexact H

end Label

end Cert.KernelIdeal.SB

end
-- ==== Proof.KI.Run.lean ====
/-
  The run of the stick-breaking program: the body's triple at every grid point (`sound_body`), the launch (`run_main`),
  what it leaves — the arguments as they were, every semaphore at zero, the result array written block by block.
-/
module

public import proofs.«01_k».proof.Proof.KI.Body
public import Idealize.ShloMosaic.Lib.Ring

@[expose] public section

noncomputable section

namespace Cert.KernelIdeal.SB

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

/-! ## The body -/

/-- The two stores of a point, the last first. -/
def pieces (s : St F) : List (View.Piece (Elt F) S1x256x256 .bf16) :=
  [⟨Rect.unit (s := S1x256x256) ![0, 0, 128] S1x256x128.size inb_S1x256x256_S1x256x128_0_0_128, k0_pay9 s.2.2.2.2.2.2.1 s.2.2.2.2.2.2.2.2.1⟩,
   ⟨Rect.unit (s := S1x256x256) ![0, 0, 0] S1x256x128.size inb_S1x256x256_S1x256x128_0_0_0, k0_pay8 s.2.2.1 s.2.2.2.2.1⟩]

/-- The block a point writes. -/
def blockOut (s : St F) : Vec F S1x256x256 .bf16 := View.canon (pieces s)

theorem pieces_cover (s : St F) : ∀ y, ∃ p ∈ pieces s, y ∈ p.1.set :=
  View.cover_of_tiledL (pieces s) S1x256x128.size rfl

theorem ld_whole3 {s : Shape} {e : EltTy} (d : Vec F s e) (off : Fin s.rank → ℕ) (h : ∀ a, off a = 0)
    (inb : ∀ a, off a + s.size a ≤ s.size a) : View.ld d (Rect.unit (s := s) off s.size inb) = d := by
  funext x
  unfold View.ld
  congr 1
  funext a
  apply Fin.ext
  show off a + 1 * (x a).val = (x a).val
  rw [h a]; omega

section Point

variable (c : Dev nD) (i : grid0.Coords) (arg3 : Memref sig .tc .vmem S1x256x256 .bf16) (harg3 : arg3.IsWhole)
  (arg4 : Memref sig .tc .vmem S1x8192x256 .bf16) (harg4 : arg4.IsWhole)
  (arg5 : Memref sig .tc .vmem S1x8192x256 .bf16) (harg5 : arg5.IsWhole)
  (arg6 : Memref sig .tc .vmem S512x256 .bf16) (harg6 : arg6.IsWhole)
  (arg7 : Memref sig .tc .vmem S1x256x256 .bf16) (harg7 : arg7.IsWhole)
  (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ)))
  (f7 : Buf (Elt F) (arg7.view.loc (c : Thread nD τ)))

/-- The state the point ends its loop with. -/
def pt : St F :=
  fin (i 2).val (arg3.view.read (Elt F) f3) (arg6.view.read (Elt F) f6) (arg4.view.read (Elt F) f4) (arg5.view.read (Elt F) f5)

theorem fin_congr (n : ℕ) {v0 v0' : Vec F S1x256x256 .bf16} {v2 v2' : Vec F S512x256 .bf16} {d4 d4' d5 d5' : Vec F S1x8192x256 .bf16}
    (h0 : v0 = v0') (h2 : v2 = v2') (h4 : d4 = d4') (h5 : d5 = d5') : fin n v0 v2 d4 d5 = fin n v0' v2' d4' d5' := by
  subst h0 h2 h4 h5; rfl

set_option cleanup.letToHave false in
set_option maxHeartbeats 1000000 in
theorem point_triple (E : Set ℕ) (K : PUnit → sProp 𝕄) :
    iprop((arg3.view.loc (c : Thread nD τ) ↦[arg3.view.set]{fullShare} f3) ∗ (arg4.view.loc (c : Thread nD τ) ↦[arg4.view.set]{fullShare} f4)
      ∗ (arg5.view.loc (c : Thread nD τ) ↦[arg5.view.set]{fullShare} f5) ∗ (arg6.view.loc (c : Thread nD τ) ↦[arg6.view.set]{fullShare} f6)
      ∗ (arg7.view.loc (c : Thread nD τ) ↦[arg7.view.set]{fullShare} f7)
      ∗ (((arg3.view.loc (c : Thread nD τ) ↦[arg3.view.set]{fullShare} f3) ∗ (arg4.view.loc (c : Thread nD τ) ↦[arg4.view.set]{fullShare} f4)
        ∗ (arg5.view.loc (c : Thread nD τ) ↦[arg5.view.set]{fullShare} f5) ∗ (arg6.view.loc (c : Thread nD τ) ↦[arg6.view.set]{fullShare} f6)
        ∗ (arg7.view.loc (c : Thread nD τ) ↦[arg7.view.set]{fullShare} arg7.view.writes (Elt F) f7 (pieces (pt c i arg3 arg4 arg5 arg6 f3 f4 f5 f6))))
        -∗ K ⟨⟩))
    ⊢ wp frame (wpE (defs₀ (F := F)) 𝒱₀ (c : Thread nD τ) none) E
        (cc0_stick_breaking i arg3 harg3 arg4 harg4 arg5 harg5 arg6 harg6 arg7 harg7) K := by
  have h2 : (i 2).val < 32 := (i 2).isLt
  rw [cc0_stick_breaking_eq_skeleton]; unfold cc0_stick_breaking_skel
  simp only [k0_part1_eq_skeleton, k0_part2_eq_skeleton, k0_part3_eq_skeleton, k0_part4_eq_skeleton, k0_part5_eq_skeleton,
    k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret]
  iintro ⟨H3, H4, H5, H6, H7, Hk⟩
  iapply (wp_load 𝒱₀ (c : Thread nD τ) none E (m := arg3) (arg3.view.setOn_subset_set _)) $$ H3; iintro H3
  iapply (wp_load 𝒱₀ (c : Thread nD τ) none E (m := arg6) (arg6.view.setOn_subset_set _)) $$ H6; iintro H6
  iapply (wp_load 𝒱₀ (c : Thread nD τ) none E (m := arg4) (arg4.view.setOn_subset_set _)) $$ H4; iintro H4
  iapply (wp_load 𝒱₀ (c : Thread nD τ) none E (m := arg5) (arg5.view.setOn_subset_set _)) $$ H5; iintro H5
  iapply (wp_load 𝒱₀ (c : Thread nD τ) none E (m := arg4) (arg4.view.setOn_subset_set _)) $$ H4; iintro H4
  iapply (wp_load 𝒱₀ (c : Thread nD τ) none E (m := arg5) (arg5.view.setOn_subset_set _)) $$ H5; iintro H5
  simp only [View.readAt_eq_ld]
  rw [ld_whole3 (arg3.view.read (Elt F) f3) _ (by intro a; fin_cases a <;> rfl), ld_whole3 (arg6.view.read (Elt F) f6) _ (by intro a; fin_cases a <;> rfl)]
  simp only [ld_tile _ _ _ (show (i 2).val < 32 by omega) (off1_eq i), ld_tile _ _ _ (show (i 2).val - 1 < 32 by omega) (off2_eq i)]
  let s : St F := start (BitVec.ofNat 32 (i 2).val) (arg3.view.read (Elt F) f3) (arg6.view.read (Elt F) f6) (tile (arg4.view.read (Elt F) f4) (i 2).val)
    (tile (arg5.view.read (Elt F) f5) (i 2).val) (tile (arg4.view.read (Elt F) f4) ((i 2).val - 1)) (tile (arg5.view.read (Elt F) f5) ((i 2).val - 1))
  iapply (wp_call_spec 𝒱₀ (c : Thread nD τ) none E
    (loopSpec c arg4 arg5 (k0_pay13 (arg3.view.read (Elt F) f3)) (k0_pay14 (arg3.view.read (Elt F) f3)) (k0_pay15 (arg3.view.read (Elt F) f3))
      (k0_pay16 (arg3.view.read (Elt F) f3)) (arg6.view.read (Elt F) f6) f4 f5 ((i 2).val - 1) s) ((i 2).val - 1)
    (fun u hu => nomatch hu)
    (loop_le c i arg4 harg4 arg5 harg5 _ _ _ _ _ f4 f5 E ((i 2).val - 1) 1 (Nat.le_refl 1) (by omega) s.2.1 s.2.2))
  rw [loopSpec_apply]; unfold held
  isplitl [H4 H5]
  · isplitl [H4]; · iexact H4
    iexact H5
  have hpt : pt c i arg3 arg4 arg5 arg6 f3 f4 f5 f6 = trips (k0_pay13 (arg3.view.read (Elt F) f3)) (k0_pay14 (arg3.view.read (Elt F) f3))
      (k0_pay15 (arg3.view.read (Elt F) f3)) (k0_pay16 (arg3.view.read (Elt F) f3)) (arg6.view.read (Elt F) f6)
      (arg4.view.read (Elt F) f4) (arg5.view.read (Elt F) f5) ((i 2).val - 1) s := rfl
  rw [← hpt]
  generalize pt c i arg3 arg4 arg5 arg6 f3 f4 f5 f6 = R
  clear_value s
  iintro ⟨H4, H5⟩
  iapply (wp_load 𝒱₀ (c : Thread nD τ) none E (m := arg7) (arg7.view.setOn_subset_set _)) $$ H7; iintro H7
  iapply (wp_store 𝒱₀ (c : Thread nD τ) none E (m := arg7) (r := Rect.unit (s := S1x256x256) ![0, 0, 0] S1x256x128.size inb_S1x256x256_S1x256x128_0_0_0) (Mk := Finset.univ) (S := arg7.view.set)
    ((View.setOn_subset_set _ _).trans (View.set_slice_subset _ _))) $$ H7; iintro H7
  iapply (wp_load 𝒱₀ (c : Thread nD τ) none E (m := arg7) (arg7.view.setOn_subset_set _)) $$ H7; iintro H7
  iapply (wp_store 𝒱₀ (c : Thread nD τ) none E (m := arg7) (r := Rect.unit (s := S1x256x256) ![0, 0, 128] S1x256x128.size inb_S1x256x256_S1x256x128_0_0_128) (Mk := Finset.univ) (S := arg7.view.set)
    ((View.setOn_subset_set _ _).trans (View.set_slice_subset _ _))) $$ H7; iintro H7
  rw [wp_ret]; imodintro
  iapply Hk
  isplitl [H3]; · iexact H3
  isplitl [H4]; · iexact H4
  isplitl [H5]; · iexact H5
  isplitl [H6]; · iexact H6
  iexact H7

/-- The same, from what the memrefs read. -/
theorem point_owns (X3 : Vec F S1x256x256 .bf16) (X4 X5 : Vec F S1x8192x256 .bf16) (X6 : Vec F S512x256 .bf16) (X7 : Vec F S1x256x256 .bf16)
    (E : Set ℕ) (K : PUnit → sProp 𝕄) :
    iprop(owns (c : Thread nD τ) arg3 fullShare X3 ∗ owns (c : Thread nD τ) arg4 fullShare X4 ∗ owns (c : Thread nD τ) arg5 fullShare X5
      ∗ owns (c : Thread nD τ) arg6 fullShare X6 ∗ owns (c : Thread nD τ) arg7 fullShare X7
      ∗ ((owns (c : Thread nD τ) arg3 fullShare X3 ∗ owns (c : Thread nD τ) arg4 fullShare X4 ∗ owns (c : Thread nD τ) arg5 fullShare X5
          ∗ owns (c : Thread nD τ) arg6 fullShare X6 ∗ owns (c : Thread nD τ) arg7 fullShare (blockOut (fin (i 2).val X3 X6 X4 X5)))
        -∗ K ⟨⟩))
    ⊢ wp frame (wpE (defs₀ (F := F)) 𝒱₀ (c : Thread nD τ) none) E
        (cc0_stick_breaking i arg3 harg3 arg4 harg4 arg5 harg5 arg6 harg6 arg7 harg7) K := by
  unfold owns
  iintro ⟨⟨%f3, %e3, H3⟩, ⟨%f4, %e4, H4⟩, ⟨%f5, %e5, H5⟩, ⟨%f6, %e6, H6⟩, ⟨%f7, %e7, H7⟩, Hk⟩
  iapply (point_triple c i arg3 harg3 arg4 harg4 arg5 harg5 arg6 harg6 arg7 harg7 f3 f4 f5 f6 f7 E K)
  isplitl [H3]; · iexact H3
  isplitl [H4]; · iexact H4
  isplitl [H5]; · iexact H5
  isplitl [H6]; · iexact H6
  isplitl [H7]; · iexact H7
  iintro ⟨H3, H4, H5, H6, H7⟩
  iapply Hk
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  iexists _; isplitr
  swap; · iexact H7
  ipureintro
  refine (View.read_writes_eq_canon _ _ _ (pieces_cover _)).trans ?_
  unfold blockOut pt
  rw [e3, e4, e5, e6]

end Point

/-! ## The proof data and the obligation at every grid point -/

variable (m : (ℓ : Loc nD τ sig) → Buf (Elt F) ℓ) (ρ : Dev nD → PrngReg)

/-- What the host operations before the call leave in each buffer. -/
def V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

theorem hmain : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

section Points

attribute [local irreducible] V

/-- The block of window `w`'s array at point `t`. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The state point `t` ends with. -/
def ptAt (c : Dev nD) (t : Fin (cfg0 (F := F)).N) : St F :=
  fin (grid0.coords t 2).val (iblk m c 0 t) (iblk m c 3 t) (iblk m c 1 t) (iblk m c 2 t)

def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => blockOut (ptAt m c t)
  Φ _ := Pipeline.ΦA spec0 c
  q _ := fullShare
  owed _ := 0

theorem A_eq (c : Dev nD) (w : Fin (cfg0 (F := F)).W) : (dats m 0 c).A w = V m c (Pipeline.arrRef spec0 w) := rfl

theorem after_0 (c : Dev nD) (t) : (dats (F := F) m 0 c).after 0 t = iblk m c 0 t := rfl
theorem after_1 (c : Dev nD) (t) : (dats (F := F) m 0 c).after 1 t = iblk m c 1 t := rfl
theorem after_2 (c : Dev nD) (t) : (dats (F := F) m 0 c).after 2 t = iblk m c 2 t := rfl
theorem after_3 (c : Dev nD) (t) : (dats (F := F) m 0 c).after 3 t = iblk m c 3 t := rfl
theorem after_4 (c : Dev nD) (t) : (dats (F := F) m 0 c).after 4 t = blockOut (ptAt m c t) := by
  dsimp only [dats]; exact Eq.refl _

theorem before_0 (c : Dev nD) (t) (d) : (dats (F := F) m 0 c).before 0 t d = iblk m c 0 t :=
  Dat.before_in_eq_fetched (dat := dats m 0 c) 0 rfl (fun _ => rfl) (fun _ _ _ => rfl) (fun _ => rfl) t d
theorem before_1 (c : Dev nD) (t) (d) : (dats (F := F) m 0 c).before 1 t d = iblk m c 1 t :=
  Dat.before_in_eq_fetched (dat := dats m 0 c) 1 rfl (fun _ => rfl) (fun _ _ _ => rfl) (fun _ => rfl) t d
theorem before_2 (c : Dev nD) (t) (d) : (dats (F := F) m 0 c).before 2 t d = iblk m c 2 t :=
  Dat.before_in_eq_fetched (dat := dats m 0 c) 2 rfl (fun _ => rfl) (fun _ _ _ => rfl) (fun _ => rfl) t d
theorem before_3 (c : Dev nD) (t) (d) : (dats (F := F) m 0 c).before 3 t d = iblk m c 3 t :=
  Dat.before_in_eq_fetched (dat := dats m 0 c) 3 rfl (fun _ => rfl) (fun _ _ _ => rfl) (fun _ => rfl) t d

def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost
  rw [show (dats m 0 c).Φ t.succ = (dats m 0 c).Φ t.castSucc from rfl, after_0, after_1, after_2, after_3, after_4]
  unfold Dat.owesAt Pipeline.owesWithin
  rw [show (dats m 0 c).owed t.castSucc = 0 from rfl, show (dats m 0 c).owed t.succ = 0 from rfl]
  simp only [before_0, before_1, before_2, before_3]
  iintro ⟨HΦ, ⟨%W, -, HW⟩, ⟨%d0, H0⟩, ⟨%d1, H1⟩, ⟨%d2, H2⟩, ⟨%d3, H3⟩, ⟨%d4, H4⟩⟩
  iapply (point_owns c (grid0.coords t) _ _ _ _ _ _ _ _ _ _ (iblk m c 0 t) (iblk m c 1 t) (iblk m c 2 t) (iblk m c 3 t) _ Set.univ _)
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [HW]
  · iexists W; isplitr; · ipureintro; exact fun _ _ => Or.inl trivial
    iexact HW
  isplitl [H0]; · iexact H0
  isplitl [H1]; · iexact H1
  isplitl [H2]; · iexact H2
  isplitl [H3]; · iexact H3
  iexact H4

theorem defs₀_row (t : Fin (cfg0 (F := F)).N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) 𝒱₀ () Set.univ := fun t => by
  rw [bigSep_W0, bigSep_W0, defs₀_row]
  exact triple_restated (sound_body m c t) rfl .rfl fun _ => .rfl

end Points

/-! ## The run and the frame -/

set_option backward.isDefEq.respectTransparency.types false in
theorem run_main : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m) (hA := A_eq m) (hΦ := fun _ _ => rfl)

theorem hostOps0_writes : (hostOps0 : List (HloOp τ sig (Elt F))).map HloOp.writes
    = [main_cst, main_cst_0, main_v0, main_cst_1, main_v1, main_v2, main_v3, main_v4, main_v5, main_v6].map fun w => {Proc.devRef (τ := τ) .tc w} := rfl

theorem V_arg0 (c : Dev nD) : V m c main_arg0 = m ((c : Thread nD τ).loc main_arg0) :=
  StableHlo.after_of_writes_sub _ _ (StableHlo.forall_writes_sub_of_map hostOps0_writes) (by decide)
theorem V_arg1 (c : Dev nD) : V m c main_arg1 = m ((c : Thread nD τ).loc main_arg1) :=
  StableHlo.after_of_writes_sub _ _ (StableHlo.forall_writes_sub_of_map hostOps0_writes) (by decide)
theorem V_arg2 (c : Dev nD) : V m c main_arg2 = m ((c : Thread nD τ).loc main_arg2) :=
  StableHlo.after_of_writes_sub _ _ (StableHlo.forall_writes_sub_of_map hostOps0_writes) (by decide)

/-- The run: the result array as the proof data leave it, the arguments as they were, every semaphore at zero. -/
theorem run : θ_run defs (onTc (τ := τ) (main (F := F))) ⟨m, fun _ => 0, ρ⟩ (fun r => (∀ c : Dev nD,
      r.2.mem ((c.tc : Thread nD τ).loc main_v7) = (dats m 0 c).arrAt 4 (cfg0 (F := F)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c).1 4,
      ((h.1 c).2 main_arg0 (Pipeline.mem_restRefs_of main_arg0 (by decide) (show ∀ w, (spec0 w).arr.view.ref ≠ main_arg0 by decide))).trans (V_arg0 m c),
      ((h.1 c).2 main_arg1 (Pipeline.mem_restRefs_of main_arg1 (by decide) (show ∀ w, (spec0 w).arr.view.ref ≠ main_arg1 by decide))).trans (V_arg1 m c),
      ((h.1 c).2 main_arg2 (Pipeline.mem_restRefs_of main_arg2 (by decide) (show ∀ w, (spec0 w).arr.view.ref ≠ main_arg2 by decide))).trans (V_arg2 m c)⟩, h.2⟩) (run_main m ρ)

end Cert.KernelIdeal.SB

end
-- ==== Proof.KI.Head.lean ====
/-
  The stick-breaking kernel treats four heads at a time, each by the same steps. This file writes those steps once,
  for one head and one tile of 256 keys, and shows that the loop's starting state and one trip of it are four copies.
-/
module

public import proofs.«01_k».proof.Proof.KI.Model

@[expose] public section

set_option maxRecDepth 16384

noncomputable section

namespace Cert.KernelIdeal.SB

open Cert.KernelIdeal Cert.KernelIdeal.Gen
open Idealize.ShloMosaic Idealize.ShloMosaic.TcCoe
open Idealize.SL Idealize.SL.Sem

variable {F : FTy → Type} [FloatOps F] [Named F]

/-- The two lane pairs of a tile. -/
def lo (d : Vec F S1x256x256 .bf16) : FVec F S256x128 .bf16 :=
  extractStridedSlice S256x128 ![0, 0] (shapeCast S256x256 d shapeCasts_S1x256x256_S256x256) slices_S256x256_o0_0_S256x128
def hi (d : Vec F S1x256x256 .bf16) : FVec F S256x128 .bf16 :=
  extractStridedSlice S256x128 ![0, 128] (shapeCast S256x256 d shapeCasts_S1x256x256_S256x256) slices_S256x256_o0_128_S256x128

/-- The zero block. -/
def z256 : FVec F S256x256 .f32 := broadcast S256x256 (Scalar.ofBits .f32 0x00000000#32)

/-- The scores of a tile: queries against keys. -/
def zT (q k : FVec F S256x128 .bf16) : FVec F S256x256 .f32 :=
  matmul dot_S256x128_S256x128_S256x256_1_1_0_0_n_n none q k (constant S256x256 .f32 0x00000000#32)

/-- The base-2 softplus of the scores. -/
def spT (z : FVec F S256x256 .f32) : FVec F S256x256 .f32 :=
  addf (maximumf z z256)
    (mulf (log (addf (broadcast S256x256 (Scalar.ofBits .f32 0x3F800000#32)) (exp2 (subf z256 (absf z))))) (broadcast S256x256 log2eC))

/-- A block beside what rounding it to half width left over. -/
def hilo (w : FVec F S256x256 .f32) : FVec F S256x512 .bf16 :=
  concatenate S256x512 1 [⟨S256x256, truncf .bf16 w bitsLt_bf16_f32⟩,
    ⟨S256x256, truncf .bf16 (subf w (extf .f32 (truncf .bf16 w bitsLt_bf16_f32) bitsLt_bf16_f32)) bitsLt_bf16_f32⟩]
    concatenates_S256x256_S256x256_S256x512_d1

/-- The running sums of a tile, by the product with the table. -/
def laterT (u : FVec F S512x256 .bf16) (w : FVec F S256x256 .f32) : FVec F S256x256 .f32 :=
  matmul dot_S256x512_S512x256_S256x256_1_0_0_1_n_n none (hilo w) u (constant S256x256 .f32 0x00000000#32)

/-- The accumulator after a tile of weights `p`. -/
def accT (a : FVec F S256x128 .f32) (c : FVec F S256x1 .f32) (p : FVec F S256x256 .f32) (v : FVec F S256x128 .bf16) : FVec F S256x128 .f32 :=
  addf a (mulf (broadcastTo S256x128 (exp2 c) broadcasts_S256x1_S256x128)
    (matmul dot_S256x256_S256x128_S256x128_1_0_0_1_n_n none (truncf .bf16 p bitsLt_bf16_f32) v (constant S256x128 .f32 0x00000000#32)))

/-- The carried sum after a tile. -/
def cT (c : FVec F S256x1 .f32) (l : FVec F S256x256 .f32) : FVec F S256x1 .f32 :=
  addf c (extractStridedSlice S256x1 ![0, 0] l slices_S256x256_o0_0_S256x1)

/-- One head's sums and weights on a whole tile, and on the diagonal tile. -/
def laterF (u : FVec F S512x256 .bf16) (q k : FVec F S256x128 .bf16) : FVec F S256x256 .f32 := laterT u (spT (zT q k))
def laterD (u : FVec F S512x256 .bf16) (q k : FVec F S256x128 .bf16) : FVec F S256x256 .f32 := laterT u (select k0_pay19 (spT (zT q k)) z256)
def accF (u : FVec F S512x256 .bf16) (q k v : FVec F S256x128 .bf16) (a : FVec F S256x128 .f32) (c : FVec F S256x1 .f32) : FVec F S256x128 .f32 :=
  accT a c (exp2 (addf (zT q k) (laterF u q k))) v
def cF (u : FVec F S512x256 .bf16) (q k : FVec F S256x128 .bf16) (c : FVec F S256x1 .f32) : FVec F S256x1 .f32 := cT c (laterF u q k)
def accD (u : FVec F S512x256 .bf16) (q k v : FVec F S256x128 .bf16) : FVec F S256x128 .f32 :=
  accT k0_pay17 k0_pay18 (select k0_pay19 (exp2 (addf (zT q k) (laterD u q k))) z256) v
def cD (u : FVec F S512x256 .bf16) (q k : FVec F S256x128 .bf16) : FVec F S256x1 .f32 := cT k0_pay18 (laterD u q k)

/-- The carried sum with which the tile before the diagonal is read, and the one kept after it. -/
def c1 (a2 : BitVec 32) (u : FVec F S512x256 .bf16) (q k : FVec F S256x128 .bf16) : FVec F S256x1 .f32 :=
  addf (cD u q k) (broadcast S256x1 (k0_pay41 (F := F) a2 0#32))
def c2 (a2 : BitVec 32) (u : FVec F S512x256 .bf16) (q k k' : FVec F S256x128 .bf16) : FVec F S256x1 .f32 :=
  Scalar.select (Scalar.cmpi .sgt a2 0#32) (cF u q k' (c1 a2 u q k)) (cD u q k)
def acc2 (a2 : BitVec 32) (u : FVec F S512x256 .bf16) (q k v k' v' : FVec F S256x128 .bf16) : FVec F S256x128 .f32 :=
  accF u q k' v' (accD u q k v) (c1 a2 u q k)

/-- The flag from the four heads' carried sums. -/
def flag (a b c d : FVec F S256x1 .f32) : BitVec 1 :=
  Scalar.cmpf .ogt (extractAt ![0, 0, 0] (shapeCast S1x1x1 (multiReduction .maximumf [1, 2] S1
    (shapeCast S1x256x1 (maximumf (maximumf (maximumf a b) c) d) shapeCasts_S256x1_S1x256x1) 0xFF800000#32 reduces_S1x256x1_S1 (.inl rfl) rfl)
    shapeCasts_S1_S1x1x1) inpos_S1x1x1_p0_0_0) deadC

theorem start_eq (a2 : BitVec 32) (v0 : Vec F S1x256x256 .bf16) (v2 : Vec F S512x256 .bf16) (v37 v40 v198 v201 : Vec F S1x256x256 .bf16) :
    start a2 v0 v2 v37 v40 v198 v201 =
      (1#32, flag (c2 a2 v2 (k0_pay13 v0) (lo v37) (lo v198)) (c2 a2 v2 (k0_pay14 v0) (lo v37) (lo v198))
          (c2 a2 v2 (k0_pay15 v0) (hi v37) (hi v198)) (c2 a2 v2 (k0_pay16 v0) (hi v37) (hi v198)),
        acc2 a2 v2 (k0_pay13 v0) (lo v37) (lo v40) (lo v198) (lo v201), c2 a2 v2 (k0_pay13 v0) (lo v37) (lo v198),
        acc2 a2 v2 (k0_pay14 v0) (lo v37) (lo v40) (lo v198) (lo v201), c2 a2 v2 (k0_pay14 v0) (lo v37) (lo v198),
        acc2 a2 v2 (k0_pay15 v0) (hi v37) (hi v40) (hi v198) (hi v201), c2 a2 v2 (k0_pay15 v0) (hi v37) (hi v198),
        acc2 a2 v2 (k0_pay16 v0) (hi v37) (hi v40) (hi v198) (hi v201), c2 a2 v2 (k0_pay16 v0) (hi v37) (hi v198)) := rfl

theorem trip_eq (q1 q2 q3 q4 : FVec F S256x128 .bf16) (u : FVec F S512x256 .bf16) (k v : Vec F S1x256x256 .bf16) (s : St F) :
    trip q1 q2 q3 q4 u k v s =
      (Scalar.addi s.1 1#32, flag (cF u q1 (lo k) s.2.2.2.1) (cF u q2 (lo k) s.2.2.2.2.2.1) (cF u q3 (hi k) s.2.2.2.2.2.2.2.1) (cF u q4 (hi k) s.2.2.2.2.2.2.2.2.2),
        accF u q1 (lo k) (lo v) s.2.2.1 s.2.2.2.1, cF u q1 (lo k) s.2.2.2.1,
        accF u q2 (lo k) (lo v) s.2.2.2.2.1 s.2.2.2.2.2.1, cF u q2 (lo k) s.2.2.2.2.2.1,
        accF u q3 (hi k) (hi v) s.2.2.2.2.2.2.1 s.2.2.2.2.2.2.2.1, cF u q3 (hi k) s.2.2.2.2.2.2.2.1,
        accF u q4 (hi k) (hi v) s.2.2.2.2.2.2.2.2.1 s.2.2.2.2.2.2.2.2.2, cF u q4 (hi k) s.2.2.2.2.2.2.2.2.2) := rfl

end Cert.KernelIdeal.SB

end
-- ==== Proof.Math.lean ====
/-
  The arithmetic of stick-breaking attention over the extended reals, apart from any program. One row has scores `Z s`
  (in base two) and values `V s` at the positions `s` before its own position `t`. A position keeps the share
  `exp2 (Z s + S s)`, where `S s` adds up minus the base-two softplus of the scores from `s` to `t`. The weighted sum
  over the positions from `a` on is built from later to earlier positions, a stretch at a time (`acc_step`).
-/
module

public import Idealize.ShloMosaic.PureOps.Ideal
public import Idealize.ShloMosaic.PureOps.Ideal.Laws

@[expose] public section

noncomputable section

namespace Cert.SBMath

open Idealize.ShloMosaic
open Finset

theorem exp2_zero : Ideal.exp2 0 = 1 := by
  show ((Real.rpow 2 0 : ℝ) : EReal) = 1
  rw [show Real.rpow 2 0 = 1 from Real.rpow_zero 2]; rfl

theorem exp2_nonneg (x : EReal) : 0 ≤ Ideal.exp2 x := by
  induction x with
  | bot => exact le_refl 0
  | top => exact le_top
  | coe x => exact EReal.coe_nonneg.2 (Real.rpow_nonneg (by norm_num) x)

theorem exp2_ne_top {x : EReal} (h : x ≠ ⊤) : Ideal.exp2 x ≠ ⊤ := by
  induction x with
  | bot => exact EReal.zero_ne_top
  | top => exact absurd rfl h
  | coe x => exact EReal.coe_ne_top _

theorem exp2_add {x y : EReal} (hx : x ≠ ⊤) (hy : y ≠ ⊤) : Ideal.exp2 (x + y) = Ideal.exp2 x * Ideal.exp2 y := by
  induction x with
  | bot => rw [EReal.bot_add]; exact (zero_mul _).symm
  | top => exact absurd rfl hx
  | coe x =>
    induction y with
    | bot => rw [EReal.add_bot]; exact (mul_zero _).symm
    | top => exact absurd rfl hy
    | coe y =>
      show ((Real.rpow 2 (x + y) : ℝ) : EReal) = ((Real.rpow 2 x : ℝ) : EReal) * ((Real.rpow 2 y : ℝ) : EReal)
      rw [← EReal.coe_mul]; exact congrArg _ (Real.rpow_add (by norm_num) x y)

/-- A factor that is neither negative nor infinite goes into a sum. -/
theorem mul_sum {ι : Type*} (s : Finset ι) (f : ι → EReal) {x : EReal} (h0 : 0 ≤ x) (ht : x ≠ ⊤) :
    x * ∑ i ∈ s, f i = ∑ i ∈ s, x * f i := by
  classical
  induction s using Finset.induction_on with
  | empty => simp
  | insert a s ha ih => rw [sum_insert ha, sum_insert ha, EReal.left_distrib_of_nonneg_of_ne_top h0 ht, ih]

/-- One over the natural logarithm of two. -/
def lam : EReal := (((Real.log 2)⁻¹ : ℝ) : EReal)

theorem log2_pos : 0 < Real.log 2 := Real.log_pos (by norm_num)
theorem lam_nonneg : 0 ≤ lam := EReal.coe_nonneg.2 (inv_nonneg.2 log2_pos.le)
theorem lam_ne_top : lam ≠ ⊤ := EReal.coe_ne_top _

/-- The base-two softplus. -/
def sp2 (z : EReal) : EReal := max z 0 + Ideal.log (1 + Ideal.exp2 (0 - max z (-z))) * lam

/-- The logarithm of one plus a nonnegative number is nonnegative. -/
theorem log_one_add_nonneg {x : EReal} (h : 0 ≤ x) : 0 ≤ Ideal.log (1 + x) := by
  induction x with
  | bot => exact absurd h (by simp)
  | top => rw [show (1 : EReal) + ⊤ = ⊤ from rfl]; exact le_top
  | coe x =>
    have hx : 0 ≤ x := EReal.coe_nonneg.1 h
    show 0 ≤ Ideal.log (((1 + x : ℝ)) : EReal)
    have : Ideal.log (((1 + x : ℝ)) : EReal) = if 1 + x ≤ 0 then ⊥ else (Real.log (1 + x) : EReal) := rfl
    rw [this, if_neg (by linarith)]
    exact EReal.coe_nonneg.2 (Real.log_nonneg (by linarith))

theorem sp2_ge (z : EReal) : max z 0 ≤ sp2 z := by
  have : 0 ≤ Ideal.log (1 + Ideal.exp2 (0 - max z (-z))) * lam :=
    EReal.mul_nonneg (log_one_add_nonneg (exp2_nonneg _)) lam_nonneg
  calc max z 0 = max z 0 + 0 := (add_zero _).symm
    _ ≤ sp2 z := by unfold sp2; gcongr

theorem sp2_nonneg (z : EReal) : 0 ≤ sp2 z := (le_max_right z 0).trans (sp2_ge z)

/-- Minus a number that is not negative infinite is not positive infinite. -/
theorem neg_sp2_le (z : EReal) : -sp2 z ≤ 0 := by simpa using sp2_nonneg z

/-! ## One row -/

section Row
variable (Z V : ℕ → EReal) (t : ℕ)

/-- Minus the softplus of the scores, added up from `a` to `t`. -/
def S (a : ℕ) : EReal := ∑ s ∈ Ico a t, -sp2 (Z s)

/-- The weighted sum of the values from `a` to `t`. -/
def acc (a : ℕ) : EReal := ∑ s ∈ Ico a t, Ideal.exp2 (Z s + S Z t s) * V s

theorem sum_neg_le (a b : ℕ) : ∑ s ∈ Ico a b, -sp2 (Z s) ≤ 0 := Finset.sum_nonpos fun s _ => neg_sp2_le (Z s)

theorem S_le (a : ℕ) : S Z t a ≤ 0 := sum_neg_le Z a t

theorem ne_top_of_le_zero {x : EReal} (h : x ≤ 0) : x ≠ ⊤ := fun e => by rw [e] at h; exact absurd h (by simp)

theorem S_step {a b : ℕ} (hab : a ≤ b) (hb : b ≤ t) : S Z t a = S Z t b + ∑ s ∈ Ico a b, -sp2 (Z s) := by
  unfold S; rw [← sum_Ico_consecutive _ hab hb, add_comm]

/-- A position's exponent is not positive infinite. -/
theorem exponent_ne_top {a b : ℕ} (h : a < b) : Z a + ∑ s ∈ Ico a b, -sp2 (Z s) ≠ ⊤ := by
  rw [sum_eq_sum_Ico_succ_bot h]
  by_cases hz : Z a = ⊤
  · have h1 : sp2 (Z a) = ⊤ := top_le_iff.1 (by have := sp2_ge (Z a); rw [hz] at this ⊢; exact (le_max_left _ _).trans this)
    rw [h1, show (-⊤ : EReal) = ⊥ from rfl, EReal.bot_add, EReal.add_bot]; exact bot_ne_top
  · have h2 : -sp2 (Z a) + ∑ s ∈ Ico (a + 1) b, -sp2 (Z s) ≤ 0 := by
      have := add_le_add (neg_sp2_le (Z a)) (sum_neg_le Z (a + 1) b); simpa using this
    exact (EReal.add_lt_top hz (ne_top_of_le_zero h2)).ne

theorem acc_step {a b : ℕ} (hab : a ≤ b) (hb : b ≤ t) :
    acc Z V t a = acc Z V t b + Ideal.exp2 (S Z t b) * ∑ s ∈ Ico a b, Ideal.exp2 (Z s + ∑ s' ∈ Ico s b, -sp2 (Z s')) * V s := by
  rw [mul_sum _ _ (exp2_nonneg _) (exp2_ne_top (ne_top_of_le_zero (S_le Z t b)))]
  unfold acc
  rw [← sum_Ico_consecutive _ hab hb, add_comm]
  congr 1
  refine sum_congr rfl fun s hs => ?_
  have hs' := Finset.mem_Ico.1 hs
  rw [S_step Z t hs'.2.le hb, ← mul_assoc, mul_comm (Ideal.exp2 (S Z t b)), ← exp2_add (exponent_ne_top Z hs'.2) (ne_top_of_le_zero (S_le Z t b)),
    add_comm (S Z t b), add_assoc]

theorem acc_self : acc Z V t t = 0 := by simp [acc]
theorem S_self : S Z t t = 0 := by simp [S]

/-- The whole of the last stretch, from the empty sum. -/
theorem acc_first (a : ℕ) : acc Z V t a = ∑ s ∈ Ico a t, Ideal.exp2 (Z s + S Z t s) * V s := rfl

/-- Once nothing of the stick is left, earlier positions add nothing. -/
theorem acc_dead {a b : ℕ} (hab : a ≤ b) (hb : b ≤ t) (h : S Z t b = ⊥) : acc Z V t a = acc Z V t b := by
  rw [acc_step Z V t hab hb, h, show Ideal.exp2 ⊥ = 0 from rfl, zero_mul, add_zero]

end Row

/-! ## Sums over the places of a stretch -/

theorem sum_tile (n : ℕ) (f : ℕ → EReal) (a s r : ℕ) (hr : r ≤ n) :
    ∑ k : Fin n, (if s ≤ k.val ∧ k.val < r then f (a + k.val) else 0) = ∑ x ∈ Ico (a + s) (a + r), f x := by
  rw [Fin.sum_univ_eq_sum_range (fun k => if s ≤ k ∧ k < r then f (a + k) else 0) n, ← sum_filter]
  rw [show (range n).filter (fun k => s ≤ k ∧ k < r) = Ico s r by ext k; simp; omega]
  rw [add_comm a s, add_comm a r, ← Finset.sum_Ico_add' f s r a]
  refine sum_congr rfl fun k _ => ?_
  rw [add_comm]

end Cert.SBMath

end
-- ==== Proof.KI.Index.lean ====
/-
  What one head's steps leave, entry by entry over the extended reals. With the scores of a row against the keys written
  `Zr` and a column of the values `Vr`, a tile of keys takes the sums `S` and `acc` of `Math.lean` from the tile's end to
  its beginning (`Good`), the diagonal tile and every other tile alike.
-/
module

public import proofs.«01_k».proof.Proof.KI.Head
public import proofs.«01_k».proof.Proof.Math
public import Idealize.ShloMosaic.Lib.Pointwise

@[expose] public section

set_option maxRecDepth 16384

noncomputable section

namespace Cert.KernelIdeal.SB

open Cert.KernelIdeal Cert.KernelIdeal.Gen Cert.SBMath
open Idealize.ShloMosaic Idealize.ShloMosaic.TcCoe Idealize.ShloMosaic.Pointwise
open Idealize.SL Idealize.SL.Sem

theorem log2eC_eq : log2eC (F := Ideal) = lam := rfl
theorem deadC_eq : deadC (F := Ideal) = ⊥ := rfl
theorem noPast_eq : (Named.named κ "no_past" 0xC61C4000#32 : Ideal .f32) = (⊥ : EReal) := rfl

theorem lo_apply (d : Vec Ideal S1x256x256 .bf16) (s : Fin 256) (l : Fin 128) : lo d (ix2 s l) = d (ix3 0 s ⟨l.val, by omega⟩) := by
  pointwise [lo]
theorem hi_apply (d : Vec Ideal S1x256x256 .bf16) (s : Fin 256) (l : Fin 128) : hi d (ix2 s l) = d (ix3 0 s ⟨128 + l.val, by omega⟩) := by
  pointwise [hi]
theorem zT_apply (q k : FVec Ideal S256x128 .bf16) (r s : Fin 256) : zT q k (ix2 r s) = ∑ l : Fin 128, q (ix2 r l) * k (ix2 s l) := by
  pointwise [zT]
theorem spT_apply (z : FVec Ideal S256x256 .f32) (r s : Fin 256) : spT z (ix2 r s) = sp2 (z (ix2 r s)) := by
  pointwise [spT, z256]
  rfl
theorem accT_apply (a : FVec Ideal S256x128 .f32) (c : FVec Ideal S256x1 .f32) (p : FVec Ideal S256x256 .f32) (v : FVec Ideal S256x128 .bf16)
    (r : Fin 256) (l : Fin 128) : accT a c p v (ix2 r l) = a (ix2 r l) + Ideal.exp2 (c (ix2 r 0)) * ∑ x : Fin 256, p (ix2 r x) * v (ix2 x l) := by
  pointwise [accT]
  rfl
theorem cT_apply (c : FVec Ideal S256x1 .f32) (l : FVec Ideal S256x256 .f32) (r : Fin 256) : cT c l (ix2 r 0) = c (ix2 r 0) + l (ix2 r 0) := by
  pointwise [cT]

theorem slt64 : ∀ l : Fin 128, IntOp.cmpi CmpIPredicate.slt (BitVec.ofNat 32 l.val) 64#32 = if l.val < 64 then 1#1 else 0#1 := by decide +kernel
theorem slt_fin : ∀ l r : Fin 256, IntOp.cmpi CmpIPredicate.slt (BitVec.ofNat 32 l.val) (BitVec.ofNat 32 r.val) = if l.val < r.val then 1#1 else 0#1 := by
  intro l r
  have toInt : ∀ k : Fin 256, (BitVec.ofNat 32 k.val).toInt = k.val := fun k => by
    have h : (BitVec.ofNat 32 k.val).toNat = k.val := by rw [BitVec.toNat_ofNat, Nat.mod_eq_of_lt (by omega)]
    rw [BitVec.toInt_eq_toNat_of_lt (by rw [h]; omega), h]
  show BitVec.ofBool (BitVec.slt _ _) = _
  rw [BitVec.slt, toInt, toInt]
  by_cases h : l.val < r.val
  · rw [if_pos h, decide_eq_true (by exact_mod_cast h)]; rfl
  · rw [if_neg h, decide_eq_false (by exact_mod_cast h)]; rfl

theorem pay13_apply (v0 : Vec Ideal S1x256x256 .bf16) (r : Fin 256) (l : Fin 128) :
    k0_pay13 v0 (ix2 r l) = if l.val < 64 then v0 (ix3 0 r ⟨l.val, by omega⟩) else 0 := by
  pointwise [k0_pay13, k0_pay11, k0_pay12]
  rw [slt64]; split <;> rfl
theorem pay14_apply (v0 : Vec Ideal S1x256x256 .bf16) (r : Fin 256) (l : Fin 128) :
    k0_pay14 v0 (ix2 r l) = if l.val < 64 then 0 else v0 (ix3 0 r ⟨l.val, by omega⟩) := by
  pointwise [k0_pay14, k0_pay11, k0_pay12]
  rw [slt64]; split <;> rfl
theorem pay15_apply (v0 : Vec Ideal S1x256x256 .bf16) (r : Fin 256) (l : Fin 128) :
    k0_pay15 v0 (ix2 r l) = if l.val < 64 then v0 (ix3 0 r ⟨128 + l.val, by omega⟩) else 0 := by
  pointwise [k0_pay15, k0_pay11, k0_pay12]
  rw [slt64]; split <;> rfl
theorem pay16_apply (v0 : Vec Ideal S1x256x256 .bf16) (r : Fin 256) (l : Fin 128) :
    k0_pay16 v0 (ix2 r l) = if l.val < 64 then 0 else v0 (ix3 0 r ⟨128 + l.val, by omega⟩) := by
  pointwise [k0_pay16, k0_pay11, k0_pay12]
  rw [slt64]; split <;> rfl
theorem pay8_apply (a b : FVec Ideal S256x128 .f32) (r : Fin 256) (l : Fin 128) :
    k0_pay8 a b (ix3 0 r l) = if l.val < 64 then a (ix2 r l) else b (ix2 r l) := by
  pointwise [k0_pay8, k0_pay7]
  rw [slt64]; split <;> rfl
theorem pay9_apply (a b : FVec Ideal S256x128 .f32) (r : Fin 256) (l : Fin 128) :
    k0_pay9 a b (ix3 0 r l) = if l.val < 64 then a (ix2 r l) else b (ix2 r l) := by
  pointwise [k0_pay9, k0_pay7]
  rw [slt64]; split <;> rfl
theorem pay17_apply (r : Fin 256) (l : Fin 128) : k0_pay17 (F := Ideal) (ix2 r l) = 0 := by pointwise [k0_pay17]
theorem pay18_apply (r : Fin 256) : k0_pay18 (F := Ideal) (ix2 r 0) = 0 := by pointwise [k0_pay18]

theorem selD_apply (w : FVec Ideal S256x256 .f32) (r s : Fin 256) :
    select k0_pay19 w z256 (ix2 r s) = if s.val < r.val then w (ix2 r s) else 0 := by
  pointwise [k0_pay19, z256]
  rw [slt_fin]; split <;> rfl

/-- The table of the running sum: minus one where the place summed is not before the place asked. -/
def IsTable (u : FVec Ideal S512x256 .bf16) : Prop :=
  ∀ (k s : Fin 256), u (ix2 (⟨k.val, by omega⟩ : Fin 512) s) = (if s.val ≤ k.val then (-1 : EReal) else 0)
    ∧ u (ix2 (⟨256 + k.val, by omega⟩ : Fin 512) s) = (if s.val ≤ k.val then (-1 : EReal) else 0)

theorem hilo_term {w : EReal} (h : 0 ≤ w) (p : Prop) [Decidable p] :
    w * (if p then (-1 : EReal) else 0) + (w - w) * (if p then (-1 : EReal) else 0) = if p then -w else 0 := by
  split
  · induction w with
    | bot => exact absurd h (by simp)
    | top => rw [show (⊤ : EReal) - ⊤ = ⊥ from rfl]; rw [EReal.top_mul_of_neg (by norm_num), EReal.bot_mul_of_neg (by norm_num)]; rfl
    | coe w => rw [← EReal.coe_sub, sub_self, EReal.coe_zero, zero_mul, add_zero, mul_neg, mul_one]
  · rw [mul_zero, mul_zero, add_zero]

theorem laterT_apply {u : FVec Ideal S512x256 .bf16} (hu : IsTable u) (w : FVec Ideal S256x256 .f32) (hw : ∀ r s, (0 : EReal) ≤ w (ix2 r s)) (r s : Fin 256) :
    laterT u w (ix2 r s) = ∑ k : Fin 256, if s.val ≤ k.val then -(w (ix2 r k) : EReal) else 0 := by
  pointwise [laterT, hilo]
  rw [← Finset.sum_add_distrib]
  refine Finset.sum_congr rfl fun k _ => ?_
  rw [(hu k s).1, (hu k s).2]
  exact hilo_term (hw r k) _

theorem sgt_zero : ∀ i : Fin 32, (Scalar.cmpi .sgt (BitVec.ofNat 32 i.val) 0#32 : BitVec 1) = if 0 < i.val then 1#1 else 0#1 := by decide +kernel

/-! ## One head -/

section Head
variable (q : FVec Ideal S256x128 .bf16) (kk vv : ℕ → FVec Ideal S256x128 .bf16)

/-- The place of position `s` in its tile. -/
def place (s : ℕ) : Fin 256 := ⟨s % 256, Nat.mod_lt _ (by decide)⟩

/-- The score of row `r` against position `s`, and a column of the values. -/
def Zr (r : Fin 256) (s : ℕ) : EReal := ∑ l : Fin 128, q (ix2 r l) * kk (s / 256) (ix2 (place s) l)
def Vr (l : Fin 128) (s : ℕ) : EReal := vv (s / 256) (ix2 (place s) l)

theorem zr_tile (n : ℕ) (r s : Fin 256) : Zr q kk r (n * 256 + s.val) = zT q (kk n) (ix2 r s) := by
  have h := s.isLt
  rw [zT_apply]; unfold Zr place
  rw [show (n * 256 + s.val) / 256 = n by omega]
  simp only [show (n * 256 + s.val) % 256 = s.val by omega]

theorem vr_tile (n : ℕ) (l : Fin 128) (s : Fin 256) : Vr vv l (n * 256 + s.val) = vv n (ix2 s l) := by
  have h := s.isLt
  unfold Vr place
  rw [show (n * 256 + s.val) / 256 = n by omega]
  simp only [show (n * 256 + s.val) % 256 = s.val by omega]

variable {u : FVec Ideal S512x256 .bf16} (hu : IsTable u)
include hu

theorem laterF_apply (n : ℕ) (r s : Fin 256) :
    laterF u q (kk n) (ix2 r s) = ∑ x ∈ Finset.Ico (n * 256 + s.val) (n * 256 + 256), -sp2 (Zr q kk r x) := by
  rw [← sum_tile 256 _ _ _ 256 le_rfl]
  unfold laterF
  rw [laterT_apply hu _ (fun r s => by rw [spT_apply]; exact sp2_nonneg _)]
  refine Finset.sum_congr rfl fun k _ => ?_
  rw [spT_apply, ← zr_tile]
  have := k.isLt
  by_cases h : s.val ≤ k.val
  · rw [if_pos h, if_pos ⟨h, this⟩]
  · rw [if_neg h, if_neg (fun e => h e.1)]

theorem laterD_apply (n : ℕ) (r s : Fin 256) :
    laterD u q (kk n) (ix2 r s) = ∑ x ∈ Finset.Ico (n * 256 + s.val) (n * 256 + r.val), -sp2 (Zr q kk r x) := by
  have hr := r.isLt
  rw [← sum_tile 256 _ _ _ r.val hr.le]
  unfold laterD
  rw [laterT_apply hu _ (fun r s => by rw [selD_apply]; split; (· rw [spT_apply]; exact sp2_nonneg _); exact le_refl _)]
  refine Finset.sum_congr rfl fun k _ => ?_
  rw [selD_apply, spT_apply, ← zr_tile]
  by_cases h : s.val ≤ k.val
  · by_cases h' : k.val < r.val
    · rw [if_pos h, if_pos h', if_pos ⟨h, h'⟩]
    · rw [if_pos h, if_neg h', if_neg (fun e => h' e.2), neg_zero]
  · rw [if_neg h, if_neg (fun e => h e.1)]

omit hu in
/-- The state of one head when the tiles from `n` on are done, of a row block that is tile `i`. -/
def Good (i n : ℕ) (a : FVec Ideal S256x128 .f32) (c : FVec Ideal S256x1 .f32) : Prop :=
  ∀ r : Fin 256, c (ix2 r 0) = S (Zr q kk r) (i * 256 + r.val) (n * 256)
    ∧ ∀ l : Fin 128, a (ix2 r l) = acc (Zr q kk r) (Vr vv l) (i * 256 + r.val) (n * 256)

theorem good_diag (i : ℕ) : Good q kk vv i i (accD u q (kk i) (vv i)) (cD u q (kk i)) := by
  intro r
  constructor
  · unfold cD; rw [cT_apply, pay18_apply, laterD_apply q kk hu, zero_add]; rfl
  · intro l
    unfold accD
    rw [accT_apply, pay17_apply, pay18_apply, exp2_zero, one_mul, zero_add, acc_first]
    have h := sum_tile 256 (fun s => Ideal.exp2 (Zr q kk r s + S (Zr q kk r) (i * 256 + r.val) s) * Vr vv l s) (i * 256) 0 r.val r.isLt.le
    rw [add_zero] at h
    rw [← h]
    refine Finset.sum_congr rfl fun k _ => ?_
    rw [selD_apply]
    by_cases h' : k.val < r.val
    · rw [if_pos h', if_pos ⟨Nat.zero_le _, h'⟩, zr_tile, vr_tile]
      show Ideal.exp2 (zT q (kk i) (ix2 r k) + laterD u q (kk i) (ix2 r k)) * _ = _
      rw [laterD_apply q kk hu]; rfl
    · rw [if_neg h', if_neg (fun e => h' e.2)]; exact zero_mul _

theorem good_tile (i n : ℕ) (hn : n + 1 ≤ i) (a : FVec Ideal S256x128 .f32) (c : FVec Ideal S256x1 .f32) (h : Good q kk vv i (n + 1) a c) :
    Good q kk vv i n (accF u q (kk n) (vv n) a c) (cF u q (kk n) c) := by
  intro r
  have hb : n * 256 + 256 ≤ i * 256 + r.val := by omega
  have e : (n + 1) * 256 = n * 256 + 256 := by omega
  have hc := (h r).1
  rw [e] at hc
  constructor
  · unfold cF
    rw [cT_apply, laterF_apply q kk hu, hc, S_step _ _ (Nat.le_add_right (n * 256) 256) hb]
    rfl
  · intro l
    have ha := (h r).2 l
    rw [e] at ha
    unfold accF
    rw [accT_apply, ha, hc, acc_step _ _ _ (Nat.le_add_right (n * 256) 256) hb]
    congr 2
    have h := sum_tile 256 (fun s => Ideal.exp2 (Zr q kk r s + ∑ s' ∈ Finset.Ico s (n * 256 + 256), -sp2 (Zr q kk r s')) * Vr vv l s) (n * 256) 0 256 le_rfl
    rw [add_zero] at h
    rw [← h]
    refine Finset.sum_congr rfl fun k _ => ?_
    rw [if_pos ⟨Nat.zero_le _, k.isLt⟩, zr_tile, vr_tile]
    show Ideal.exp2 (zT q (kk n) (ix2 r k) + laterF u q (kk n) (ix2 r k)) * _ = _
    rw [laterF_apply q kk hu]

/-- After the diagonal tile and the one before it (of the first row block there is none: it counts for nothing). -/
theorem good_start (i : ℕ) (hi : i < 32) :
    Good q kk vv i (i - 1) (acc2 (BitVec.ofNat 32 i) u q (kk i) (vv i) (kk (i - 1)) (vv (i - 1))) (c2 (BitVec.ofNat 32 i) u q (kk i) (kk (i - 1))) := by
  have hs := sgt_zero ⟨i, hi⟩
  have hD := good_diag q kk vv hu i
  rcases Nat.eq_zero_or_pos i with h0 | h0
  · subst h0
    rw [if_neg (Nat.lt_irrefl 0)] at hs
    intro r
    constructor
    · unfold c2; rw [hs]; exact (hD r).1
    · intro l
      unfold acc2 accF
      rw [accT_apply]
      have hc : c1 (F := Ideal) (BitVec.ofNat 32 0) u q (kk 0) (ix2 r 0) = ⊥ := by
        show cD u q (kk 0) (ix2 r 0) + (Scalar.select (Scalar.cmpi .sgt (BitVec.ofNat 32 0) 0#32) (Scalar.ofBits .f32 0x00000000#32 : Ideal .f32) (Named.named κ "no_past" 0xC61C4000#32 : Ideal .f32) : EReal) = ⊥
        rw [hs]; exact EReal.add_bot (cD u q (kk 0) (ix2 r 0) : EReal)
      rw [hc, show Ideal.exp2 ⊥ = 0 from rfl, zero_mul, add_zero]
      exact (hD r).2 l
  · rw [if_pos h0] at hs
    obtain ⟨n, rfl⟩ : ∃ n, i = n + 1 := ⟨i - 1, by omega⟩
    have hc : c1 (F := Ideal) (BitVec.ofNat 32 (n + 1)) u q (kk (n + 1)) = cD u q (kk (n + 1)) := by
      funext x
      show cD u q (kk (n + 1)) x + (Scalar.select (Scalar.cmpi .sgt (BitVec.ofNat 32 (n + 1)) 0#32) (Scalar.ofBits .f32 0x00000000#32 : Ideal .f32) _ : EReal) = _
      rw [hs]
      show cD u q (kk (n + 1)) x + Ideal.ofBits .f32 0#32 = _
      rw [IdealRules.sign_bit.ideal_zero]; exact add_zero _
    unfold acc2 c2
    rw [hs, hc]
    exact good_tile q kk vv hu (n + 1) n le_rfl _ _ hD

end Head

/-! ## The flag -/

/-- When the flag is down, no row of any of the four heads has anything left. -/
theorem flag_down (a b c d : FVec Ideal S256x1 .f32) (h : flag a b c d ≠ 1#1) (r : Fin 256) :
    (a (ix2 r 0) : EReal) = ⊥ ∧ (b (ix2 r 0) : EReal) = ⊥ ∧ (c (ix2 r 0) : EReal) = ⊥ ∧ (d (ix2 r 0) : EReal) = ⊥ := by
  unfold flag at h
  rw [deadC_eq] at h
  generalize hm : maximumf (maximumf (maximumf a b) c) d = m at h
  have hle : ((m (ix2 r 0) : EReal)) ≤ extractAt ![0, 0, 0] (shapeCast S1x1x1 (multiReduction .maximumf [1, 2] S1
      (shapeCast S1x256x1 m shapeCasts_S256x1_S1x256x1) 0xFF800000#32 reduces_S1x256x1_S1 (.inl rfl) rfl) shapeCasts_S1_S1x1x1) inpos_S1x1x1_p0_0_0 := by
    have key : ∀ j : S1.Idx, (m (ix2 r 0) : EReal) ≤ multiReduction .maximumf [1, 2] S1
        (shapeCast S1x256x1 m shapeCasts_S256x1_S1x256x1) 0xFF800000#32 reduces_S1x256x1_S1 (.inl rfl) rfl j := by
      intro j
      refine le_of_le_of_eq ?_ (multiReduction_maximumf_eq_fold _ _ _ _ _ _).symm
      refine (Finset.le_fold_max (b := (FloatOps.ofBits .f32 0xFF800000#32 : Ideal .f32)) (f := shapeCast S1x256x1 m shapeCasts_S256x1_S1x256x1) (m (ix2 r 0) : EReal)).2
        (.inr ⟨ix3 0 r 0, Finset.mem_filter.2 ⟨Finset.mem_univ _, ?_⟩, ?_⟩)
      · have : Subsingleton S1.Idx := ⟨fun x y => by funext a; fin_cases a; exact Subsingleton.elim (α := Fin 1) _ _⟩
        exact Subsingleton.elim _ _
      · refine le_of_eq ?_
        pointwise
    exact key _
  generalize extractAt ![0, 0, 0] (shapeCast S1x1x1 (multiReduction .maximumf [1, 2] S1
      (shapeCast S1x256x1 m shapeCasts_S256x1_S1x256x1) 0xFF800000#32 reduces_S1x256x1_S1 (.inl rfl) rfl) shapeCasts_S1_S1x1x1) inpos_S1x1x1_p0_0_0 = x at h hle
  have hx : (x : EReal) = ⊥ := by
    by_contra hne
    refine h ?_
    show BitVec.ofBool (decide ((⊥ : EReal) < x)) = 1#1
    rw [decide_eq_true (bot_lt_iff_ne_bot.2 hne)]; rfl
  rw [hx, ← hm] at hle
  have h4 : max (max (max (a (ix2 r 0) : EReal) (b (ix2 r 0))) (c (ix2 r 0))) (d (ix2 r 0)) ≤ ⊥ := hle
  have h3 := max_le_iff.1 h4
  have h2 := max_le_iff.1 h3.1
  have h1 := max_le_iff.1 h2.1
  exact ⟨le_bot_iff.1 h1.1, le_bot_iff.1 h1.2, le_bot_iff.1 h2.2, le_bot_iff.1 h3.2⟩

end Cert.KernelIdeal.SB

end
-- ==== Proof.KI.Point.lean ====
/-
  The state one grid point ends with: by going down the tiles from the diagonal to the first (`Good` of `Index.lean`, kept
  by every trip), each head's accumulator holds the weighted sum of the values over all positions before each row's own.
-/
module

public import proofs.«01_k».proof.Proof.KI.Index

@[expose] public section

set_option maxRecDepth 16384

noncomputable section

namespace Cert.KernelIdeal.SB

open Cert.KernelIdeal Cert.KernelIdeal.Gen Cert.SBMath
open Idealize.ShloMosaic Idealize.ShloMosaic.TcCoe Idealize.ShloMosaic.Pointwise

variable (q1 q2 q3 q4 : FVec Ideal S256x128 .bf16) (u : FVec Ideal S512x256 .bf16) (hu : IsTable u) (d4 d5 : Vec Ideal S1x8192x256 .bf16)

/-- The tiles of one lane pair. -/
def kl (d : Vec Ideal S1x8192x256 .bf16) (n : ℕ) : FVec Ideal S256x128 .bf16 := lo (tile d n)
def kh (d : Vec Ideal S1x8192x256 .bf16) (n : ℕ) : FVec Ideal S256x128 .bf16 := hi (tile d n)

/-- All four heads are done from tile `n` on, and a lowered flag means no row has anything left. -/
def Inv (i n : ℕ) (s : St Ideal) : Prop :=
  (Good q1 (kl d4) (kl d5) i n s.2.2.1 s.2.2.2.1 ∧ Good q2 (kl d4) (kl d5) i n s.2.2.2.2.1 s.2.2.2.2.2.1
    ∧ Good q3 (kh d4) (kh d5) i n s.2.2.2.2.2.2.1 s.2.2.2.2.2.2.2.1 ∧ Good q4 (kh d4) (kh d5) i n s.2.2.2.2.2.2.2.2.1 s.2.2.2.2.2.2.2.2.2)
  ∧ s.2.1 = flag s.2.2.2.1 s.2.2.2.2.2.1 s.2.2.2.2.2.2.2.1 s.2.2.2.2.2.2.2.2.2

/-- The accumulator of a head that is done. -/
def Done (q : FVec Ideal S256x128 .bf16) (kk vv : ℕ → FVec Ideal S256x128 .bf16) (i : ℕ) (a : FVec Ideal S256x128 .f32) : Prop :=
  ∀ (r : Fin 256) (l : Fin 128), a (ix2 r l) = acc (Zr q kk r) (Vr vv l) (i * 256 + r.val) 0

theorem done_of_zero {q : FVec Ideal S256x128 .bf16} {kk vv : ℕ → FVec Ideal S256x128 .bf16} {i : ℕ} {a : FVec Ideal S256x128 .f32} {c : FVec Ideal S256x1 .f32}
    (h : Good q kk vv i 0 a c) : Done q kk vv i a := fun r l => by
  have := (h r).2 l; rwa [zero_mul] at this

theorem done_of_dead {q : FVec Ideal S256x128 .bf16} {kk vv : ℕ → FVec Ideal S256x128 .bf16} {i n : ℕ} (hn : n ≤ i) {a : FVec Ideal S256x128 .f32} {c : FVec Ideal S256x1 .f32}
    (h : Good q kk vv i n a c) (hc : ∀ r : Fin 256, (c (ix2 r 0) : EReal) = ⊥) : Done q kk vv i a := fun r l => by
  rw [(h r).2 l]
  refine (acc_dead _ _ _ (Nat.zero_le _) ?_ ?_).symm
  · have := Nat.mul_le_mul_right 256 hn; omega
  · rw [← (h r).1]; exact hc r

def AllDone (i : ℕ) (s : St Ideal) : Prop :=
  Done q1 (kl d4) (kl d5) i s.2.2.1 ∧ Done q2 (kl d4) (kl d5) i s.2.2.2.2.1
    ∧ Done q3 (kh d4) (kh d5) i s.2.2.2.2.2.2.1 ∧ Done q4 (kh d4) (kh d5) i s.2.2.2.2.2.2.2.2.1

include hu

theorem inv_trip (i n : ℕ) (hn : n + 1 ≤ i) (s : St Ideal) (h : Inv q1 q2 q3 q4 d4 d5 i (n + 1) s) :
    Inv q1 q2 q3 q4 d4 d5 i n (trip q1 q2 q3 q4 u (tile d4 n) (tile d5 n) s) := by
  rw [trip_eq]
  obtain ⟨⟨h1, h2, h3, h4⟩, -⟩ := h
  exact ⟨⟨good_tile _ _ _ hu _ _ hn _ _ h1, good_tile _ _ _ hu _ _ hn _ _ h2, good_tile _ _ _ hu _ _ hn _ _ h3, good_tile _ _ _ hu _ _ hn _ _ h4⟩, rfl⟩

theorem trips_done (i : ℕ) : ∀ (n : ℕ) (_ : n ≤ i) (s : St Ideal), Inv q1 q2 q3 q4 d4 d5 i n s →
    AllDone q1 q2 q3 q4 d4 d5 i (trips q1 q2 q3 q4 u d4 d5 n s)
  | 0, _, s, h => ⟨done_of_zero h.1.1, done_of_zero h.1.2.1, done_of_zero h.1.2.2.1, done_of_zero h.1.2.2.2⟩
  | n + 1, hn, s, h => by
    rw [trips]
    by_cases hf : s.2.1 = 1#1
    · rw [if_pos hf]
      exact trips_done i n (by omega) _ (inv_trip _ _ _ _ _ hu _ _ i n hn s h)
    · rw [if_neg hf]
      rw [h.2] at hf
      exact ⟨done_of_dead hn h.1.1 fun r => (flag_down _ _ _ _ hf r).1, done_of_dead hn h.1.2.1 fun r => (flag_down _ _ _ _ hf r).2.1,
        done_of_dead hn h.1.2.2.1 fun r => (flag_down _ _ _ _ hf r).2.2.1, done_of_dead hn h.1.2.2.2 fun r => (flag_down _ _ _ _ hf r).2.2.2⟩

omit hu in
theorem fin_done (i : ℕ) (hi : i < 32) (v0 : Vec Ideal S1x256x256 .bf16) (v2 : Vec Ideal S512x256 .bf16) (hv2 : IsTable v2) :
    AllDone (k0_pay13 v0) (k0_pay14 v0) (k0_pay15 v0) (k0_pay16 v0) d4 d5 i (fin i v0 v2 d4 d5) := by
  unfold fin
  refine trips_done _ _ _ _ _ hv2 _ _ i (i - 1) (Nat.sub_le _ _) _ ?_
  rw [start_eq]
  exact ⟨⟨good_start _ (kl d4) (kl d5) hv2 i hi, good_start _ (kl d4) (kl d5) hv2 i hi, good_start _ (kh d4) (kh d5) hv2 i hi,
    good_start _ (kh d4) (kh d5) hv2 i hi⟩, rfl⟩

end Cert.KernelIdeal.SB

end
-- ==== Proof.KI.Block.lean ====
/-
  The block one grid point writes, entry by entry, from the contents of its input blocks: lanes in groups of 64, one
  group for each of the point's four heads.
-/
module

public import proofs.«01_k».proof.Proof.KI.Point
public import proofs.«01_k».proof.Proof.KI.Run
public import Idealize.ShloMosaic.Lib.Pipeline.ValueKit.Geometry

@[expose] public section

set_option maxRecDepth 16384

noncomputable section

namespace Cert.KernelIdeal.SB

open Cert.KernelIdeal Cert.KernelIdeal.Gen Cert.SBMath
open Idealize.ShloMosaic Idealize.ShloMosaic.TcCoe Idealize.ShloMosaic.Pointwise

variable (v0 : Vec Ideal S1x256x256 .bf16) (d4 d5 : Vec Ideal S1x8192x256 .bf16)

/-- A position as an index of the keys and values. -/
def pos (s : ℕ) : Fin 8192 := ⟨s % 8192, Nat.mod_lt _ (by decide)⟩

/-- The scores of head `o` of the point. -/
def ZB (o : Fin 4) (r : Fin 256) (s : ℕ) : EReal :=
  ∑ d : Fin 64, v0 (ix3 0 r (⟨o.val * 64 + d.val, by omega⟩ : Fin 256)) * d4 (ix3 0 (pos s) (⟨o.val * 64 + d.val, by omega⟩ : Fin 256))

theorem tile_apply (d : Vec Ideal S1x8192x256 .bf16) (s : ℕ) (l : Fin 256) : tile d (s / 256) (ix3 0 (place s) l) = d (ix3 0 (pos s) l) := by
  unfold tile
  congr 1
  funext a
  fin_cases a
  · rfl
  · apply Fin.ext
    show (s / 256 * 256 + s % 256) % 8192 = s % 8192
    rw [Nat.div_add_mod']
  · rfl

theorem kl_apply (d : Vec Ideal S1x8192x256 .bf16) (s : ℕ) (l : Fin 128) : kl d (s / 256) (ix2 (place s) l) = d (ix3 0 (pos s) (⟨l.val, by omega⟩ : Fin 256)) := by
  unfold kl; rw [lo_apply]; exact tile_apply d s _
theorem kh_apply (d : Vec Ideal S1x8192x256 .bf16) (s : ℕ) (l : Fin 128) : kh d (s / 256) (ix2 (place s) l) = d (ix3 0 (pos s) (⟨128 + l.val, by omega⟩ : Fin 256)) := by
  unfold kh; rw [hi_apply]; exact tile_apply d s _

theorem half0 (f : Fin 128 → EReal) (h : ∀ l : Fin 128, 64 ≤ l.val → f l = 0) : ∑ l, f l = ∑ d : Fin 64, f ⟨d.val, by omega⟩ := by
  rw [Fin.sum_univ_two_halves 64 64 rfl f, Finset.sum_eq_zero (s := Finset.univ) (f := fun x : Fin 64 => f ⟨64 + x.val, _⟩) (fun x _ => h _ (Nat.le_add_right 64 _)), add_zero]
theorem half1 (f : Fin 128 → EReal) (h : ∀ l : Fin 128, l.val < 64 → f l = 0) : ∑ l, f l = ∑ d : Fin 64, f ⟨64 + d.val, by omega⟩ := by
  rw [Fin.sum_univ_two_halves 64 64 rfl f, Finset.sum_eq_zero (s := Finset.univ) (f := fun x : Fin 64 => f ⟨x.val, _⟩) (fun x _ => h _ x.isLt), zero_add]

theorem z14 (r : Fin 256) : Zr (k0_pay13 v0) (kl d4) r = ZB v0 d4 0 r := by
  funext s; unfold Zr ZB
  rw [half0 _ fun l h => by rw [pay13_apply, if_neg (by omega)]; exact zero_mul _]
  refine Finset.sum_congr rfl fun d _ => ?_
  rw [pay13_apply, if_pos d.isLt, kl_apply]
  simp only [Fin.val_zero, Nat.zero_mul, Nat.zero_add]
theorem z15 (r : Fin 256) : Zr (k0_pay14 v0) (kl d4) r = ZB v0 d4 1 r := by
  funext s; unfold Zr ZB
  rw [half1 _ fun l h => by rw [pay14_apply, if_pos h]; exact zero_mul _]
  refine Finset.sum_congr rfl fun d _ => ?_
  rw [pay14_apply, if_neg (by simp), kl_apply]
  simp only [Fin.val_one, Nat.one_mul]
theorem z16 (r : Fin 256) : Zr (k0_pay15 v0) (kh d4) r = ZB v0 d4 2 r := by
  funext s; unfold Zr ZB
  rw [half0 _ fun l h => by rw [pay15_apply, if_neg (by omega)]; exact zero_mul _]
  refine Finset.sum_congr rfl fun d _ => ?_
  rw [pay15_apply, if_pos d.isLt, kh_apply]
  rfl
theorem z17 (r : Fin 256) : Zr (k0_pay16 v0) (kh d4) r = ZB v0 d4 3 r := by
  funext s; unfold Zr ZB
  rw [half1 _ fun l h => by rw [pay16_apply, if_pos h]; exact zero_mul _]
  refine Finset.sum_congr rfl fun d _ => ?_
  rw [pay16_apply, if_neg (by simp), kh_apply]
  have e : (⟨128 + (64 + d.val), by omega⟩ : Fin 256) = ⟨(3 : Fin 4).val * 64 + d.val, by show 3 * 64 + d.val < 256; omega⟩ :=
    Fin.ext (show 128 + (64 + d.val) = 3 * 64 + d.val by omega)
  simp only [e]

/-- The column of the values at lane `l`. -/
def VB (l : Fin 256) (s : ℕ) : EReal := d5 (ix3 0 (pos s) l)

theorem vl (l : Fin 128) : Vr (kl d5) l = VB d5 ⟨l.val, by omega⟩ := by funext s; exact kl_apply d5 s l
theorem vh (l : Fin 128) : Vr (kh d5) l = VB d5 ⟨128 + l.val, by omega⟩ := by funext s; exact kh_apply d5 s l

/-- The two stores: the upper lane pair lies over the lower one, and they do not meet. -/
def rLo : Rect S1x256x256 := Rect.unit (s := S1x256x256) ![0, 0, 0] S1x256x128.size inb_S1x256x256_S1x256x128_0_0_0
def rHi : Rect S1x256x256 := Rect.unit (s := S1x256x256) ![0, 0, 128] S1x256x128.size inb_S1x256x256_S1x256x128_0_0_128

theorem canon_over {s : Shape} {e : EltTy} (r9 r8 : Rect s) (w9 : r9.shape.Idx → Elt Ideal e) (w8 : r8.shape.Idx → Elt Ideal e) (y : s.Idx)
    (x : r9.shape.Idx) (h : y = r9.emb x) : View.canon [(⟨r9, w9⟩ : View.Piece (Elt Ideal) s e), ⟨r8, w8⟩] y = w9 x := by
  rw [h]; exact View.canon_cons_emb r9 w9 _ x
theorem canon_under {s : Shape} {e : EltTy} (r9 r8 : Rect s) (w9 : r9.shape.Idx → Elt Ideal e) (w8 : r8.shape.Idx → Elt Ideal e) (y : s.Idx)
    (x : r8.shape.Idx) (hm : y ∉ r9.set) (h : y = r8.emb x) : View.canon [(⟨r9, w9⟩ : View.Piece (Elt Ideal) s e), ⟨r8, w8⟩] y = w8 x := by
  rw [View.canon_cons_of_not_mem _ _ hm, h]; exact View.canon_cons_emb r8 w8 _ x

theorem emb_lo (r : Fin 256) (l : Fin 128) : (ix3 0 r (⟨l.val, by omega⟩ : Fin 256) : S1x256x256.Idx) = rLo.emb (ix3 0 r l) := by
  funext a; apply Fin.ext
  fin_cases a
  · rfl
  · show r.val = 0 + 1 * r.val; omega
  · show l.val = 0 + 1 * l.val; omega
theorem emb_hi (r : Fin 256) (l : Fin 128) : (ix3 0 r (⟨128 + l.val, by omega⟩ : Fin 256) : S1x256x256.Idx) = rHi.emb (ix3 0 r l) := by
  funext a; apply Fin.ext
  fin_cases a
  · rfl
  · show r.val = 0 + 1 * r.val; omega
  · show 128 + l.val = 128 + 1 * l.val; omega
theorem not_hi (r : Fin 256) (l : Fin 128) : (ix3 0 r (⟨l.val, by omega⟩ : Fin 256) : S1x256x256.Idx) ∉ rHi.set := by
  intro h
  have h2 : 128 ≤ l.val := ((Rect.mem_set_unit.mp h) 2).1
  omega

theorem out_lo (s : St Ideal) (r : Fin 256) (l : Fin 128) :
    blockOut s (ix3 0 r (⟨l.val, by omega⟩ : Fin 256)) = k0_pay8 s.2.2.1 s.2.2.2.2.1 (ix3 0 r l) :=
  canon_under (e := .bf16) rHi rLo (k0_pay9 s.2.2.2.2.2.2.1 s.2.2.2.2.2.2.2.2.1) (k0_pay8 s.2.2.1 s.2.2.2.2.1) _ _ (not_hi r l) (emb_lo r l)
theorem out_hi (s : St Ideal) (r : Fin 256) (l : Fin 128) :
    blockOut s (ix3 0 r (⟨128 + l.val, by omega⟩ : Fin 256)) = k0_pay9 s.2.2.2.2.2.2.1 s.2.2.2.2.2.2.2.2.1 (ix3 0 r l) :=
  canon_over (e := .bf16) rHi rLo (k0_pay9 s.2.2.2.2.2.2.1 s.2.2.2.2.2.2.2.2.1) (k0_pay8 s.2.2.1 s.2.2.2.2.1) _ _ (emb_hi r l)

/-- An entry of the block, by the group of its lane. -/
theorem blockOut_apply (i : ℕ) (hi : i < 32) (v2 : Vec Ideal S512x256 .bf16) (hv2 : IsTable v2) (r l : Fin 256) :
    blockOut (fin i v0 v2 d4 d5) (ix3 0 r l) = acc (ZB v0 d4 (⟨l.val / 64, by omega⟩ : Fin 4) r) (VB d5 l) (i * 256 + r.val) 0 := by
  obtain ⟨h1, h2, h3, h4⟩ := fin_done d4 d5 i hi v0 v2 hv2
  generalize fin i v0 v2 d4 d5 = s at *
  let P : Fin 256 → Prop := fun l => blockOut s (ix3 0 r l) = acc (ZB v0 d4 (⟨l.val / 64, by omega⟩ : Fin 4) r) (VB d5 l) (i * 256 + r.val) 0
  have low : ∀ l' : Fin 128, P ⟨l'.val, by omega⟩ := fun l' => by
    show blockOut s (ix3 0 r (⟨l'.val, by omega⟩ : Fin 256)) = _
    rw [out_lo, pay8_apply, h1 r, h2 r, z14, z15, vl]
    by_cases h64 : l'.val < 64
    · rw [if_pos h64]
      rw [show (⟨l'.val / 64, by omega⟩ : Fin 4) = 0 from Fin.ext (show l'.val / 64 = 0 by omega)]
    · rw [if_neg h64]
      rw [show (⟨l'.val / 64, by omega⟩ : Fin 4) = 1 from Fin.ext (show l'.val / 64 = 1 by omega)]
  have high : ∀ l' : Fin 128, P ⟨128 + l'.val, by omega⟩ := fun l' => by
    show blockOut s (ix3 0 r (⟨128 + l'.val, by omega⟩ : Fin 256)) = _
    rw [out_hi, pay9_apply, h3 r, h4 r, z16, z17, vh]
    by_cases h64 : l'.val < 64
    · rw [if_pos h64]
      rw [show (⟨(128 + l'.val) / 64, by omega⟩ : Fin 4) = 2 from Fin.ext (show (128 + l'.val) / 64 = 2 by omega)]
    · rw [if_neg h64]
      rw [show (⟨(128 + l'.val) / 64, by omega⟩ : Fin 4) = 3 from Fin.ext (show (128 + l'.val) / 64 = 3 by omega)]
  show P l
  by_cases hl : l.val < 128
  · exact low ⟨l.val, hl⟩
  · have e : (⟨128 + (⟨l.val - 128, by omega⟩ : Fin 128).val, by show 128 + (l.val - 128) < 256; omega⟩ : Fin 256) = l :=
      Fin.ext (show 128 + (l.val - 128) = l.val by omega)
    exact e ▸ high ⟨l.val - 128, by omega⟩

end Cert.KernelIdeal.SB

end
-- ==== Proof.KI.Table.lean ====
/-
  What the constant table of the running sum holds: minus one where the column is not past the row, the row counted within
  its half of the table, and minus zero elsewhere.
-/
module

public import proofs.«01_k».proof.KernelIdeal

@[expose] public section

set_option maxRecDepth 100000

noncomputable section

namespace Cert.KernelIdeal.SB

open Cert.KernelIdeal

/-- The bits of the eight rows of group `n`. -/
abbrev RowsAre (n : ℕ) : Prop :=
  ∀ (r : Fin 8) (s : Fin 256), lit0t ((8 * n + r.val) * 256 + s.val) = if s.val ≤ (8 * n + r.val) % 256 then 0xBF80#16 else 0x8000#16

end Cert.KernelIdeal.SB

end
-- ==== Proof.KI.Table0.lean ====
/-
  The first quarter of the constant table, evaluated entry by entry.
-/
module

public import proofs.«01_k».proof.Proof.KI.Table

@[expose] public section

set_option maxRecDepth 100000
set_option Elab.async false

noncomputable section

namespace Cert.KernelIdeal.SB

open Cert.KernelIdeal

theorem rows0 : RowsAre 0 := by decide +kernel
theorem rows1 : RowsAre 1 := by decide +kernel
theorem rows2 : RowsAre 2 := by decide +kernel
theorem rows3 : RowsAre 3 := by decide +kernel
theorem rows4 : RowsAre 4 := by decide +kernel
theorem rows5 : RowsAre 5 := by decide +kernel
theorem rows6 : RowsAre 6 := by decide +kernel
theorem rows7 : RowsAre 7 := by decide +kernel
theorem rows8 : RowsAre 8 := by decide +kernel
theorem rows9 : RowsAre 9 := by decide +kernel
theorem rows10 : RowsAre 10 := by decide +kernel
theorem rows11 : RowsAre 11 := by decide +kernel
theorem rows12 : RowsAre 12 := by decide +kernel
theorem rows13 : RowsAre 13 := by decide +kernel
theorem rows14 : RowsAre 14 := by decide +kernel
theorem rows15 : RowsAre 15 := by decide +kernel

/-- The sixteen groups together. -/
theorem quarter0 (n : ℕ) (h0 : 0 ≤ n) (h1 : n < 16) : RowsAre n := by
  interval_cases n
  exacts [rows0, rows1, rows2, rows3, rows4, rows5, rows6, rows7, rows8, rows9, rows10, rows11, rows12, rows13, rows14, rows15]

end Cert.KernelIdeal.SB

end
-- ==== Proof.KI.Table1.lean ====
/-
  The second quarter of the constant table, evaluated entry by entry.
-/
module

public import proofs.«01_k».proof.Proof.KI.Table

@[expose] public section

set_option maxRecDepth 100000
set_option Elab.async false

noncomputable section

namespace Cert.KernelIdeal.SB

open Cert.KernelIdeal

theorem rows16 : RowsAre 16 := by decide +kernel
theorem rows17 : RowsAre 17 := by decide +kernel
theorem rows18 : RowsAre 18 := by decide +kernel
theorem rows19 : RowsAre 19 := by decide +kernel
theorem rows20 : RowsAre 20 := by decide +kernel
theorem rows21 : RowsAre 21 := by decide +kernel
theorem rows22 : RowsAre 22 := by decide +kernel
theorem rows23 : RowsAre 23 := by decide +kernel
theorem rows24 : RowsAre 24 := by decide +kernel
theorem rows25 : RowsAre 25 := by decide +kernel
theorem rows26 : RowsAre 26 := by decide +kernel
theorem rows27 : RowsAre 27 := by decide +kernel
theorem rows28 : RowsAre 28 := by decide +kernel
theorem rows29 : RowsAre 29 := by decide +kernel
theorem rows30 : RowsAre 30 := by decide +kernel
theorem rows31 : RowsAre 31 := by decide +kernel

/-- The sixteen groups together. -/
theorem quarter1 (n : ℕ) (h0 : 16 ≤ n) (h1 : n < 32) : RowsAre n := by
  interval_cases n
  exacts [rows16, rows17, rows18, rows19, rows20, rows21, rows22, rows23, rows24, rows25, rows26, rows27, rows28, rows29, rows30, rows31]

end Cert.KernelIdeal.SB

end
-- ==== Proof.KI.Table2.lean ====
/-
  The third quarter of the constant table, evaluated entry by entry.
-/
module

public import proofs.«01_k».proof.Proof.KI.Table

@[expose] public section

set_option maxRecDepth 100000
set_option Elab.async false

noncomputable section

namespace Cert.KernelIdeal.SB

open Cert.KernelIdeal

theorem rows32 : RowsAre 32 := by decide +kernel
theorem rows33 : RowsAre 33 := by decide +kernel
theorem rows34 : RowsAre 34 := by decide +kernel
theorem rows35 : RowsAre 35 := by decide +kernel
theorem rows36 : RowsAre 36 := by decide +kernel
theorem rows37 : RowsAre 37 := by decide +kernel
theorem rows38 : RowsAre 38 := by decide +kernel
theorem rows39 : RowsAre 39 := by decide +kernel
theorem rows40 : RowsAre 40 := by decide +kernel
theorem rows41 : RowsAre 41 := by decide +kernel
theorem rows42 : RowsAre 42 := by decide +kernel
theorem rows43 : RowsAre 43 := by decide +kernel
theorem rows44 : RowsAre 44 := by decide +kernel
theorem rows45 : RowsAre 45 := by decide +kernel
theorem rows46 : RowsAre 46 := by decide +kernel
theorem rows47 : RowsAre 47 := by decide +kernel

/-- The sixteen groups together. -/
theorem quarter2 (n : ℕ) (h0 : 32 ≤ n) (h1 : n < 48) : RowsAre n := by
  interval_cases n
  exacts [rows32, rows33, rows34, rows35, rows36, rows37, rows38, rows39, rows40, rows41, rows42, rows43, rows44, rows45, rows46, rows47]

end Cert.KernelIdeal.SB

end
-- ==== Proof.KI.Table3.lean ====
/-
  The fourth quarter of the constant table, evaluated entry by entry.
-/
module

public import proofs.«01_k».proof.Proof.KI.Table

@[expose] public section

set_option maxRecDepth 100000
set_option Elab.async false

noncomputable section

namespace Cert.KernelIdeal.SB

open Cert.KernelIdeal

theorem rows48 : RowsAre 48 := by decide +kernel
theorem rows49 : RowsAre 49 := by decide +kernel
theorem rows50 : RowsAre 50 := by decide +kernel
theorem rows51 : RowsAre 51 := by decide +kernel
theorem rows52 : RowsAre 52 := by decide +kernel
theorem rows53 : RowsAre 53 := by decide +kernel
theorem rows54 : RowsAre 54 := by decide +kernel
theorem rows55 : RowsAre 55 := by decide +kernel
theorem rows56 : RowsAre 56 := by decide +kernel
theorem rows57 : RowsAre 57 := by decide +kernel
theorem rows58 : RowsAre 58 := by decide +kernel
theorem rows59 : RowsAre 59 := by decide +kernel
theorem rows60 : RowsAre 60 := by decide +kernel
theorem rows61 : RowsAre 61 := by decide +kernel
theorem rows62 : RowsAre 62 := by decide +kernel
theorem rows63 : RowsAre 63 := by decide +kernel

/-- The sixteen groups together. -/
theorem quarter3 (n : ℕ) (h0 : 48 ≤ n) (h1 : n < 64) : RowsAre n := by
  interval_cases n
  exacts [rows48, rows49, rows50, rows51, rows52, rows53, rows54, rows55, rows56, rows57, rows58, rows59, rows60, rows61, rows62, rows63]

end Cert.KernelIdeal.SB

end
-- ==== Proof.KI.Host.lean ====
/-
  What the host operations before the call leave in the arrays the call reads: the queries times one eighth over the
  natural logarithm of two, the keys and values as they are, and the table of the running sum.
-/
module

public import proofs.«01_k».proof.Proof.KI.Index
public import proofs.«01_k».proof.Proof.KI.Run
public import proofs.«01_k».proof.Proof.KI.Table0
public import proofs.«01_k».proof.Proof.KI.Table1
public import proofs.«01_k».proof.Proof.KI.Table2
public import proofs.«01_k».proof.Proof.KI.Table3

@[expose] public section

set_option maxRecDepth 16384

noncomputable section

namespace Cert.KernelIdeal.SB

open Cert.KernelIdeal Cert.KernelIdeal.Gen Cert.SBMath
open Idealize.ShloMosaic Idealize.ShloMosaic.TcCoe Idealize.ShloMosaic.Pointwise Idealize.ShloMosaic.StableHlo

variable (m : (ℓ : Loc nD τ sig) → Buf (Elt Ideal) ℓ)

/-- The table's bits at row `k`, column `s`. -/
theorem lit_at (k : Fin 512) (s : Fin 256) : lit0t (k.val * 256 + s.val) = if s.val ≤ k.val % 256 then 0xBF80#16 else 0x8000#16 := by
  have hr : RowsAre (k.val / 8) := by
    rcases Nat.lt_or_ge (k.val / 8) 16 with h0 | h0
    · exact quarter0 _ (by omega) h0
    rcases Nat.lt_or_ge (k.val / 8) 32 with h1 | h1
    · exact quarter1 _ h0 h1
    rcases Nat.lt_or_ge (k.val / 8) 48 with h2 | h2
    · exact quarter2 _ h1 h2
    · exact quarter3 _ h2 (by omega)
  have h := hr ⟨k.val % 8, by omega⟩ s
  rwa [show 8 * (k.val / 8) + k.val % 8 = k.val by omega] at h

theorem neg_one_bits : Ideal.ofBits .bf16 0xBF80#16 = (-1 : EReal) := by
  rw [Ideal.ofBits_neg_one_bf16]; norm_num
theorem neg_zero_bits : Ideal.ofBits .bf16 0x8000#16 = (0 : EReal) := by simp [Ideal.ofBits, Ideal.ieee]

/-- The table's entry at row `k`, column `s`. -/
theorem table_at (k : Fin 512) (s : Fin 256) :
    Ideal.ofBits .bf16 (lit0 (S512x256.rowMajor (ix2 k s))) = if s.val ≤ k.val % 256 then (-1 : EReal) else 0 := by
  have e : lit0 (S512x256.rowMajor (ix2 k s)) = lit0t (k.val * 256 + s.val) := by
    show lit0t (S512x256.rowMajor (ix2 k s)).val = _
    exact congrArg lit0t (Shape.rowMajor_val_two _)
  rw [e, lit_at]
  split
  · exact neg_one_bits
  · exact neg_zero_bits

/-- The factor on the queries. -/
def qscale : EReal := Ideal.div (Ideal.ofBits .f32 0x3E000000#32) (Ideal.log (Ideal.ofBits .f32 0x40000000#32))

theorem V_v4 (c : Dev nD) (b : Fin 2) (t : Fin 8192) (h : Fin 512) :
    V m c main_v4 (ix3 b t h) = HMul.hMul (α := EReal) (β := EReal) (γ := EReal) (m ((c : Thread nD τ).loc main_arg0) (ix3 b t h)) qscale := by
  unfold V
  after_results
  pointwise
  rfl
theorem V_v5 (c : Dev nD) (i : S2x8192x512.Idx) : V m c main_v5 i = m ((c : Thread nD τ).loc main_arg1) i := by
  unfold V
  after_results
  rfl
theorem V_v6 (c : Dev nD) (i : S2x8192x512.Idx) : V m c main_v6 i = m ((c : Thread nD τ).loc main_arg2) i := by
  unfold V
  after_results
  rfl

theorem V_table (c : Dev nD) : IsTable (V m c main_cst) := by
  have h : ∀ (k : Fin 512) (s : Fin 256), V m c main_cst (ix2 k s) = if s.val ≤ k.val % 256 then (-1 : EReal) else 0 := fun k s => by
    unfold V
    after_results
    exact table_at k s
  intro k s
  rw [h, h]
  exact ⟨by rw [Nat.mod_eq_of_lt k.isLt], by rw [show (256 + k.val) % 256 = k.val by omega]⟩

end Cert.KernelIdeal.SB

end
-- ==== Proof.KI.Out.lean ====
/-
  The result array of the idealized kernel, entry by entry, as a function of its three arguments.
-/
module

public import proofs.«01_k».proof.Proof.KI.Block
public import proofs.«01_k».proof.Proof.KI.Host

@[expose] public section

set_option maxRecDepth 16384

noncomputable section

namespace Cert.KernelIdeal.SB

open Cert.KernelIdeal Cert.KernelIdeal.Gen Cert.SBMath
open Idealize.ShloMosaic Idealize.ShloMosaic.TcCoe Idealize.ShloMosaic.Pointwise
open Idealize.ShloMosaic.Pipeline

variable (m : (ℓ : Loc nD τ sig) → Buf (Elt Ideal) ℓ)

/-- The queries' and keys' lane `d` of the head that lane `h` belongs to. -/
def lane (h : Fin 512) (d : Fin 64) : Fin 512 := ⟨h.val / 64 * 64 + d.val, by omega⟩

/-- The result at batch `b`, position `t`, lane `h`. -/
def G (Q K W : S2x8192x512.Idx → EReal) : S2x8192x512.Idx → EReal := fun j =>
  acc (fun s => ∑ d : Fin 64, (Q (ix3 (j 0) (j 1) (lane (j 2) d)) * qscale) * K (ix3 (j 0) (pos s) (lane (j 2) d)))
    (fun s => W (ix3 (j 0) (pos s) (j 2))) (j 1).val 0

variable (c : Dev nD) (t : Fin (cfg0 (F := Ideal)).N)

theorem toNat_small (n : ℕ) (h : n < 2 ^ 32) : (BitVec.ofNat 32 n).toNat = n := by
  rw [BitVec.toNat_ofNat, Nat.mod_eq_of_lt h]

/-- The block each window takes at a grid point. -/
theorem win_at : (win0_0.index t 0 = (grid0.coords t 0).val ∧ win0_0.index t 1 = (grid0.coords t 2).val ∧ win0_0.index t 2 = (grid0.coords t 1).val)
    ∧ (win0_1.index t 0 = (grid0.coords t 0).val ∧ win0_1.index t 1 = 0 ∧ win0_1.index t 2 = (grid0.coords t 1).val)
    ∧ (win0_2.index t 0 = (grid0.coords t 0).val ∧ win0_2.index t 1 = 0 ∧ win0_2.index t 2 = (grid0.coords t 1).val)
    ∧ (win0_3.index t 0 = 0 ∧ win0_3.index t 1 = 0)
    ∧ (win0_4.index t 0 = (grid0.coords t 0).val ∧ win0_4.index t 1 = (grid0.coords t 2).val ∧ win0_4.index t 2 = (grid0.coords t 1).val) := by
  have h0 := toNat_small (grid0.coords t 0).val (lt_trans (grid0.coords t 0).isLt (by decide))
  have h1 := toNat_small (grid0.coords t 1).val (lt_trans (grid0.coords t 1).isLt (by decide))
  have h2 := toNat_small (grid0.coords t 2).val (lt_trans (grid0.coords t 2).isLt (by decide))
  exact ⟨⟨h0, h2, h1⟩, ⟨h0, rfl, h1⟩, ⟨h0, rfl, h1⟩, ⟨rfl, rfl⟩, ⟨h0, h2, h1⟩⟩

/-- The point's batch, row block and column block. -/
def pb : Fin 2 := grid0.coords t 0
def pc : Fin 2 := grid0.coords t 1
def pi : Fin 32 := grid0.coords t 2

/-- Row `r` of the point's row block, and lane `l` of its column block. -/
def row (r : Fin 256) : Fin 8192 := ⟨(pi t).val * 256 + r.val, by have := (pi t).isLt; omega⟩
def col (l : Fin 256) : Fin 512 := ⟨(pc t).val * 256 + l.val, by have := (pc t).isLt; omega⟩

theorem iblk0_apply (r l : Fin 256) : iblk m c 0 t (ix3 0 r l) = V m c main_v4 (ix3 (pb t) (row t r) (col t l)) := by
  show V m c main_v4 (((cfg0 (F := Ideal)).win 0 |>.blk t).view.emb (ix3 0 r l)) = _
  refine congrArg (V m c main_v4) ?_
  funext a; apply Fin.ext; fin_cases a <;> blk_simp <;> simp [win_at, pb, pc, pi, row, col]
theorem iblk1_apply (s : Fin 8192) (l : Fin 256) : iblk m c 1 t (ix3 0 s l) = V m c main_v5 (ix3 (pb t) s (col t l)) := by
  show V m c main_v5 (((cfg0 (F := Ideal)).win 1 |>.blk t).view.emb (ix3 0 s l)) = _
  refine congrArg (V m c main_v5) ?_
  funext a; apply Fin.ext; fin_cases a <;> blk_simp <;> simp [win_at, pb, pc, pi, row, col]
theorem iblk2_apply (s : Fin 8192) (l : Fin 256) : iblk m c 2 t (ix3 0 s l) = V m c main_v6 (ix3 (pb t) s (col t l)) := by
  show V m c main_v6 (((cfg0 (F := Ideal)).win 2 |>.blk t).view.emb (ix3 0 s l)) = _
  refine congrArg (V m c main_v6) ?_
  funext a; apply Fin.ext; fin_cases a <;> blk_simp <;> simp [win_at, pb, pc, pi, row, col]
theorem iblk3_eq : iblk m c 3 t = V m c main_cst := by
  funext y
  show V m c main_cst (((cfg0 (F := Ideal)).win 3 |>.blk t).view.emb y) = _
  refine congrArg (V m c main_cst) ?_
  funext a; apply Fin.ext; fin_cases a <;> blk_simp <;> simp [win_at]

theorem emb4 (r l : Fin 256) : (((cfg0 (F := Ideal)).win 4).blk t).view.emb (ix3 0 r l) = ix3 (pb t) (row t r) (col t l) := by
  funext a; apply Fin.ext; fin_cases a <;> blk_simp <;> simp [win_at, pb, pc, pi, row, col]

theorem point_out (r l : Fin 256) : blockOut (ptAt m c t) (ix3 0 r l)
    = G (m ((c : Thread nD τ).loc main_arg0)) (m ((c : Thread nD τ).loc main_arg1)) (m ((c : Thread nD τ).loc main_arg2)) (ix3 (pb t) (row t r) (col t l)) := by
  unfold ptAt
  rw [iblk3_eq]
  refine (blockOut_apply _ _ _ (pi t).val (pi t).isLt _ (V_table m c) r l).trans ?_
  unfold G
  have hz : ZB (iblk m c 0 t) (iblk m c 1 t) (⟨l.val / 64, by omega⟩ : Fin 4) r = fun s => ∑ d : Fin 64,
      (HMul.hMul (α := EReal) (β := EReal) (γ := EReal) (m ((c : Thread nD τ).loc main_arg0) (ix3 (pb t) (row t r) (lane (col t l) d))) qscale)
        * (m ((c : Thread nD τ).loc main_arg1) (ix3 (pb t) (pos s) (lane (col t l) d))) := by
    funext s
    unfold ZB
    refine Finset.sum_congr rfl fun d _ => ?_
    rw [iblk0_apply, iblk1_apply, V_v4, V_v5]
    have e : col t (⟨(⟨l.val / 64, by omega⟩ : Fin 4).val * 64 + d.val, by show l.val / 64 * 64 + d.val < 256; omega⟩ : Fin 256) = lane (col t l) d := by
      apply Fin.ext
      show (pc t).val * 256 + (l.val / 64 * 64 + d.val) = ((pc t).val * 256 + l.val) / 64 * 64 + d.val
      omega
    rw [e]
  have hv : VB (iblk m c 2 t) l = fun s => m ((c : Thread nD τ).loc main_arg2) (ix3 (pb t) (pos s) (col t l)) := by
    funext s
    unfold VB
    rw [iblk2_apply, V_v6]
  rw [hz, hv]
  rfl

theorem arr_eq : (dats m 0 c).arrAt 4 (cfg0 (F := Ideal)).N
    = G (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after_4]
  have hy : y = (ix3 0 (y 1) (y 2) : S1x256x256.Idx) := by
    funext a; fin_cases a
    · exact Subsingleton.elim (α := Fin 1) _ _
    · rfl
    · rfl
  rw [hy]
  exact (point_out m c t (y 1) (y 2)).trans (congrArg _ (emb4 t (y 1) (y 2)).symm)

end Cert.KernelIdeal.SB

end
-- ==== Proof.Base.lean ====
/- From base two to base e: the weight the reference gives a position, a power of e of natural softplus values, is
   the power of two of the base-two ones. -/
module

public import proofs.«01_k».proof.Proof.Math

@[expose] public section

noncomputable section

namespace Cert.SBMath

open Idealize.ShloMosaic Finset

theorem lam_pos : 0 < lam := EReal.coe_pos.2 (inv_pos.2 log2_pos)

theorem mul_lam_mono : Monotone (fun x : EReal => x * lam) := fun _ _ h => mul_le_mul_of_nonneg_right h lam_nonneg

theorem max_mul_lam (x y : EReal) : max x y * lam = max (x * lam) (y * lam) := mul_lam_mono.map_max

theorem add_mul_lam (x y : EReal) : (x + y) * lam = x * lam + y * lam := by
  rw [mul_comm, mul_comm x, mul_comm y]
  exact EReal.left_distrib_of_nonneg_of_ne_top lam_nonneg lam_ne_top x y

theorem sum_mul_lam {ι : Type*} (s : Finset ι) (f : ι → EReal) : (∑ i ∈ s, f i) * lam = ∑ i ∈ s, f i * lam := by
  rw [mul_comm, mul_sum s f lam_nonneg lam_ne_top]
  exact sum_congr rfl fun i _ => mul_comm _ _

/-- A power of e as a power of two. -/
theorem exp_eq (x : EReal) : Ideal.exp x = Ideal.exp2 (x * lam) := by
  induction x with
  | bot => rw [EReal.bot_mul_of_pos lam_pos]; rfl
  | top => rw [EReal.top_mul_of_pos lam_pos]; rfl
  | coe x =>
    show ((Real.exp x : ℝ) : EReal) = Ideal.exp2 ((x : EReal) * (((Real.log 2)⁻¹ : ℝ) : EReal))
    rw [← EReal.coe_mul]
    show ((Real.exp x : ℝ) : EReal) = ((Real.rpow 2 (x * (Real.log 2)⁻¹) : ℝ) : EReal)
    congr 1
    show Real.exp x = (2 : ℝ) ^ (x * (Real.log 2)⁻¹)
    rw [Real.rpow_def_of_pos (by norm_num)]
    congr 1
    have := log2_pos.ne'
    field_simp

/-- The softplus. -/
def sp (z : EReal) : EReal := max z 0 + Ideal.log (1 + Ideal.exp (-max z (-z)))

theorem sp2_scale (z : EReal) : sp2 (z * lam) = sp z * lam := by
  unfold sp2 sp
  rw [add_mul_lam, max_mul_lam, zero_mul, exp_eq, EReal.neg_mul, max_mul_lam, EReal.neg_mul, zero_sub]

theorem sp_nonneg (z : EReal) : 0 ≤ sp z := by
  unfold sp
  refine add_nonneg (le_max_right _ _) (log_one_add_nonneg ?_)
  rw [exp_eq]; exact exp2_nonneg _

theorem neg_sp_le (z : EReal) : -sp z ≤ 0 := by simpa using sp_nonneg z

/-- The softplus of a real number, a real number. -/
theorem sp_coe (x : ℝ) : sp x = ((max x 0 + Real.log (1 + Real.exp (-max x (-x))) : ℝ) : EReal) := by
  have h1 : max (x : EReal) (-(x : EReal)) = ((max x (-x) : ℝ) : EReal) := by
    rw [← EReal.coe_neg]; exact (EReal.coe_strictMono.monotone.map_max).symm
  have h0 : max (x : EReal) 0 = ((max x 0 : ℝ) : EReal) := by
    rw [← EReal.coe_zero]; exact (EReal.coe_strictMono.monotone.map_max).symm
  unfold sp
  rw [h1, h0, ← EReal.coe_neg]
  show _ + Ideal.log (1 + ((Real.exp (-max x (-x)) : ℝ) : EReal)) = _
  rw [show (1 : EReal) = ((1 : ℝ) : EReal) from rfl, ← EReal.coe_add]
  show _ + (if 1 + Real.exp (-max x (-x)) ≤ 0 then (⊥ : EReal) else ((Real.log (1 + Real.exp (-max x (-x))) : ℝ) : EReal)) = _
  rw [if_neg (not_le.2 (by positivity)), ← EReal.coe_add]

theorem sp_top : sp ⊤ = ⊤ := by
  refine top_le_iff.1 ?_
  unfold sp
  have : 0 ≤ Ideal.log (1 + Ideal.exp (-max (⊤ : EReal) (-⊤))) := log_one_add_nonneg (by rw [exp_eq]; exact exp2_nonneg _)
  calc (⊤ : EReal) = max ⊤ 0 + 0 := by simp
    _ ≤ _ := by gcongr

theorem sp_bot : sp ⊥ = 0 := by
  unfold sp
  rw [show max (⊥ : EReal) 0 = 0 from max_eq_right bot_le, show (-⊥ : EReal) = ⊤ from rfl, show max (⊥ : EReal) ⊤ = ⊤ from max_eq_right bot_le,
    show Ideal.exp (-⊤) = 0 from rfl, add_zero, zero_add]
  show (if (1 : ℝ) ≤ 0 then (⊥ : EReal) else ((Real.log 1 : ℝ) : EReal)) = 0
  rw [if_neg (by norm_num), Real.log_one]; rfl

/-- The two softplus values of a number and of its opposite differ by the number, below any sum that has one of
    them as a term. -/
theorem logit_add (z r : EReal) : (-sp (-z) + (-sp z + r)) - -sp z = z + (-sp z + r) := by
  induction z with
  | bot =>
    rw [show (-⊥ : EReal) = ⊤ from rfl, sp_top, sp_bot, show (-⊤ : EReal) = ⊥ from rfl]
    simp
  | top =>
    rw [show (-⊤ : EReal) = ⊥ from rfl, sp_top, sp_bot, show (-⊤ : EReal) = ⊥ from rfl]
    simp
  | coe x =>
    rw [← EReal.coe_neg, sp_coe, sp_coe, neg_neg]
    induction r with
    | bot => simp
    | top =>
      simp only [← EReal.coe_neg, sub_eq_add_neg]
      rw [EReal.coe_add_top, EReal.coe_add_top, EReal.coe_add_top, EReal.top_add_coe]
    | coe y =>
      rw [max_comm (-x) x]
      have h : max (-x) 0 = max x 0 - x := by
        rcases le_total x 0 with h | h
        · rw [max_eq_left (by linarith), max_eq_right h]; ring
        · rw [max_eq_right (by linarith), max_eq_left h]; ring
      rw [h]
      norm_cast
      ring

/-- The weight of a position before the last: the reference's power of e is the power of two. -/
theorem weight_eq (z : ℕ → EReal) {s t : ℕ} (h : s < t) :
    Ideal.exp ((-sp (-z s) + ∑ x ∈ Ico s t, -sp (z x)) - -sp (z s)) = Ideal.exp2 (z s * lam + S (fun x => z x * lam) t s) := by
  rw [sum_eq_sum_Ico_succ_bot h, logit_add, ← sum_eq_sum_Ico_succ_bot h (fun x => -sp (z x)), exp_eq, add_mul_lam, sum_mul_lam]
  unfold S
  congr 2
  refine sum_congr rfl fun x _ => ?_
  rw [sp2_scale, EReal.neg_mul]

/-- The sum of the later positions up to the end, those not before the query left out. -/
theorem masked_later (f : ℕ → EReal) {s t n : ℕ} (hs : s ≤ t) (ht : t ≤ n) :
    ∑ x ∈ Ico s n, (if x < t then f x else 0) = ∑ x ∈ Ico s t, f x := by
  rw [← sum_Ico_consecutive _ hs ht, sum_eq_zero (s := Ico t n), add_zero]
  · exact sum_congr rfl fun x hx => if_pos (mem_Ico.1 hx).2
  · exact fun x hx => if_neg (not_lt.2 (mem_Ico.1 hx).1)

/-- A row of the reference is the row of the weighted sum. -/
theorem row_eq (z V : ℕ → EReal) {t n : ℕ} (ht : t ≤ n) :
    ∑ k : Fin n, V k.val * (if k.val < t then
        Ideal.exp ((-sp (-z k.val) + ∑ x ∈ Ico k.val n, (if x < t then -sp (z x) else 0)) - -sp (z k.val)) else 0)
      = acc (fun x => z x * lam) V t 0 := by
  have h := sum_tile n (fun s => Ideal.exp2 (z s * lam + S (fun x => z x * lam) t s) * V s) 0 0 t ht
  rw [zero_add] at h
  unfold acc
  rw [show 0 + t = t from zero_add t] at h
  rw [← h]
  refine sum_congr rfl fun k _ => ?_
  by_cases hk : k.val < t
  · rw [if_pos hk, if_pos ⟨Nat.zero_le _, hk⟩, masked_later _ hk.le ht, weight_eq z hk, mul_comm, zero_add]
  · rw [if_neg hk, if_neg fun h => hk h.2, mul_zero]

end Cert.SBMath

end
-- ==== Proof.RI.Window.lean ====
/-
  A sum over the windows of an array's last axis, each window from its own place to the end: the sum of the elements
  from that place on.
-/
module

public import Idealize.ShloMosaic.PureOps.Ideal
public import Idealize.ShloMosaic.PureOps.Ideal.Laws
public import Idealize.ShloMosaic.Lib.Pointwise

@[expose] public section

noncomputable section

namespace Cert.SBMath

open Idealize.ShloMosaic Idealize.ShloMosaic.Pointwise Finset

theorem foldl_add {n : ℕ} (f : Fin n → EReal) (v : EReal) :
    (List.finRange n).foldl (fun r k => r + f k) v = v + ∑ k, f k := by
  rw [← List.ofFn_id, ← List.foldl_map, ← List.sum_ofFn]
  simp only [List.map_ofFn, Function.comp_def, id]
  generalize List.ofFn f = l
  induction l generalizing v with
  | nil => simp
  | cons a l ih => rw [List.foldl_cons, ih, List.sum_cons, add_assoc]

/-- The positions of a window along the last of four axes. -/
def lastEquiv (n : ℕ) : (⟨4, ![1, 1, 1, n]⟩ : Shape).Idx ≃ Fin n where
  toFun i := i 3
  invFun k := ix4 0 0 0 k
  left_inv i := by
    funext a; fin_cases a
    · exact Subsingleton.elim (α := Fin 1) _ _
    · exact Subsingleton.elim (α := Fin 1) _ _
    · exact Subsingleton.elim (α := Fin 1) _ _
    · rfl
  right_inv _ := rfl

theorem window_sum {A B C n : ℕ} (h) (x : (⟨4, ![A, B, C, n]⟩ : Shape).Idx → EReal) (a : Fin A) (b : Fin B) (c : Fin C) (s : Fin n) :
    Ideal.hostReduceWindowAdd (s := ⟨4, ![A, B, C, n]⟩) (t := ⟨4, ![A, B, C, n]⟩) ![1, 1, 1, n] ![1, 1, 1, 1] ![0, 0, 0, 0] ![0, 0, 0, n - 1] h x 0 (ix4 a b c s)
      = ∑ k ∈ Ico s.val n, (if hk : k < n then x (ix4 a b c ⟨k, hk⟩) else 0) := by
  unfold Ideal.hostReduceWindowAdd Host.reduceWindow
  refine (foldl_add _ _).trans ?_
  rw [zero_add]
  let T : ℕ → EReal := fun k => if hk : s.val + k < n then x (ix4 a b c ⟨s.val + k, hk⟩) else 0
  have hpos : ∀ k (hk : s.val + k < n), T k = x (ix4 a b c ⟨s.val + k, hk⟩) := fun k hk => dif_pos hk
  have hneg : ∀ k, ¬(s.val + k < n) → T k = 0 := fun k hk => dif_neg hk
  let W : Shape := ⟨4, ![1, 1, 1, n]⟩
  refine (sum_congr rfl (g := fun k : Fin W.numel => T (W.rowMajor.symm k (3 : Fin 4)).val) fun k _ => ?_).trans ?_
  · have h0 : (W.rowMajor.symm k (0 : Fin 4)).val = 0 := by
      have : (W.rowMajor.symm k (0 : Fin 4)).val < 1 := (W.rowMajor.symm k (0 : Fin 4)).isLt; omega
    have h1 : (W.rowMajor.symm k (1 : Fin 4)).val = 0 := by
      have : (W.rowMajor.symm k (1 : Fin 4)).val < 1 := (W.rowMajor.symm k (1 : Fin 4)).isLt; omega
    have h2 : (W.rowMajor.symm k (2 : Fin 4)).val = 0 := by
      have : (W.rowMajor.symm k (2 : Fin 4)).val < 1 := (W.rowMajor.symm k (2 : Fin 4)).isLt; omega
    by_cases hk : s.val + (W.rowMajor.symm k (3 : Fin 4)).val < n
    · refine (dif_pos fun e => ?_).trans ((congrArg x ?_).trans (hpos _ hk).symm)
      · fin_cases e
        · exact ⟨Nat.zero_le _, by show a.val * 1 + (W.rowMajor.symm k (0 : Fin 4)).val - 0 < A; omega⟩
        · exact ⟨Nat.zero_le _, by show b.val * 1 + (W.rowMajor.symm k (1 : Fin 4)).val - 0 < B; omega⟩
        · exact ⟨Nat.zero_le _, by show c.val * 1 + (W.rowMajor.symm k (2 : Fin 4)).val - 0 < C; omega⟩
        · exact ⟨Nat.zero_le _, by show s.val * 1 + (W.rowMajor.symm k (3 : Fin 4)).val - 0 < n; omega⟩
      · funext e; apply Fin.ext; fin_cases e
        · show a.val * 1 + (W.rowMajor.symm k (0 : Fin 4)).val - 0 = a.val; omega
        · show b.val * 1 + (W.rowMajor.symm k (1 : Fin 4)).val - 0 = b.val; omega
        · show c.val * 1 + (W.rowMajor.symm k (2 : Fin 4)).val - 0 = c.val; omega
        · show s.val * 1 + (W.rowMajor.symm k (3 : Fin 4)).val - 0 = s.val + (W.rowMajor.symm k (3 : Fin 4)).val; omega
    · refine (dif_neg fun hin => hk ?_).trans (hneg _ hk).symm
      have := (hin (3 : Fin 4)).2
      change s.val * 1 + (W.rowMajor.symm k (3 : Fin 4)).val - 0 < n at this
      omega
  rw [Equiv.sum_comp W.rowMajor.symm (fun w : W.Idx => T (w (3 : Fin 4)).val), ← Equiv.sum_comp (lastEquiv n).symm]
  refine (Fin.sum_univ_eq_sum_range T n).trans ?_
  rw [← sum_range_add_sum_Ico _ (Nat.sub_le n s.val), sum_eq_zero (s := Ico (n - s.val) n), add_zero, sum_Ico_eq_sum_range]
  · exact fun k hk => dif_neg (by have := (mem_Ico.1 hk).1; omega)

end Cert.SBMath

end
-- ==== Proof.RI.Value.lean ====
/-
  The reference's result at an index, as the weighted sum of the values over the earlier positions.
-/
module

public import proofs.«01_k».proof.Proof.Gen.ReferenceIdeal.Read
public import proofs.«01_k».proof.Proof.Base
public import proofs.«01_k».proof.Proof.RI.Window

@[expose] public section

set_option maxRecDepth 16384

noncomputable section

namespace Cert.ReferenceIdeal.Read

open Cert.ReferenceIdeal Cert.ReferenceIdeal.Gen Cert.SBMath
open Idealize.ShloMosaic Idealize.ShloMosaic.TcCoe Idealize.ShloMosaic.Pointwise

variable (x0 x1 x2 : (⟨S2x8192x512, .f32⟩ : BufTy).Contents (Elt Ideal))

/-- One eighth, as the program spells it. -/
def eighth : EReal := Ideal.ofBits .f32 0x3E000000#32

def ln (h : Fin 8) (d : Fin 64) : Fin 512 := ⟨h.val * 64 + d.val, by omega⟩

theorem idx0_eq (b : Fin 2) (t : Fin 8192) (h : Fin 8) (d : Fin 64) : idx_main_v0 (ix4 b t h d) = ix3 b t (ln h d) := by
  funext a; apply Fin.ext; fin_cases a
  · show (((b.val * 8192 + t.val) * 8 + h.val) * 64 + d.val) / 4194304 = b.val; omega
  · show (((b.val * 8192 + t.val) * 8 + h.val) * 64 + d.val) / 512 % 8192 = t.val; omega
  · show (((b.val * 8192 + t.val) * 8 + h.val) * 64 + d.val) % 512 = h.val * 64 + d.val; omega

/-- The score of query `t` at key `s`. -/
def score (b : Fin 2) (h : Fin 8) (t s : Fin 8192) : EReal :=
  (∑ d : Fin 64, HMul.hMul (α := EReal) (β := EReal) (γ := EReal) (x0 (ix3 b t (ln h d))) (x1 (ix3 b s (ln h d)))) * eighth

variable (b : Fin 2) (h : Fin 8) (t s : Fin 8192)

theorem v5_eq : val_main_v5 (F := Ideal) x0 x1 (ix4 b h t s) = score x0 x1 b h t s := by
  rw [val_main_v5_apply, val_main_v3_apply, val_main_v4_apply, val_main_cst_apply]
  unfold score
  show HMul.hMul (α := EReal) (β := EReal) (γ := EReal) _ _ = _
  congr 1
  refine Finset.sum_congr rfl fun d _ => ?_
  rw [val_main_v0_apply, val_main_v1_apply]
  congr 1
  · exact congrArg x0 (idx0_eq b t h d)
  · exact congrArg x1 (idx0_eq b s h d)

theorem cmp_self (x : EReal) : Ideal.cmp .une x x = 0#1 := by
  unfold Ideal.cmp; simp

theorem slt_pos (k s : Fin 8192) : IntOp.cmpi CmpIPredicate.slt (BitVec.ofNat 32 k.val) (BitVec.ofNat 32 s.val) = if k.val < s.val then 1#1 else 0#1 := by
  have toInt : ∀ k : Fin 8192, (BitVec.ofNat 32 k.val).toInt = k.val := fun k => by
    have h : (BitVec.ofNat 32 k.val).toNat = k.val := by rw [BitVec.toNat_ofNat, Nat.mod_eq_of_lt (by omega)]
    rw [BitVec.toInt_eq_toNat_of_lt (by rw [h]; omega), h]
  show BitVec.ofBool (BitVec.slt _ _) = _
  rw [BitVec.slt, toInt, toInt]
  by_cases h : k.val < s.val
  · rw [if_pos h, decide_eq_true (by exact_mod_cast h)]; rfl
  · rw [if_neg h, decide_eq_false (by exact_mod_cast h)]; rfl

theorem select_if (p : Prop) [Decidable p] (x y : EReal) : Scalar.select (if p then 1#1 else 0#1) x y = if p then x else y := by
  by_cases h : p
  · rw [if_pos h, if_pos h]; rfl
  · rw [if_neg h, if_neg h]; rfl

theorem mask1 : val_main_call1_v1 (F := Ideal) (ix4 b h t s) = if s.val < t.val then 1#1 else 0#1 := by
  rw [val_main_call1_v1_apply, val_main_v12_apply, val_main_v11_apply, val_main_v9_apply, val_main_v10_apply, val_main_v7_apply, val_main_v8_apply,
    val_main_v6_apply, val_main_v6_apply]
  exact slt_pos s t
theorem mask4 : val_main_call4_v1 (F := Ideal) (ix4 b h t s) = if s.val < t.val then 1#1 else 0#1 := by
  rw [val_main_call4_v1_apply, val_main_v12_apply, val_main_v11_apply, val_main_v9_apply, val_main_v10_apply, val_main_v7_apply, val_main_v8_apply,
    val_main_v6_apply, val_main_v6_apply]
  exact slt_pos s t

/-- The softplus as the program spells it. -/
theorem sp_spelt (x : EReal) : Scalar.select (Ideal.cmp .une (x - Ideal.ofBits .f32 0#32) (x - Ideal.ofBits .f32 0#32)) (x + Ideal.ofBits .f32 0#32)
    (max x (Ideal.ofBits .f32 0#32) + Ideal.log1p (Ideal.exp (-max (x - Ideal.ofBits .f32 0#32) (-(x - Ideal.ofBits .f32 0#32))))) = sp x := by
  rw [cmp_self, Ideal.ofBits_zero_f32, sub_zero]
  rfl

theorem v14_eq : val_main_v14 (F := Ideal) x0 x1 (ix4 b h t s) = -sp (score x0 x1 b h t s) := by
  have e : val_main_call0_v0 (F := Ideal) x0 x1 (ix4 b h t s) = score x0 x1 b h t s := by
    rw [← v5_eq]; exact neg_neg (G := EReal) _
  rw [← e]
  exact congrArg (Neg.neg (α := EReal)) (sp_spelt _)

theorem v16_eq : val_main_v16 (F := Ideal) x0 x1 (ix4 b h t s) = -sp (-score x0 x1 b h t s) := by
  have e : val_main_call2_v0 (F := Ideal) x0 x1 (ix4 b h t s) = -score x0 x1 b h t s := by
    rw [← v5_eq]; rfl
  rw [← e]
  exact congrArg (Neg.neg (α := EReal)) (sp_spelt _)

theorem v15_eq : val_main_v15 (F := Ideal) x0 x1 (ix4 b h t s) = if s.val < t.val then -sp (score x0 x1 b h t s) else 0 := by
  rw [val_main_v15_apply, mask1, v14_eq, val_main_call1_v2_apply]
  refine (select_if _ _ _).trans ?_
  congr 1
  exact Ideal.ofBits_zero_f32

def pos (k : ℕ) : Fin 8192 := ⟨k % 8192, Nat.mod_lt _ (by decide)⟩
theorem pos_val (k : Fin 8192) : pos k.val = k := Fin.ext (Nat.mod_eq_of_lt k.isLt)

theorem v17_eq : val_main_v17 (F := Ideal) x0 x1 (ix4 b h t s)
    = ∑ x ∈ Finset.Ico s.val 8192, if x < t.val then -sp (score x0 x1 b h t (pos x)) else 0 := by
  have e := window_sum reduceWindows_S2x8x8192x8192_S2x8x8192x8192_w1s1p0_0_w1s1p0_0_w1s1p0_0_w8192s1p0_8191 (val_main_v15 (F := Ideal) x0 x1) b h t s
  unfold val_main_v17 Host.reduceWindowAdd
  rw [val_main_call3_v0_apply, val_main_call3_cst_apply, show (FloatOps.ofBits .f32 0x00000000#32 : Ideal .f32) = (0 : EReal) from Ideal.ofBits_zero_f32]
  refine Eq.trans e ?_
  refine Finset.sum_congr rfl fun k hk => ?_
  have hk' : k < 8192 := (Finset.mem_Ico.1 hk).2
  rw [dif_pos hk', v15_eq, show (⟨k, hk'⟩ : Fin 8192) = pos k from (pos_val ⟨k, hk'⟩).symm, show (pos k).val = k from Nat.mod_eq_of_lt hk']

theorem v21_eq : val_main_v21 (F := Ideal) x0 x1 (ix4 b h t s) = if s.val < t.val then
      Ideal.exp ((-sp (-score x0 x1 b h t (pos s.val)) + ∑ x ∈ Finset.Ico s.val 8192, if x < t.val then -sp (score x0 x1 b h t (pos x)) else 0)
        - -sp (score x0 x1 b h t (pos s.val))) else 0 := by
  rw [val_main_v21_apply, mask4, val_main_v20_apply, val_main_v19_apply, val_main_v18_apply, v15_eq, v16_eq, v17_eq, val_main_call4_v2_apply]
  refine (select_if _ _ _).trans ?_
  by_cases hs : s.val < t.val
  · rw [if_pos hs, if_pos hs, if_pos hs, pos_val]; rfl
  · rw [if_neg hs, if_neg hs]; exact Ideal.ofBits_zero_f32

theorem ridx22 (d : Fin 64) (k : Fin 8192) : ridx_main_v22 (ix4 b h d t) k = ix4 b h t k := by
  funext a; fin_cases a <;> rfl

theorem lidx22 (d : Fin 64) (k : Fin 8192) : lidx_main_v22 (ix4 b h d t) k = ix4 b k h d := by
  funext a; fin_cases a <;> rfl

theorem v22_eq (d : Fin 64) : val_main_v22 (F := Ideal) x0 x1 x2 (ix4 b h d t)
    = acc (fun s => score x0 x1 b h t (pos s) * lam) (fun s => x2 (ix3 b (pos s) (ln h d))) t.val 0 := by
  rw [val_main_v22_apply, ← row_eq (fun s => score x0 x1 b h t (pos s)) (fun s => x2 (ix3 b (pos s) (ln h d))) t.isLt.le]
  refine Finset.sum_congr rfl fun k _ => ?_
  refine congrArg₂ (HMul.hMul (α := EReal) (β := EReal) (γ := EReal)) ?_ ?_
  · rw [lidx22, val_main_v2_apply, pos_val]
    exact congrArg x2 (idx0_eq b k h d)
  · exact (congrArg (val_main_v21 (F := Ideal) x0 x1) (ridx22 b h t d k)).trans (v21_eq x0 x1 b h t k)

/-- The reference's result at an index. -/
theorem v25_eq (l : Fin 512) : val_main_v25 (F := Ideal) x0 x1 x2 (ix3 b t l)
    = acc (fun s => score x0 x1 b ⟨l.val / 64, by omega⟩ t (pos s) * lam) (fun s => x2 (ix3 b (pos s) l)) t.val 0 := by
  have e := v22_eq x0 x1 x2 b ⟨l.val / 64, by omega⟩ t ⟨l.val % 64, by omega⟩
  have hl : ln ⟨l.val / 64, by omega⟩ ⟨l.val % 64, by omega⟩ = l := Fin.ext (by show l.val / 64 * 64 + l.val % 64 = l.val; omega)
  rw [hl] at e
  rw [← e, val_main_v25_apply, val_main_v24_apply, val_main_v23_apply]
  show val_main_v22 (F := Ideal) x0 x1 x2 _ = _
  congr 1
  funext a; apply Fin.ext; fin_cases a
  · show ((b.val * 8192 + t.val) * 512 + l.val) / 4194304 = b.val; omega
  · show ((b.val * 8192 + t.val) * 512 + l.val) / 64 % 8 = l.val / 64; omega
  · show ((b.val * 8192 + t.val) * 512 + l.val) % 64 = l.val % 64; omega
  · show ((b.val * 8192 + t.val) * 512 + l.val) / 512 % 8192 = t.val; omega

end Cert.ReferenceIdeal.Read

end
-- ==== Proof.Equal.lean ====
/-
  The kernel's array and the reference's result are one function of the queries, keys and values.
-/
module

public import proofs.«01_k».proof.Proof.KI.Out
public import proofs.«01_k».proof.Proof.RI.Value

@[expose] public section

set_option maxRecDepth 16384

noncomputable section

namespace Cert.Proof

open Cert.SBMath
open Idealize.ShloMosaic Idealize.ShloMosaic.TcCoe Idealize.ShloMosaic.Pointwise
open Cert.KernelIdeal.SB (qscale lane G)
open Cert.ReferenceIdeal.Read (eighth ln score)

theorem eighth_eq : eighth = ((1 / 8 : ℝ) : EReal) := by
  unfold eighth
  have h : BitVec.extractLsb' 31 1 1040187392#32 = 0#1 := by decide
  norm_num [Ideal.ofBits, Ideal.ieee, Nat.shiftRight_eq_div_pow, h]

theorem two_eq : Ideal.ofBits .f32 0x40000000#32 = ((2 : ℝ) : EReal) := by
  have h : BitVec.extractLsb' 31 1 1073741824#32 = 0#1 := by decide
  norm_num [Ideal.ofBits, Ideal.ieee, Nat.shiftRight_eq_div_pow, h]

theorem qscale_eq : qscale = eighth * lam := by
  unfold qscale
  rw [two_eq]
  show Ideal.div eighth (if (2 : ℝ) ≤ 0 then (⊥ : EReal) else ((Real.log 2 : ℝ) : EReal)) = _
  rw [if_neg (by norm_num)]
  unfold Ideal.div
  rw [if_neg (by exact_mod_cast log2_pos.ne')]
  rfl

theorem scale_out {ι : Type*} (s : Finset ι) (q k : ι → EReal) :
    ∑ d ∈ s, (q d * qscale) * k d = ((∑ d ∈ s, q d * k d) * eighth) * lam := by
  rw [qscale_eq, mul_assoc, mul_comm (∑ d ∈ s, q d * k d),
    mul_sum s _ (mul_nonneg (by rw [eighth_eq]; exact EReal.coe_nonneg.2 (by norm_num)) lam_nonneg)
      (by rw [eighth_eq]; unfold lam; rw [← EReal.coe_mul]; exact EReal.coe_ne_top _)]
  refine Finset.sum_congr rfl fun d _ => ?_
  rw [mul_comm (q d), mul_assoc]

theorem equal (Q K W : (⟨3, ![2, 8192, 512]⟩ : Shape).Idx → EReal) :
    G Q K W = Cert.ReferenceIdeal.Read.val_main_v25 (F := Ideal) Q K W := by
  funext j
  obtain ⟨b, t, l, rfl⟩ : ∃ (b : Fin 2) (t : Fin 8192) (l : Fin 512), j = ix3 b t l :=
    ⟨j 0, j 1, j 2, by funext a; fin_cases a <;> rfl⟩
  refine Eq.trans ?_ (Cert.ReferenceIdeal.Read.v25_eq Q K W b t l).symm
  refine congrArg (fun Z => acc Z _ t.val 0) ?_
  funext s
  exact scale_out Finset.univ (fun d : Fin 64 => Q (ix3 b t (lane l d))) (fun d : Fin 64 => K (ix3 b (Cert.KernelIdeal.SB.pos s) (lane l d)))

end Cert.Proof

end
-- ==== Proof.Ffn.Vec.lean ====
/-
  The feed-forward block on a block of 1024 rows, as vectors: the norm, one chunk of 256 hidden units, and the sum of the
  eleven chunks. Each of the four calls' stored block is one of the two combinations at the end.
-/
module

public import proofs.«01_k».proof.Proof.Gen.Kernel2Ideal.Frame
public import Idealize.ShloMosaic.Lib.Pointwise

@[expose] public section

noncomputable section

namespace Cert.Ffn

open Cert.Kernel2Ideal Cert.Kernel2Ideal.Gen
open Idealize.ShloMosaic

/-- The rows divided by their root mean square, times the gain. -/
def normV (v : FVec Ideal S1024x1024 .f32) (g : Vec Ideal S1x1024 .f32) : FVec Ideal S1024x1024 .f32 :=
  mulf (mulf v (broadcastTo S1024x1024 (rsqrt (addf (divf (shapeCast S1024x1
      (multiReduction .add [1] S1024 (mulf v v) 0x00000000#32 reduces_S1024x1024_S1024 (.inl rfl) rfl) shapeCasts_S1024_S1024x1)
      (broadcast S1024x1 (Scalar.ofBits .f32 0x44800000#32))) (broadcast S1024x1 (Scalar.ofBits .f32 0x358637BD#32))))
      broadcasts_S1024x1_S1024x1024))
    (broadcastTo S1024x1024 (shapeCast S1x1024 g shapeCasts_S1x1024_S1x1024) broadcasts_S1x1024_S1024x1024)

/-- The rows times 256 columns of the first projection. -/
def upV (xn : FVec Ideal S1024x1024 .bf16) (w : Vec Ideal S1x1024x256 .bf16) : FVec Ideal S1024x256 .f32 :=
  matmul dot_S1024x1024_S1024x256_S1024x256_1_0_0_1_n_n none xn
    (shapeCast S1024x256 w shapeCasts_S1x1024x256_S1024x256 : FVec Ideal S1024x256 .bf16)
    (constant S1024x256 .f32 0x00000000#32)

/-- The gate through `x / (1 + exp (-x))`. -/
def siluV (v : FVec Ideal S1024x256 .f32) : FVec Ideal S1024x256 .f32 :=
  mulf v (divf (broadcast S1024x256 (Scalar.ofBits .f32 0x3F800000#32)) (addf (broadcast S1024x256 (Scalar.ofBits .f32 0x3F800000#32))
    (exp (subf (broadcast S1024x256 (Scalar.ofBits .f32 0x00000000#32)) v))))

/-- What one chunk of 256 hidden units adds to the rows. -/
def chunkV (xn : FVec Ideal S1024x1024 .bf16) (wg wu : Vec Ideal S1x1024x256 .bf16) (wo : Vec Ideal S1x256x1024 .f32) :
    FVec Ideal S1024x1024 .f32 :=
  matmul dot_S1024x256_S256x1024_S1024x1024_1_0_0_1_n_n none (truncf .bf16 (mulf (siluV (upV xn wg)) (upV xn wu)) bitsLt_bf16_f32)
    (truncf .bf16 (shapeCast S256x1024 wo shapeCasts_S1x256x1024_S256x1024 : FVec Ideal S256x1024 .f32) bitsLt_bf16_f32) (constant S1024x1024 .f32 0x00000000#32)

theorem col_inb (o : ℕ) (h : o ≤ 5376) : ∀ a, (![0, 0, o] : Fin 3 → ℕ) a + S1x1024x256.size a ≤ S1x1024x5632.size a := by
  intro a; fin_cases a
  · exact le_refl 1
  · exact le_refl 1024
  · show o + 256 ≤ 5632; omega
theorem row_inb (o : ℕ) (h : o ≤ 2560) : ∀ a, (![0, o, 0] : Fin 3 → ℕ) a + S1x256x1024.size a ≤ S1x2816x1024.size a := by
  intro a; fin_cases a
  · exact le_refl 1
  · show o + 256 ≤ 2816; omega
  · exact le_refl 1024

/-- Chunk `n` of the block's rows. -/
def partV (xn : FVec Ideal S1024x1024 .bf16) (wi : Vec Ideal S1x1024x5632 .bf16) (wo : Vec Ideal S1x2816x1024 .f32) (n : ℕ) (h : n < 11) :
    FVec Ideal S1024x1024 .f32 :=
  chunkV xn (View.ld wi (Rect.unit (s := S1x1024x5632) ![0, 0, n * 256] S1x1024x256.size (col_inb (n * 256) (by omega))))
    (View.ld wi (Rect.unit (s := S1x1024x5632) ![0, 0, 2816 + n * 256] S1x1024x256.size (col_inb (2816 + n * 256) (by omega))))
    (View.ld wo (Rect.unit (s := S1x2816x1024) ![0, n * 256, 0] S1x256x1024.size (row_inb (n * 256) (by omega))))

/-- The first `n + 1` chunks added from the left. -/
def sumV (xn : FVec Ideal S1024x1024 .bf16) (wi : Vec Ideal S1x1024x5632 .bf16) (wo : Vec Ideal S1x2816x1024 .f32) :
    (n : ℕ) → n < 11 → FVec Ideal S1024x1024 .f32
  | 0, h => partV xn wi wo 0 h
  | n + 1, h => addf (sumV xn wi wo n (by omega)) (partV xn wi wo (n + 1) h)

/-- The rows plus half of the feed-forward block on them. -/
def ffnV (v : FVec Ideal S1024x1024 .f32) (g : Vec Ideal S1x1024 .f32) (wi : Vec Ideal S1x1024x5632 .bf16)
    (wo : Vec Ideal S1x2816x1024 .f32) : FVec Ideal S1024x1024 .f32 :=
  addf v (mulf (broadcast S1024x1024 (Scalar.ofBits .f32 0x3F000000#32)) (sumV (truncf .bf16 (normV v g) bitsLt_bf16_f32) wi wo 10 (by decide)))

/-- One half of the mixer's rows through its half of the output projection. -/
def halfV (a : FVec Ideal S1024x512 .bf16) (w : Vec Ideal S512x1024 .bf16) : FVec Ideal S1024x1024 .f32 :=
  matmul dot_S1024x512_S512x1024_S1024x1024_1_0_0_1_n_n none a (shapeCast S512x1024 w shapeCasts_S512x1024_S512x1024 : FVec Ideal S512x1024 .bf16)
    (constant S1024x1024 .f32 0x00000000#32)

/-- The rows plus the mixer's two halves through the output projection. -/
def mixV (x : FVec Ideal S1024x1024 .f32) (a b : FVec Ideal S1024x512 .bf16) (w : Vec Ideal S1024x1024 .bf16) : FVec Ideal S1024x1024 .f32 :=
  addf (addf x (halfV a (View.ld w (Rect.unit (s := S1024x1024) ![0, 0] S512x1024.size inb_S1024x1024_S512x1024_0_0))))
    (halfV b (View.ld w (Rect.unit (s := S1024x1024) ![512, 0] S512x1024.size inb_S1024x1024_S512x1024_512_0)))

end Cert.Ffn

end
-- ==== Proof.Ffn.Maths.lean ====
/-
  One row through the feed-forward block, as plain mathematics over the extended reals.
-/
module

public import Idealize.ShloMosaic.Lib.Pointwise

@[expose] public section

noncomputable section

namespace Cert.Ffn

open Idealize.ShloMosaic

/-- The row's length, the norm's guard and one half, as the programs spell them. -/
def len : EReal := Ideal.ofBits .f32 0x44800000#32
def guard : EReal := Ideal.ofBits .f32 0x358637BD#32
def half : EReal := Ideal.ofBits .f32 0x3F000000#32

theorem one_eq : Ideal.ofBits .f32 0x3F800000#32 = 1 := by
  have h : BitVec.extractLsb' 31 1 0x3F800000#32 = 0#1 := by decide
  norm_num [Ideal.ofBits, Ideal.ieee, Nat.shiftRight_eq_div_pow, h]

/-- A row divided by its root mean square, times the gain. -/
def nrm (x g : Fin 1024 → EReal) (k : Fin 1024) : EReal :=
  x k * Ideal.rsqrt (Ideal.div (∑ i, x i * x i) len + guard) * g k

def silu (z : EReal) : EReal := z * Ideal.div 1 (1 + Ideal.exp (0 - z))

/-- Hidden unit `j` of a row: its gate through `silu`, times its value. -/
def hid (x : Fin 1024 → EReal) (wi : Fin 1024 → Fin 5632 → EReal) (j : Fin 2816) : EReal :=
  silu (∑ i, x i * wi i ⟨j.val, by omega⟩) * ∑ i, x i * wi i ⟨2816 + j.val, by omega⟩

/-- The row plus half of the feed-forward block on its norm. -/
def ffn (x g : Fin 1024 → EReal) (wi : Fin 1024 → Fin 5632 → EReal) (wo : Fin 2816 → Fin 1024 → EReal) (k : Fin 1024) : EReal :=
  x k + half * ∑ j, hid (nrm x g) wi j * wo j k

/-- The row plus the mixer's two halves through the output projection. -/
def mix (x : Fin 1024 → EReal) (a b : Fin 512 → EReal) (w : Fin 1024 → Fin 1024 → EReal) (k : Fin 1024) : EReal :=
  x k + (∑ i : Fin 512, a i * w ⟨i.val, by omega⟩ k) + ∑ i : Fin 512, b i * w ⟨512 + i.val, by omega⟩ k

/-- A sum over the 1024 joined entries is the two halves' sums. -/
theorem sum_joined (f : Fin 1024 → EReal) :
    ∑ i, f i = (∑ i : Fin 512, f ⟨i.val, by omega⟩) + ∑ i : Fin 512, f ⟨512 + i.val, by omega⟩ :=
  Fin.sum_univ_add (a := 512) (b := 512) f

/-- The terms of a sum over the hidden units, continued by zero. -/
def ext (f : Fin 2816 → EReal) (j : ℕ) : EReal := if h : j < 2816 then f ⟨j, h⟩ else 0

theorem sum_ext (f : Fin 2816 → EReal) : ∑ j ∈ Finset.range 2816, ext f j = ∑ j, f j := by
  rw [Finset.sum_range]
  exact Finset.sum_congr rfl fun j _ => dif_pos j.isLt

/-- One more chunk of 256 terms. -/
theorem sum_chunk (f : Fin 2816 → EReal) (n : ℕ) (h : n < 11) :
    ∑ j ∈ Finset.range ((n + 1) * 256), ext f j
      = (∑ j ∈ Finset.range (n * 256), ext f j) + ∑ x : Fin 256, f ⟨n * 256 + x.val, by omega⟩ := by
  rw [Nat.succ_mul, Finset.sum_range_add, ← Fin.sum_univ_eq_sum_range (fun x => ext f (n * 256 + x)) 256]
  exact congrArg _ (Finset.sum_congr rfl fun x _ => dif_pos (by omega))

end Cert.Ffn

end
-- ==== Proof.Ffn.Read.lean ====
/-
  The vector forms read at a row and a column: the plain mathematics of that row.
-/
module

public import proofs.«01_k».proof.Proof.Ffn.Vec
public import proofs.«01_k».proof.Proof.Ffn.Maths
public import Idealize.ShloMosaic.Lib.Pipeline.ValueKit

@[expose] public section

noncomputable section

namespace Cert.Ffn

open Cert.Kernel2Ideal Cert.Kernel2Ideal.Gen
open Idealize.ShloMosaic Idealize.ShloMosaic.Pointwise

/-- Row `r` of a block. -/
def rowOf (v : FVec Ideal S1024x1024 .f32) (r : Fin 1024) : Fin 1024 → EReal := fun k => v (ix2 r k)
def gainOf (g : Vec Ideal S1x1024 .f32) : Fin 1024 → EReal := fun k => g (ix2 0 k)
def inOf (w : Vec Ideal S1x1024x5632 .bf16) : Fin 1024 → Fin 5632 → EReal := fun i j => w (ix3 0 i j)
def outOf (w : Vec Ideal S1x2816x1024 .f32) : Fin 2816 → Fin 1024 → EReal := fun j k => w (ix3 0 j k)
def halfOf (a : Vec Ideal S1024x512 .bf16) (r : Fin 1024) : Fin 512 → EReal := fun k => a (ix2 r k)
def mixOf (w : Vec Ideal S1024x1024 .bf16) : Fin 1024 → Fin 1024 → EReal := fun i k => w (ix2 i k)

theorem normV_apply (v : FVec Ideal S1024x1024 .f32) (g : Vec Ideal S1x1024 .f32) (r k : Fin 1024) :
    normV v g (ix2 r k) = nrm (rowOf v r) (gainOf g) k := by
  unfold normV
  pointwise
  rfl

theorem upV_apply (xn : FVec Ideal S1024x1024 .bf16) (w : Vec Ideal S1x1024x256 .bf16) (r : Fin 1024) (j : Fin 256) :
    upV xn w (ix2 r j) = ∑ x : Fin 1024, HMul.hMul (α := EReal) (β := EReal) (γ := EReal) (xn (ix2 r x)) (w (ix3 0 x j)) := by
  unfold upV
  pointwise

theorem siluV_apply (v : FVec Ideal S1024x256 .f32) (r : Fin 1024) (j : Fin 256) : siluV v (ix2 r j) = silu (v (ix2 r j)) := by
  unfold siluV
  pointwise
  rfl

theorem chunkV_apply (xn : FVec Ideal S1024x1024 .bf16) (wg wu : Vec Ideal S1x1024x256 .bf16) (wo : Vec Ideal S1x256x1024 .f32) (r k : Fin 1024) :
    chunkV xn wg wu wo (ix2 r k) = ∑ x : Fin 256, HMul.hMul (α := EReal) (β := EReal) (γ := EReal)
      (HMul.hMul (α := EReal) (β := EReal) (γ := EReal) (siluV (upV xn wg) (ix2 r x)) (upV xn wu (ix2 r x))) (wo (ix3 0 x k)) := by
  unfold chunkV
  pointwise

theorem halfV_apply (a : FVec Ideal S1024x512 .bf16) (w : Vec Ideal S512x1024 .bf16) (r k : Fin 1024) :
    halfV a w (ix2 r k) = ∑ x : Fin 512, HMul.hMul (α := EReal) (β := EReal) (γ := EReal) (a (ix2 r x)) (w (ix2 x k)) := by
  unfold halfV
  pointwise

theorem ld_col (w : Vec Ideal S1x1024x5632 .bf16) (o : ℕ) (h) (i : Fin 1024) (j : Fin 256) (ho : o ≤ 5376) :
    View.ld w (Rect.unit (s := S1x1024x5632) ![0, 0, o] S1x1024x256.size h) (ix3 0 i j) = w (ix3 0 i ⟨o + j.val, by omega⟩) := by
  refine View.ld_unit_apply_of _ _ _ _ _ _ fun a => ?_
  fin_cases a
  · rfl
  · exact (Nat.zero_add i.val).symm
  · rfl

theorem ld_row (w : Vec Ideal S1x2816x1024 .f32) (o : ℕ) (h) (j : Fin 256) (k : Fin 1024) (ho : o ≤ 2560) :
    View.ld w (Rect.unit (s := S1x2816x1024) ![0, o, 0] S1x256x1024.size h) (ix3 0 j k) = w (ix3 0 ⟨o + j.val, by omega⟩ k) := by
  refine View.ld_unit_apply_of _ _ _ _ _ _ fun a => ?_
  fin_cases a
  · rfl
  · rfl
  · exact (Nat.zero_add k.val).symm

theorem ld_mix (w : Vec Ideal S1024x1024 .bf16) (o : ℕ) (h) (i : Fin 512) (k : Fin 1024) (ho : o ≤ 512) :
    View.ld w (Rect.unit (s := S1024x1024) ![o, 0] S512x1024.size h) (ix2 i k) = w (ix2 ⟨o + i.val, by omega⟩ k) := by
  refine View.ld_unit_apply_of _ _ _ _ _ _ fun a => ?_
  fin_cases a
  · rfl
  · exact (Nat.zero_add k.val).symm

variable (wi : Vec Ideal S1x1024x5632 .bf16) (wo : Vec Ideal S1x2816x1024 .f32)

/-- Column `k`'s term of hidden unit `j` in a row. -/
def term (x : Fin 1024 → EReal) (k : Fin 1024) (j : Fin 2816) : EReal := hid x (inOf wi) j * outOf wo j k

theorem partV_apply (xn : FVec Ideal S1024x1024 .bf16) (n : ℕ) (h : n < 11) (r k : Fin 1024) :
    partV xn wi wo n h (ix2 r k) = ∑ x : Fin 256, term wi wo (rowOf xn r) k ⟨n * 256 + x.val, by omega⟩ := by
  unfold partV
  rw [chunkV_apply]
  refine Finset.sum_congr rfl fun x _ => ?_
  rw [siluV_apply, upV_apply, upV_apply, ld_row _ _ _ _ _ (by omega)]
  unfold term hid
  have e1 : ∀ i : Fin 1024, View.ld wi (Rect.unit (s := S1x1024x5632) ![0, 0, n * 256] S1x1024x256.size (col_inb (n * 256) (by omega))) (ix3 0 i x)
      = wi (ix3 0 i ⟨n * 256 + x.val, by omega⟩) := fun i => ld_col _ _ _ _ _ (by omega)
  have e2 : ∀ i : Fin 1024, View.ld wi (Rect.unit (s := S1x1024x5632) ![0, 0, 2816 + n * 256] S1x1024x256.size (col_inb (2816 + n * 256) (by omega))) (ix3 0 i x)
      = wi (ix3 0 i ⟨2816 + (n * 256 + x.val), by omega⟩) := fun i =>
    (ld_col _ _ _ _ _ (by omega)).trans (congrArg (fun q => wi (ix3 0 i q)) (Fin.ext (Nat.add_assoc _ _ _)))
  simp only [e1, e2]
  rfl

theorem sumV_apply (xn : FVec Ideal S1024x1024 .bf16) (r k : Fin 1024) : ∀ (n : ℕ) (h : n < 11),
    sumV xn wi wo n h (ix2 r k) = ∑ j ∈ Finset.range ((n + 1) * 256), ext (term wi wo (rowOf xn r) k) j
  | 0, h => by
    have hz : ∑ j ∈ Finset.range (0 * 256), ext (term wi wo (rowOf xn r) k) j = 0 := by
      rw [Nat.zero_mul, Finset.sum_range_zero]
    rw [sum_chunk _ 0 h, hz, zero_add]
    exact partV_apply wi wo xn 0 h r k
  | n + 1, h => by
    rw [sum_chunk _ (n + 1) h, ← sumV_apply xn r k n (by omega), ← partV_apply wi wo xn (n + 1) h r k]
    rfl

theorem ffnV_apply (v : FVec Ideal S1024x1024 .f32) (g : Vec Ideal S1x1024 .f32) (r k : Fin 1024) :
    ffnV v g wi wo (ix2 r k) = ffn (rowOf v r) (gainOf g) (inOf wi) (outOf wo) k := by
  have hn : rowOf (truncf .bf16 (normV v g) bitsLt_bf16_f32 : FVec Ideal S1024x1024 .bf16) r = nrm (rowOf v r) (gainOf g) :=
    funext fun i => normV_apply v g r i
  unfold ffnV
  pointwise
  rw [sumV_apply, hn, sum_ext]
  rfl

theorem mixV_apply (x : FVec Ideal S1024x1024 .f32) (a b : FVec Ideal S1024x512 .bf16) (w : Vec Ideal S1024x1024 .bf16) (r k : Fin 1024) :
    mixV x a b w (ix2 r k) = mix (rowOf x r) (halfOf a r) (halfOf b r) (mixOf w) k := by
  unfold mixV
  pointwise
  rw [halfV_apply, halfV_apply]
  unfold mix
  refine congrArg₂ _ (congrArg₂ _ rfl (Finset.sum_congr rfl fun i _ => ?_)) (Finset.sum_congr rfl fun i _ => ?_)
  · rw [ld_mix _ _ _ _ _ (by omega)]
    exact congrArg (fun q : Fin 1024 => HMul.hMul (α := EReal) (β := EReal) (γ := EReal) (a (ix2 r i)) (w (ix2 q k))) (Fin.ext (Nat.zero_add _))
  · rw [ld_mix _ _ _ _ _ (by omega)]
    rfl

end Cert.Ffn

end
-- ==== Proof.Ffn.Whole.lean ====
/-
  The three forms of the feed-forward call on all rows: plain, with the mixer's output projection before it, and with the
  closing norm after it.
-/
module

public import proofs.«01_k».proof.Proof.Ffn.Maths
public import proofs.«01_k».proof.Proof.Gen.Kernel2Ideal

@[expose] public section

noncomputable section

namespace Cert.Ffn

open Cert.Kernel2Ideal
open Idealize.ShloMosaic Idealize.ShloMosaic.Pointwise

def gainAt (g : S1024.Idx → EReal) : Fin 1024 → EReal := fun k => g (ix1 k)
def inAt (l : Fin 2) (w : S2x1024x5632.Idx → EReal) : Fin 1024 → Fin 5632 → EReal := fun i j => w (ix3 l i j)
def outAt (l : Fin 2) (w : S2x2816x1024.Idx → EReal) : Fin 2816 → Fin 1024 → EReal := fun j k => w (ix3 l j k)
def rowAt (x : S16384x1024.Idx → EReal) (r : Fin 16384) : Fin 1024 → EReal := fun k => x (ix2 r k)
def halfAt (a : S16384x512.Idx → EReal) (r : Fin 16384) : Fin 512 → EReal := fun k => a (ix2 r k)
def mixAt (w : S1024x1024.Idx → EReal) : Fin 1024 → Fin 1024 → EReal := fun i k => w (ix2 i k)

/-- Row `r` of the call in layer `l`. -/
def plain (l : Fin 2) (x : S16384x1024.Idx → EReal) (g : S1024.Idx → EReal) (wi : S2x1024x5632.Idx → EReal) (wo : S2x2816x1024.Idx → EReal)
    (r : Fin 16384) : Fin 1024 → EReal :=
  ffn (rowAt x r) (gainAt g) (inAt l wi) (outAt l wo)

/-- Row `r` of the call with the mixer in layer `l`. -/
def mixed (l : Fin 2) (x : S16384x1024.Idx → EReal) (g : S1024.Idx → EReal) (wi : S2x1024x5632.Idx → EReal) (wo : S2x2816x1024.Idx → EReal)
    (a b : S16384x512.Idx → EReal) (w : S1024x1024.Idx → EReal) (r : Fin 16384) : Fin 1024 → EReal :=
  ffn (mix (rowAt x r) (halfAt a r) (halfAt b r) (mixAt w)) (gainAt g) (inAt l wi) (outAt l wo)

end Cert.Ffn

end
-- ==== Proof.K2I.Out.lean ====
/-
  The result array of the last feed-forward call, entry by entry, as a function of its arguments.
-/
module

public import proofs.«01_k».proof.Proof.Gen.Kernel2Ideal.Value
public import proofs.«01_k».proof.Proof.Ffn.Read
public import proofs.«01_k».proof.Proof.Ffn.Whole

@[expose] public section

set_option maxRecDepth 16384

noncomputable section

namespace Cert.Kernel2Ideal.FF

open Cert.Kernel2Ideal Cert.Kernel2Ideal.Gen Cert.Ffn
open Idealize.ShloMosaic Idealize.ShloMosaic.TcCoe Idealize.ShloMosaic.Pointwise Idealize.ShloMosaic.StableHlo
open Idealize.ShloMosaic.Pipeline

theorem out_eq (x : Vec Ideal S1024x1024 .f32) (g : Vec Ideal S1x1024 .f32) (wi : Vec Ideal S1x1024x5632 .bf16) (wo : Vec Ideal S1x2816x1024 .f32)
    (a b : Vec Ideal S1024x512 .bf16) (w : Vec Ideal S1024x1024 .bf16) (g' : Vec Ideal S1x1024 .f32) :
    out0_8 (F := Ideal) x g wi wo a b w g' = normV (ffnV (mixV x a b w) g wi wo) g' := by
  have h : out0_8 (F := Ideal) x g wi wo a b w g' = View.canon [⟨r0_0, normV (ffnV
      (mixV (View.ld x r0_0) (View.ld a r0_1) (View.ld b r0_1) w) (View.ld g r0_4) wi wo) (View.ld g' r0_4)⟩] := rfl
  rw [h, View.ld_unit_lit' _ x (by decide), View.ld_unit_lit' _ a (by decide), View.ld_unit_lit' _ b (by decide), View.ld_unit_lit' _ g (by decide),
    View.ld_unit_lit' _ g' (by decide)]
  exact View.canon_cons_unit_lit' _ _ _ (by decide)

variable (m : (ℓ : Loc nD τ sig) → Buf (Elt Ideal) ℓ) (c : Dev nD) (t : Fin cfg0.N)

/-! ## The arrays the call reads -/

theorem V_g (k : Fin 1024) : V m c main_v2 (ix2 0 k) = m ((c : Thread nD τ).loc main_arg1) (ix1 k) := by
  unfold V
  after_results
  pointwise
theorem V_wi (i : S2x1024x5632.Idx) : V m c main_v1 i = m ((c : Thread nD τ).loc main_arg2) i := by
  unfold V
  after_results
  rfl
theorem V_w (i : S1024x1024.Idx) : V m c main_v0 i = m ((c : Thread nD τ).loc main_arg6) i := by
  unfold V
  after_results
  rfl
theorem V_g' (k : Fin 1024) : V m c main_v3 (ix2 0 k) = m ((c : Thread nD τ).loc main_arg7) (ix1 k) := by
  unfold V
  after_results
  pointwise

/-! ## The blocks at a grid point -/

theorem toNat_small (n : ℕ) (h : n < 2 ^ 32) : (BitVec.ofNat 32 n).toNat = n := by
  rw [BitVec.toNat_ofNat, Nat.mod_eq_of_lt h]

def pi : Fin 16 := grid0.coords t 0

theorem win_at : (win0_0.index t 0 = (pi t).val ∧ win0_0.index t 1 = 0) ∧ (win0_1.index t 0 = 0 ∧ win0_1.index t 1 = 0)
    ∧ (win0_2.index t 0 = 1 ∧ win0_2.index t 1 = 0 ∧ win0_2.index t 2 = 0) ∧ (win0_3.index t 0 = 1 ∧ win0_3.index t 1 = 0 ∧ win0_3.index t 2 = 0)
    ∧ (win0_4.index t 0 = (pi t).val ∧ win0_4.index t 1 = 0) ∧ (win0_5.index t 0 = (pi t).val ∧ win0_5.index t 1 = 0)
    ∧ (win0_6.index t 0 = 0 ∧ win0_6.index t 1 = 0) ∧ (win0_7.index t 0 = 0 ∧ win0_7.index t 1 = 0)
    ∧ (win0_8.index t 0 = (pi t).val ∧ win0_8.index t 1 = 0) := by
  have h := toNat_small (grid0.coords t 0).val (lt_trans (grid0.coords t 0).isLt (by decide))
  exact ⟨⟨h, rfl⟩, ⟨rfl, rfl⟩, ⟨rfl, rfl, rfl⟩, ⟨rfl, rfl, rfl⟩, ⟨h, rfl⟩, ⟨h, rfl⟩, ⟨rfl, rfl⟩, ⟨rfl, rfl⟩, ⟨h, rfl⟩⟩

/-- Row `r` of the point's block of rows. -/
def row (r : Fin 1024) : Fin 16384 := ⟨(pi t).val * 1024 + r.val, by have := (pi t).isLt; omega⟩

theorem blk0 (r k : Fin 1024) : iblk m c 0 t (ix2 r k) = m ((c : Thread nD τ).loc main_arg0) (ix2 (row t r) k) := by
  show V m c main_arg0 ((cfg0.win 0 |>.blk t).view.emb (ix2 r k)) = _
  rw [V_main_arg0]
  refine congrArg (m ((c : Thread nD τ).loc main_arg0)) ?_
  funext a; apply Fin.ext; fin_cases a <;> blk_simp <;> simp [win_at, row]
theorem blk1 (k : Fin 1024) : iblk m c 1 t (ix2 0 k) = m ((c : Thread nD τ).loc main_arg1) (ix1 k) := by
  show V m c main_v2 ((cfg0.win 1 |>.blk t).view.emb (ix2 0 k)) = _
  refine (congrArg (V m c main_v2) ?_).trans (V_g m c k)
  funext a; apply Fin.ext; fin_cases a <;> blk_simp <;> simp [win_at]
theorem blk2 (i : Fin 1024) (j : Fin 5632) : iblk m c 2 t (ix3 0 i j) = m ((c : Thread nD τ).loc main_arg2) (ix3 1 i j) := by
  show V m c main_v1 ((cfg0.win 2 |>.blk t).view.emb (ix3 0 i j)) = _
  refine (V_wi m c _).trans (congrArg (m ((c : Thread nD τ).loc main_arg2)) ?_)
  funext a; apply Fin.ext; fin_cases a <;> blk_simp <;> simp [win_at]
theorem blk3 (j : Fin 2816) (k : Fin 1024) : iblk m c 3 t (ix3 0 j k) = m ((c : Thread nD τ).loc main_arg3) (ix3 1 j k) := by
  show V m c main_arg3 ((cfg0.win 3 |>.blk t).view.emb (ix3 0 j k)) = _
  rw [V_main_arg3]
  refine congrArg (m ((c : Thread nD τ).loc main_arg3)) ?_
  funext a; apply Fin.ext; fin_cases a <;> blk_simp <;> simp [win_at]
theorem blk4 (r : Fin 1024) (k : Fin 512) : iblk m c 4 t (ix2 r k) = m ((c : Thread nD τ).loc main_arg4) (ix2 (row t r) k) := by
  show V m c main_arg4 ((cfg0.win 4 |>.blk t).view.emb (ix2 r k)) = _
  rw [V_main_arg4]
  refine congrArg (m ((c : Thread nD τ).loc main_arg4)) ?_
  funext a; apply Fin.ext; fin_cases a <;> blk_simp <;> simp [win_at, row]
theorem blk5 (r : Fin 1024) (k : Fin 512) : iblk m c 5 t (ix2 r k) = m ((c : Thread nD τ).loc main_arg5) (ix2 (row t r) k) := by
  show V m c main_arg5 ((cfg0.win 5 |>.blk t).view.emb (ix2 r k)) = _
  rw [V_main_arg5]
  refine congrArg (m ((c : Thread nD τ).loc main_arg5)) ?_
  funext a; apply Fin.ext; fin_cases a <;> blk_simp <;> simp [win_at, row]
theorem blk6 (i k : Fin 1024) : iblk m c 6 t (ix2 i k) = m ((c : Thread nD τ).loc main_arg6) (ix2 i k) := by
  show V m c main_v0 ((cfg0.win 6 |>.blk t).view.emb (ix2 i k)) = _
  refine (V_w m c _).trans (congrArg (m ((c : Thread nD τ).loc main_arg6)) ?_)
  funext a; apply Fin.ext; fin_cases a <;> blk_simp <;> simp [win_at]
theorem blk7 (k : Fin 1024) : iblk m c 7 t (ix2 0 k) = m ((c : Thread nD τ).loc main_arg7) (ix1 k) := by
  show V m c main_v3 ((cfg0.win 7 |>.blk t).view.emb (ix2 0 k)) = _
  refine (congrArg (V m c main_v3) ?_).trans (V_g' m c k)
  funext a; apply Fin.ext; fin_cases a <;> blk_simp <;> simp [win_at]
theorem emb8 (r k : Fin 1024) : ((cfg0.win 8).blk t).view.emb (ix2 r k) = ix2 (row t r) k := by
  funext a; apply Fin.ext; fin_cases a <;> blk_simp <;> simp [win_at, row]

/-! ## The result -/

/-- The result from the arguments' contents. -/
def G : S16384x1024.Idx → EReal := fun i =>
  nrm (mixed 1 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0)) (gainAt (m ((c : Thread nD τ).loc main_arg7))) (i 1)

theorem point_out (r k : Fin 1024) :
    out0_8 (iblk m c 0 t) (iblk m c 1 t) (iblk m c 2 t) (iblk m c 3 t) (iblk m c 4 t) (iblk m c 5 t) (iblk m c 6 t) (iblk m c 7 t) (ix2 r k)
      = G m c (ix2 (row t r) k) := by
  have h0 : rowOf (iblk m c 0 t) r = rowAt (m ((c : Thread nD τ).loc main_arg0)) (row t r) := funext fun _ => blk0 m c t r _
  have h1 : gainOf (iblk m c 1 t) = gainAt (m ((c : Thread nD τ).loc main_arg1)) := funext fun _ => blk1 m c t _
  have h2 : inOf (iblk m c 2 t) = inAt 1 (m ((c : Thread nD τ).loc main_arg2)) := funext fun _ => funext fun _ => blk2 m c t _ _
  have h3 : outOf (iblk m c 3 t) = outAt 1 (m ((c : Thread nD τ).loc main_arg3)) := funext fun _ => funext fun _ => blk3 m c t _ _
  have h4 : halfOf (iblk m c 4 t) r = halfAt (m ((c : Thread nD τ).loc main_arg4)) (row t r) := funext fun _ => blk4 m c t r _
  have h5 : halfOf (iblk m c 5 t) r = halfAt (m ((c : Thread nD τ).loc main_arg5)) (row t r) := funext fun _ => blk5 m c t r _
  have h6 : mixOf (iblk m c 6 t) = mixAt (m ((c : Thread nD τ).loc main_arg6)) := funext fun _ => funext fun _ => blk6 m c t _ _
  have h7 : gainOf (iblk m c 7 t) = gainAt (m ((c : Thread nD τ).loc main_arg7)) := funext fun _ => blk7 m c t _
  have hm : rowOf (mixV (iblk m c 0 t) (iblk m c 4 t) (iblk m c 5 t) (iblk m c 6 t)) r = mix (rowAt (m ((c : Thread nD τ).loc main_arg0)) (row t r))
      (halfAt (m ((c : Thread nD τ).loc main_arg4)) (row t r)) (halfAt (m ((c : Thread nD τ).loc main_arg5)) (row t r)) (mixAt (m ((c : Thread nD τ).loc main_arg6))) :=
    funext fun i => (mixV_apply _ _ _ _ r i).trans (by rw [h0, h4, h5, h6])
  have hf : rowOf (ffnV (mixV (iblk m c 0 t) (iblk m c 4 t) (iblk m c 5 t) (iblk m c 6 t)) (iblk m c 1 t) (iblk m c 2 t) (iblk m c 3 t)) r
      = mixed 1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (row t r) :=
    funext fun i => (ffnV_apply _ _ _ _ r i).trans (by rw [hm, h1, h2, h3]; rfl)
  rw [out_eq, normV_apply, hf, h7]
  rfl

theorem arr_eq : (dats m 0 c).arrAt 8 cfg0.N = G m c := by
  refine (dats m 0 c).arrAt_eq_of_covers 8 _ (by decide +kernel) fun t hf y => ?_
  blk_simp
  rw [after0_8]
  have hy : y = (ix2 (y 0) (y 1) : S1024x1024.Idx) := by
    funext a; fin_cases a <;> rfl
  rw [hy]
  exact (point_out m c t (y 0) (y 1)).trans (congrArg _ (emb8 t (y 0) (y 1)).symm)

end Cert.Kernel2Ideal.FF

end
-- ==== Proof.R2I.Value.lean ====
/-
  The reference of the last feed-forward call, read at a row and a column.
-/
module

public import proofs.«01_k».proof.Proof.Gen.Reference2Ideal.Read
public import proofs.«01_k».proof.Proof.Ffn.Whole

@[expose] public section

set_option maxRecDepth 16384

noncomputable section

namespace Cert.Reference2Ideal.Read

open Cert.Reference2Ideal Cert.Reference2Ideal.Gen Cert.Ffn
open Idealize.ShloMosaic Idealize.ShloMosaic.TcCoe Idealize.ShloMosaic.Pointwise

variable (x0 : (⟨S16384x1024, .f32⟩ : BufTy).Contents (Elt Ideal)) (x1 : (⟨S1024, .f32⟩ : BufTy).Contents (Elt Ideal))
  (x2 : (⟨S2x1024x5632, .f32⟩ : BufTy).Contents (Elt Ideal)) (x3 : (⟨S2x2816x1024, .f32⟩ : BufTy).Contents (Elt Ideal))
  (x4 x5 : (⟨S16384x512, .bf16⟩ : BufTy).Contents (Elt Ideal)) (x6 : (⟨S1024x1024, .f32⟩ : BufTy).Contents (Elt Ideal))
  (x7 : (⟨S1024, .f32⟩ : BufTy).Contents (Elt Ideal))

/-- The two halves joined: the first 512 entries of a row, and the rest. -/
theorem left_eq (r : Fin 16384) (i : Fin 512) : val_main_v0 (F := Ideal) x4 x5 (ix2 r (⟨i.val, by omega⟩ : Fin 1024)) = x4 (ix2 r i) := by
  refine concatenate_pair_apply_left (s₁ := S16384x512) (s₂ := S16384x512) (t := S16384x1024) (1 : Fin 2) x4 x5
    concatenates_S16384x512_S16384x512_S16384x1024_d1 _ rfl (ix2 r i) fun a => ?_
  fin_cases a <;> rfl
theorem right_eq (r : Fin 16384) (i : Fin 512) : val_main_v0 (F := Ideal) x4 x5 (ix2 r (⟨512 + i.val, by omega⟩ : Fin 1024)) = x5 (ix2 r i) := by
  refine concatenate_pair_apply_right (s₁ := S16384x512) (s₂ := S16384x512) (t := S16384x1024) (1 : Fin 2) x4 x5
    concatenates_S16384x512_S16384x512_S16384x1024_d1 _ rfl rfl (ix2 r i) (fun a ha => ?_) (Nat.add_comm i.val 512)
  fin_cases a
  · rfl
  · exact absurd rfl ha

/-- The rows after the output projection. -/
theorem mixed_eq (r : Fin 16384) : rowAt (val_main_v3 (F := Ideal) x0 x4 x5 x6) r = mix (rowAt x0 r) (halfAt x4 r) (halfAt x5 r) (mixAt x6) := by
  funext k
  have hd : val_main_v2 (F := Ideal) x4 x5 x6 (ix2 r k) = ∑ i : Fin 1024, HMul.hMul (α := EReal) (β := EReal) (γ := EReal)
      (val_main_v0 (F := Ideal) x4 x5 (ix2 r i)) (mixAt x6 i k) := by
    rw [val_main_v2_apply]
    refine Finset.sum_congr rfl fun i _ => ?_
    have e1 : lidx_main_v2 (ix2 r k) i = ix2 r i := by
      funext a; fin_cases a <;> rfl
    have e2 : ridx_main_v2 (ix2 r k) i = ix2 i k := by
      funext a; fin_cases a <;> rfl
    rw [e1, e2, val_main_v1_apply]
    rfl
  show val_main_v3 (F := Ideal) x0 x4 x5 x6 (ix2 r k) = _
  rw [val_main_v3_apply, hd, sum_joined]
  simp only [left_eq, right_eq]
  exact (add_assoc (G := EReal) _ _ _).symm

/-- The norm's stage of a row. -/
theorem norm_eq (r : Fin 16384) (k : Fin 1024) :
    val_main_v16 (F := Ideal) x0 x1 x4 x5 x6 (ix2 r k) = nrm (rowAt (val_main_v3 (F := Ideal) x0 x4 x5 x6) r) (gainAt x1) k := by
  have hs : val_main_v5 (F := Ideal) x0 x4 x5 x6 (idx_main_v6 (idx_main_v12 (ix2 r k)))
      = ∑ i, rowAt (val_main_v3 (F := Ideal) x0 x4 x5 x6) r i * rowAt (val_main_v3 (F := Ideal) x0 x4 x5 x6) r i := by
    rw [val_main_v5_apply, val_main_cst_apply]
    show Ideal.ofBits .f32 0x00000000#32 + _ = _
    rw [Ideal.ofBits_zero_f32, zero_add]
    refine Finset.sum_congr rfl fun i _ => ?_
    have e : idx_main_v5 (idx_main_v6 (idx_main_v12 (ix2 r k))) i = ix2 r i := by
      funext a; fin_cases a <;> rfl
    rw [val_main_v4_apply, e]
    rfl
  have hg : val_main_v15 (F := Ideal) x1 (ix2 r k) = gainAt x1 k := by
    rw [val_main_v15_apply, val_main_v14_apply]
    exact congrArg x1 (by funext a; fin_cases a; rfl)
  rw [val_main_v16_apply, val_main_v13_apply, val_main_v12_apply, val_main_v11_apply, val_main_v10_apply, val_main_v8_apply,
    val_main_v6_apply, hs, hg, val_main_v7_apply, val_main_v9_apply, val_main_cst_0_apply, val_main_cst_1_apply]
  rfl

/-- The weights' stages: the layer's slice. -/
theorem in_eq (i : Fin 1024) (j : Fin 5632) : val_main_v18 (F := Ideal) x2 (ix2 i j) = inAt 1 x2 i j := by
  rw [val_main_v18_apply, val_main_v17_apply]
  refine congrArg x2 ?_
  funext a; apply Fin.ext; fin_cases a
  · rfl
  · show (i.val * 5632 + j.val) / 5632 % 1024 = i.val; omega
  · show (i.val * 5632 + j.val) % 5632 = j.val; omega
theorem out_eq (j : Fin 2816) (k : Fin 1024) : val_main_v20 (F := Ideal) x3 (ix2 j k) = outAt 1 x3 j k := by
  rw [val_main_v20_apply, val_main_v19_apply]
  refine congrArg x3 ?_
  funext a; apply Fin.ext; fin_cases a
  · rfl
  · show (j.val * 1024 + k.val) / 1024 % 2816 = j.val; omega
  · show (j.val * 1024 + k.val) % 1024 = k.val; omega

/-- The first projection's stage. -/
theorem proj_eq (r : Fin 16384) (j : Fin 5632) : val_main_v21 (F := Ideal) x0 x1 x2 x4 x5 x6 (ix2 r j)
    = ∑ i, nrm (rowAt (val_main_v3 (F := Ideal) x0 x4 x5 x6) r) (gainAt x1) i * inAt 1 x2 i j := by
  rw [val_main_v21_apply]
  refine Finset.sum_congr rfl fun i _ => ?_
  have e1 : lidx_main_v21 (ix2 r j) i = ix2 r i := by
    funext a; fin_cases a <;> rfl
  have e2 : ridx_main_v21 (ix2 r j) i = ix2 i j := by
    funext a; fin_cases a <;> rfl
  rw [e1, e2, norm_eq, in_eq]

theorem gate_eq (r : Fin 16384) (j : Fin 2816) : val_main_v24 (F := Ideal) x0 x1 x2 x4 x5 x6 (ix2 r j)
    = silu (val_main_v22 (F := Ideal) x0 x1 x2 x4 x5 x6 (ix2 r j)) := by
  rw [val_main_v24_apply, val_main_call0_v5_apply, val_main_call0_v4_apply, val_main_call0_v3_apply, val_main_call0_v2_apply,
    val_main_call0_v1_apply, val_main_call0_v0_apply, val_main_call0_cst_apply, val_main_call0_cst_0_apply]
  unfold silu
  rw [zero_sub, ← one_eq]
  rfl

/-- The hidden units' stage. -/
theorem hid_eq (r : Fin 16384) (j : Fin 2816) : val_main_v25 (F := Ideal) x0 x1 x2 x4 x5 x6 (ix2 r j)
    = hid (nrm (rowAt (val_main_v3 (F := Ideal) x0 x4 x5 x6) r) (gainAt x1)) (inAt 1 x2) j := by
  have e1 : idx_main_v22 (ix2 r j) = ix2 r (⟨j.val, by omega⟩ : Fin 5632) := by
    funext a; fin_cases a <;> rfl
  have e2 : idx_main_v23 (ix2 r j) = ix2 r (⟨2816 + j.val, by omega⟩ : Fin 5632) := by
    funext a; fin_cases a <;> rfl
  rw [val_main_v25_apply, gate_eq, val_main_v22_apply, val_main_v23_apply, e1, e2, proj_eq, proj_eq]
  rfl

theorem down_eq (r : Fin 16384) (k : Fin 1024) : val_main_v26 (F := Ideal) x0 x1 x2 x3 x4 x5 x6 (ix2 r k)
    = ∑ j, hid (nrm (rowAt (val_main_v3 (F := Ideal) x0 x4 x5 x6) r) (gainAt x1)) (inAt 1 x2) j * outAt 1 x3 j k := by
  rw [val_main_v26_apply]
  refine Finset.sum_congr rfl fun j _ => ?_
  have e1 : lidx_main_v26 (ix2 r k) j = ix2 r j := by
    funext a; fin_cases a <;> rfl
  have e2 : ridx_main_v26 (ix2 r k) j = ix2 j k := by
    funext a; fin_cases a <;> rfl
  rw [e1, e2, hid_eq, out_eq]

/-- The call's row. -/
theorem row_eq (r : Fin 16384) : rowAt (val_main_v29 (F := Ideal) x0 x1 x2 x3 x4 x5 x6) r = mixed 1 x0 x1 x2 x3 x4 x5 x6 r := by
  funext k
  show val_main_v29 (F := Ideal) x0 x1 x2 x3 x4 x5 x6 (ix2 r k) = _
  rw [val_main_v29_apply, val_main_v28_apply, val_main_v27_apply, down_eq, val_main_cst_2_apply]
  show rowAt (val_main_v3 (F := Ideal) x0 x4 x5 x6) r k + half * _ = ffn _ _ _ _ k
  rw [mixed_eq]
  rfl

/-- The closing norm's stage of a row. -/
theorem last_eq (r : Fin 16384) (k : Fin 1024) :
    val_main_v42 (F := Ideal) x0 x1 x2 x3 x4 x5 x6 x7 (ix2 r k) = nrm (rowAt (val_main_v29 (F := Ideal) x0 x1 x2 x3 x4 x5 x6) r) (gainAt x7) k := by
  have hs : val_main_v31 (F := Ideal) x0 x1 x2 x3 x4 x5 x6 (idx_main_v32 (idx_main_v38 (ix2 r k)))
      = ∑ i, rowAt (val_main_v29 (F := Ideal) x0 x1 x2 x3 x4 x5 x6) r i * rowAt (val_main_v29 (F := Ideal) x0 x1 x2 x3 x4 x5 x6) r i := by
    rw [val_main_v31_apply, val_main_cst_3_apply]
    show Ideal.ofBits .f32 0x00000000#32 + _ = _
    rw [Ideal.ofBits_zero_f32, zero_add]
    refine Finset.sum_congr rfl fun i _ => ?_
    have e : idx_main_v31 (idx_main_v32 (idx_main_v38 (ix2 r k))) i = ix2 r i := by
      funext a; fin_cases a <;> rfl
    rw [val_main_v30_apply, e]
    rfl
  have hg : val_main_v41 (F := Ideal) x7 (ix2 r k) = gainAt x7 k := by
    rw [val_main_v41_apply, val_main_v40_apply]
    exact congrArg x7 (by funext a; fin_cases a; rfl)
  rw [val_main_v42_apply, val_main_v39_apply, val_main_v38_apply, val_main_v37_apply, val_main_v36_apply, val_main_v34_apply,
    val_main_v32_apply, hs, hg, val_main_v33_apply, val_main_v35_apply, val_main_cst_4_apply, val_main_cst_5_apply]
  rfl

/-- The whole result. -/
theorem val_eq : val_main_v42 (F := Ideal) x0 x1 x2 x3 x4 x5 x6 x7
    = fun i => nrm (mixed 1 x0 x1 x2 x3 x4 x5 x6 (i 0)) (gainAt x7) (i 1) := by
  funext i
  have hi : i = (ix2 (i 0) (i 1) : S16384x1024.Idx) := by
    funext a; fin_cases a <;> rfl
  rw [hi]
  refine (last_eq x0 x1 x2 x3 x4 x5 x6 x7 (i 0) (i 1)).trans ?_
  exact congrArg (fun y => nrm y (gainAt x7) (i 1)) (row_eq x0 x1 x2 x3 x4 x5 x6 (i 0))

end Cert.Reference2Ideal.Read

end
-- ==== Proof.K3I.Out.lean ====
/-
  The result array of the first layer's first feed-forward call, entry by entry, as a function of its arguments.
-/
module

public import proofs.«01_k».proof.Proof.Gen.Kernel3Ideal.Value
public import proofs.«01_k».proof.Proof.Ffn.Read
public import proofs.«01_k».proof.Proof.Ffn.Whole

@[expose] public section

set_option maxRecDepth 16384

noncomputable section

namespace Cert.Kernel3Ideal.FF

open Cert.Kernel3Ideal Cert.Kernel3Ideal.Gen Cert.Ffn
open Idealize.ShloMosaic Idealize.ShloMosaic.TcCoe Idealize.ShloMosaic.Pointwise Idealize.ShloMosaic.StableHlo
open Idealize.ShloMosaic.Pipeline

theorem out_eq (x : Vec Ideal S1024x1024 .f32) (g : Vec Ideal S1x1024 .f32) (wi : Vec Ideal S1x1024x5632 .bf16) (wo : Vec Ideal S1x2816x1024 .f32) :
    out0_4 (F := Ideal) x g wi wo = ffnV x g wi wo := by
  have h : out0_4 (F := Ideal) x g wi wo = View.canon [⟨r0_0, ffnV (View.ld x r0_0) (View.ld g r0_1) wi wo⟩] := rfl
  rw [h, View.ld_unit_lit' _ x (by decide), View.ld_unit_lit' _ g (by decide)]
  exact View.canon_cons_unit_lit' _ _ _ (by decide)

variable (m : (ℓ : Loc nD τ sig) → Buf (Elt Ideal) ℓ) (c : Dev nD) (t : Fin cfg0.N)

/-! ## The arrays the call reads -/

theorem V_g (k : Fin 1024) : V m c main_v1 (ix2 0 k) = m ((c : Thread nD τ).loc main_arg1) (ix1 k) := by
  unfold V
  after_results
  pointwise
theorem V_wi (i : S2x1024x5632.Idx) : V m c main_v0 i = m ((c : Thread nD τ).loc main_arg2) i := by
  unfold V
  after_results
  rfl

/-! ## The blocks at a grid point -/

theorem toNat_small (n : ℕ) (h : n < 2 ^ 32) : (BitVec.ofNat 32 n).toNat = n := by
  rw [BitVec.toNat_ofNat, Nat.mod_eq_of_lt h]

def pi : Fin 16 := grid0.coords t 0

theorem win_at : (win0_0.index t 0 = (pi t).val ∧ win0_0.index t 1 = 0) ∧ (win0_1.index t 0 = 0 ∧ win0_1.index t 1 = 0)
    ∧ (win0_2.index t 0 = 0 ∧ win0_2.index t 1 = 0 ∧ win0_2.index t 2 = 0) ∧ (win0_3.index t 0 = 0 ∧ win0_3.index t 1 = 0 ∧ win0_3.index t 2 = 0)
    ∧ (win0_4.index t 0 = (pi t).val ∧ win0_4.index t 1 = 0) := by
  have h := toNat_small (grid0.coords t 0).val (lt_trans (grid0.coords t 0).isLt (by decide))
  exact ⟨⟨h, rfl⟩, ⟨rfl, rfl⟩, ⟨rfl, rfl, rfl⟩, ⟨rfl, rfl, rfl⟩, ⟨h, rfl⟩⟩

/-- Row `r` of the point's block of rows. -/
def row (r : Fin 1024) : Fin 16384 := ⟨(pi t).val * 1024 + r.val, by have := (pi t).isLt; omega⟩

theorem blk0 (r k : Fin 1024) : iblk m c 0 t (ix2 r k) = m ((c : Thread nD τ).loc main_arg0) (ix2 (row t r) k) := by
  show V m c main_arg0 ((cfg0.win 0 |>.blk t).view.emb (ix2 r k)) = _
  rw [V_main_arg0]
  refine congrArg (m ((c : Thread nD τ).loc main_arg0)) ?_
  funext a; apply Fin.ext; fin_cases a <;> blk_simp <;> simp [win_at, row]
theorem blk1 (k : Fin 1024) : iblk m c 1 t (ix2 0 k) = m ((c : Thread nD τ).loc main_arg1) (ix1 k) := by
  show V m c main_v1 ((cfg0.win 1 |>.blk t).view.emb (ix2 0 k)) = _
  refine (congrArg (V m c main_v1) ?_).trans (V_g m c k)
  funext a; apply Fin.ext; fin_cases a <;> blk_simp <;> simp [win_at]
theorem blk2 (i : Fin 1024) (j : Fin 5632) : iblk m c 2 t (ix3 0 i j) = m ((c : Thread nD τ).loc main_arg2) (ix3 0 i j) := by
  show V m c main_v0 ((cfg0.win 2 |>.blk t).view.emb (ix3 0 i j)) = _
  refine (V_wi m c _).trans (congrArg (m ((c : Thread nD τ).loc main_arg2)) ?_)
  funext a; apply Fin.ext; fin_cases a <;> blk_simp <;> simp [win_at]
theorem blk3 (j : Fin 2816) (k : Fin 1024) : iblk m c 3 t (ix3 0 j k) = m ((c : Thread nD τ).loc main_arg3) (ix3 0 j k) := by
  show V m c main_arg3 ((cfg0.win 3 |>.blk t).view.emb (ix3 0 j k)) = _
  rw [V_main_arg3]
  refine congrArg (m ((c : Thread nD τ).loc main_arg3)) ?_
  funext a; apply Fin.ext; fin_cases a <;> blk_simp <;> simp [win_at]
theorem emb4 (r k : Fin 1024) : ((cfg0.win 4).blk t).view.emb (ix2 r k) = ix2 (row t r) k := by
  funext a; apply Fin.ext; fin_cases a <;> blk_simp <;> simp [win_at, row]

/-! ## The result -/

/-- The result from the arguments' contents. -/
def G : S16384x1024.Idx → EReal := fun i =>
  plain 0 (m ((c : Thread nD τ).loc main_arg0)) (m ((c : Thread nD τ).loc main_arg1)) (m ((c : Thread nD τ).loc main_arg2))
    (m ((c : Thread nD τ).loc main_arg3)) (i 0) (i 1)

theorem point_out (r k : Fin 1024) :
    out0_4 (iblk m c 0 t) (iblk m c 1 t) (iblk m c 2 t) (iblk m c 3 t) (ix2 r k)
      = G m c (ix2 (row t r) k) := by
  have h0 : rowOf (iblk m c 0 t) r = rowAt (m ((c : Thread nD τ).loc main_arg0)) (row t r) := funext fun _ => blk0 m c t r _
  have h1 : gainOf (iblk m c 1 t) = gainAt (m ((c : Thread nD τ).loc main_arg1)) := funext fun _ => blk1 m c t _
  have h2 : inOf (iblk m c 2 t) = inAt 0 (m ((c : Thread nD τ).loc main_arg2)) := funext fun _ => funext fun _ => blk2 m c t _ _
  have h3 : outOf (iblk m c 3 t) = outAt 0 (m ((c : Thread nD τ).loc main_arg3)) := funext fun _ => funext fun _ => blk3 m c t _ _
  rw [out_eq, ffnV_apply, h0, h1, h2, h3]
  rfl

theorem arr_eq : (dats m 0 c).arrAt 4 cfg0.N = G m c := by
  refine (dats m 0 c).arrAt_eq_of_covers 4 _ (by decide +kernel) fun t hf y => ?_
  blk_simp
  rw [after0_4]
  have hy : y = (ix2 (y 0) (y 1) : S1024x1024.Idx) := by
    funext a; fin_cases a <;> rfl
  rw [hy]
  exact (point_out m c t (y 0) (y 1)).trans (congrArg _ (emb4 t (y 0) (y 1)).symm)

end Cert.Kernel3Ideal.FF

end
-- ==== Proof.R3I.Value.lean ====
/-
  The reference of the first layer's first feed-forward call, read at a row and a column.
-/
module

public import proofs.«01_k».proof.Proof.Gen.Reference3Ideal.Read
public import proofs.«01_k».proof.Proof.Ffn.Whole

@[expose] public section

set_option maxRecDepth 16384

noncomputable section

namespace Cert.Reference3Ideal.Read

open Cert.Reference3Ideal Cert.Reference3Ideal.Gen Cert.Ffn
open Idealize.ShloMosaic Idealize.ShloMosaic.TcCoe Idealize.ShloMosaic.Pointwise

variable (x0 : (⟨S16384x1024, .f32⟩ : BufTy).Contents (Elt Ideal)) (x1 : (⟨S1024, .f32⟩ : BufTy).Contents (Elt Ideal))
  (x2 : (⟨S2x1024x5632, .f32⟩ : BufTy).Contents (Elt Ideal)) (x3 : (⟨S2x2816x1024, .f32⟩ : BufTy).Contents (Elt Ideal))

/-- The norm's stage of a row. -/
theorem norm_eq (r : Fin 16384) (k : Fin 1024) :
    val_main_v12 (F := Ideal) x0 x1 (ix2 r k) = nrm (rowAt (x0) r) (gainAt x1) k := by
  have hs : val_main_v1 (F := Ideal) x0 (idx_main_v2 (idx_main_v8 (ix2 r k)))
      = ∑ i, rowAt (x0) r i * rowAt (x0) r i := by
    rw [val_main_v1_apply, val_main_cst_apply]
    show Ideal.ofBits .f32 0x00000000#32 + _ = _
    rw [Ideal.ofBits_zero_f32, zero_add]
    refine Finset.sum_congr rfl fun i _ => ?_
    have e : idx_main_v1 (idx_main_v2 (idx_main_v8 (ix2 r k))) i = ix2 r i := by
      funext a; fin_cases a <;> rfl
    rw [val_main_v0_apply, e]
    rfl
  have hg : val_main_v11 (F := Ideal) x1 (ix2 r k) = gainAt x1 k := by
    rw [val_main_v11_apply, val_main_v10_apply]
    exact congrArg x1 (by funext a; fin_cases a; rfl)
  rw [val_main_v12_apply, val_main_v9_apply, val_main_v8_apply, val_main_v7_apply, val_main_v6_apply, val_main_v4_apply,
    val_main_v2_apply, hs, hg, val_main_v3_apply, val_main_v5_apply, val_main_cst_0_apply, val_main_cst_1_apply]
  rfl

/-- The weights' stages: the layer's slice. -/
theorem in_eq (i : Fin 1024) (j : Fin 5632) : val_main_v14 (F := Ideal) x2 (ix2 i j) = inAt 0 x2 i j := by
  rw [val_main_v14_apply, val_main_v13_apply]
  refine congrArg x2 ?_
  funext a; apply Fin.ext; fin_cases a
  · rfl
  · show (i.val * 5632 + j.val) / 5632 % 1024 = i.val; omega
  · show (i.val * 5632 + j.val) % 5632 = j.val; omega
theorem out_eq (j : Fin 2816) (k : Fin 1024) : val_main_v16 (F := Ideal) x3 (ix2 j k) = outAt 0 x3 j k := by
  rw [val_main_v16_apply, val_main_v15_apply]
  refine congrArg x3 ?_
  funext a; apply Fin.ext; fin_cases a
  · rfl
  · show (j.val * 1024 + k.val) / 1024 % 2816 = j.val; omega
  · show (j.val * 1024 + k.val) % 1024 = k.val; omega

/-- The first projection's stage. -/
theorem proj_eq (r : Fin 16384) (j : Fin 5632) : val_main_v17 (F := Ideal) x0 x1 x2 (ix2 r j)
    = ∑ i, nrm (rowAt (x0) r) (gainAt x1) i * inAt 0 x2 i j := by
  rw [val_main_v17_apply]
  refine Finset.sum_congr rfl fun i _ => ?_
  have e1 : lidx_main_v17 (ix2 r j) i = ix2 r i := by
    funext a; fin_cases a <;> rfl
  have e2 : ridx_main_v17 (ix2 r j) i = ix2 i j := by
    funext a; fin_cases a <;> rfl
  rw [e1, e2, norm_eq, in_eq]

theorem gate_eq (r : Fin 16384) (j : Fin 2816) : val_main_v20 (F := Ideal) x0 x1 x2 (ix2 r j)
    = silu (val_main_v18 (F := Ideal) x0 x1 x2 (ix2 r j)) := by
  rw [val_main_v20_apply, val_main_call0_v5_apply, val_main_call0_v4_apply, val_main_call0_v3_apply, val_main_call0_v2_apply,
    val_main_call0_v1_apply, val_main_call0_v0_apply, val_main_call0_cst_apply, val_main_call0_cst_0_apply]
  unfold silu
  rw [zero_sub, ← one_eq]
  rfl

/-- The hidden units' stage. -/
theorem hid_eq (r : Fin 16384) (j : Fin 2816) : val_main_v21 (F := Ideal) x0 x1 x2 (ix2 r j)
    = hid (nrm (rowAt (x0) r) (gainAt x1)) (inAt 0 x2) j := by
  have e1 : idx_main_v18 (ix2 r j) = ix2 r (⟨j.val, by omega⟩ : Fin 5632) := by
    funext a; fin_cases a <;> rfl
  have e2 : idx_main_v19 (ix2 r j) = ix2 r (⟨2816 + j.val, by omega⟩ : Fin 5632) := by
    funext a; fin_cases a <;> rfl
  rw [val_main_v21_apply, gate_eq, val_main_v18_apply, val_main_v19_apply, e1, e2, proj_eq, proj_eq]
  rfl

theorem down_eq (r : Fin 16384) (k : Fin 1024) : val_main_v22 (F := Ideal) x0 x1 x2 x3 (ix2 r k)
    = ∑ j, hid (nrm (rowAt (x0) r) (gainAt x1)) (inAt 0 x2) j * outAt 0 x3 j k := by
  rw [val_main_v22_apply]
  refine Finset.sum_congr rfl fun j _ => ?_
  have e1 : lidx_main_v22 (ix2 r k) j = ix2 r j := by
    funext a; fin_cases a <;> rfl
  have e2 : ridx_main_v22 (ix2 r k) j = ix2 j k := by
    funext a; fin_cases a <;> rfl
  rw [e1, e2, hid_eq, out_eq]

/-- The call's row. -/
theorem row_eq (r : Fin 16384) : rowAt (val_main_v25 (F := Ideal) x0 x1 x2 x3) r = plain 0 x0 x1 x2 x3 r := by
  funext k
  show val_main_v25 (F := Ideal) x0 x1 x2 x3 (ix2 r k) = _
  rw [val_main_v25_apply, val_main_v24_apply, val_main_v23_apply, down_eq, val_main_cst_2_apply]
  show rowAt (x0) r k + half * _ = ffn _ _ _ _ k
  rfl

/-- The whole result. -/
theorem val_eq : val_main_v25 (F := Ideal) x0 x1 x2 x3 = fun i => plain 0 x0 x1 x2 x3 (i 0) (i 1) := by
  funext i
  have hi : i = (ix2 (i 0) (i 1) : S16384x1024.Idx) := by
    funext a; fin_cases a <;> rfl
  rw [hi]
  exact congrFun (row_eq x0 x1 x2 x3 (i 0)) (i 1)

end Cert.Reference3Ideal.Read

end
-- ==== Proof.K4I.Out.lean ====
/-
  The result array of the second layer's first feed-forward call, entry by entry, as a function of its arguments.
-/
module

public import proofs.«01_k».proof.Proof.Gen.Kernel4Ideal.Value
public import proofs.«01_k».proof.Proof.Ffn.Read
public import proofs.«01_k».proof.Proof.Ffn.Whole

@[expose] public section

set_option maxRecDepth 16384

noncomputable section

namespace Cert.Kernel4Ideal.FF

open Cert.Kernel4Ideal Cert.Kernel4Ideal.Gen Cert.Ffn
open Idealize.ShloMosaic Idealize.ShloMosaic.TcCoe Idealize.ShloMosaic.Pointwise Idealize.ShloMosaic.StableHlo
open Idealize.ShloMosaic.Pipeline

theorem out_eq (x : Vec Ideal S1024x1024 .f32) (g : Vec Ideal S1x1024 .f32) (wi : Vec Ideal S1x1024x5632 .bf16) (wo : Vec Ideal S1x2816x1024 .f32) :
    out0_4 (F := Ideal) x g wi wo = ffnV x g wi wo := by
  have h : out0_4 (F := Ideal) x g wi wo = View.canon [⟨r0_0, ffnV (View.ld x r0_0) (View.ld g r0_1) wi wo⟩] := rfl
  rw [h, View.ld_unit_lit' _ x (by decide), View.ld_unit_lit' _ g (by decide)]
  exact View.canon_cons_unit_lit' _ _ _ (by decide)

variable (m : (ℓ : Loc nD τ sig) → Buf (Elt Ideal) ℓ) (c : Dev nD) (t : Fin cfg0.N)

/-! ## The arrays the call reads -/

theorem V_g (k : Fin 1024) : V m c main_v1 (ix2 0 k) = m ((c : Thread nD τ).loc main_arg1) (ix1 k) := by
  unfold V
  after_results
  pointwise
theorem V_wi (i : S2x1024x5632.Idx) : V m c main_v0 i = m ((c : Thread nD τ).loc main_arg2) i := by
  unfold V
  after_results
  rfl

/-! ## The blocks at a grid point -/

theorem toNat_small (n : ℕ) (h : n < 2 ^ 32) : (BitVec.ofNat 32 n).toNat = n := by
  rw [BitVec.toNat_ofNat, Nat.mod_eq_of_lt h]

def pi : Fin 16 := grid0.coords t 0

theorem win_at : (win0_0.index t 0 = (pi t).val ∧ win0_0.index t 1 = 0) ∧ (win0_1.index t 0 = 0 ∧ win0_1.index t 1 = 0)
    ∧ (win0_2.index t 0 = 1 ∧ win0_2.index t 1 = 0 ∧ win0_2.index t 2 = 0) ∧ (win0_3.index t 0 = 1 ∧ win0_3.index t 1 = 0 ∧ win0_3.index t 2 = 0)
    ∧ (win0_4.index t 0 = (pi t).val ∧ win0_4.index t 1 = 0) := by
  have h := toNat_small (grid0.coords t 0).val (lt_trans (grid0.coords t 0).isLt (by decide))
  exact ⟨⟨h, rfl⟩, ⟨rfl, rfl⟩, ⟨rfl, rfl, rfl⟩, ⟨rfl, rfl, rfl⟩, ⟨h, rfl⟩⟩

/-- Row `r` of the point's block of rows. -/
def row (r : Fin 1024) : Fin 16384 := ⟨(pi t).val * 1024 + r.val, by have := (pi t).isLt; omega⟩

theorem blk0 (r k : Fin 1024) : iblk m c 0 t (ix2 r k) = m ((c : Thread nD τ).loc main_arg0) (ix2 (row t r) k) := by
  show V m c main_arg0 ((cfg0.win 0 |>.blk t).view.emb (ix2 r k)) = _
  rw [V_main_arg0]
  refine congrArg (m ((c : Thread nD τ).loc main_arg0)) ?_
  funext a; apply Fin.ext; fin_cases a <;> blk_simp <;> simp [win_at, row]
theorem blk1 (k : Fin 1024) : iblk m c 1 t (ix2 0 k) = m ((c : Thread nD τ).loc main_arg1) (ix1 k) := by
  show V m c main_v1 ((cfg0.win 1 |>.blk t).view.emb (ix2 0 k)) = _
  refine (congrArg (V m c main_v1) ?_).trans (V_g m c k)
  funext a; apply Fin.ext; fin_cases a <;> blk_simp <;> simp [win_at]
theorem blk2 (i : Fin 1024) (j : Fin 5632) : iblk m c 2 t (ix3 0 i j) = m ((c : Thread nD τ).loc main_arg2) (ix3 1 i j) := by
  show V m c main_v0 ((cfg0.win 2 |>.blk t).view.emb (ix3 0 i j)) = _
  refine (V_wi m c _).trans (congrArg (m ((c : Thread nD τ).loc main_arg2)) ?_)
  funext a; apply Fin.ext; fin_cases a <;> blk_simp <;> simp [win_at]
theorem blk3 (j : Fin 2816) (k : Fin 1024) : iblk m c 3 t (ix3 0 j k) = m ((c : Thread nD τ).loc main_arg3) (ix3 1 j k) := by
  show V m c main_arg3 ((cfg0.win 3 |>.blk t).view.emb (ix3 0 j k)) = _
  rw [V_main_arg3]
  refine congrArg (m ((c : Thread nD τ).loc main_arg3)) ?_
  funext a; apply Fin.ext; fin_cases a <;> blk_simp <;> simp [win_at]
theorem emb4 (r k : Fin 1024) : ((cfg0.win 4).blk t).view.emb (ix2 r k) = ix2 (row t r) k := by
  funext a; apply Fin.ext; fin_cases a <;> blk_simp <;> simp [win_at, row]

/-! ## The result -/

/-- The result from the arguments' contents. -/
def G : S16384x1024.Idx → EReal := fun i =>
  plain 1 (m ((c : Thread nD τ).loc main_arg0)) (m ((c : Thread nD τ).loc main_arg1)) (m ((c : Thread nD τ).loc main_arg2))
    (m ((c : Thread nD τ).loc main_arg3)) (i 0) (i 1)

theorem point_out (r k : Fin 1024) :
    out0_4 (iblk m c 0 t) (iblk m c 1 t) (iblk m c 2 t) (iblk m c 3 t) (ix2 r k)
      = G m c (ix2 (row t r) k) := by
  have h0 : rowOf (iblk m c 0 t) r = rowAt (m ((c : Thread nD τ).loc main_arg0)) (row t r) := funext fun _ => blk0 m c t r _
  have h1 : gainOf (iblk m c 1 t) = gainAt (m ((c : Thread nD τ).loc main_arg1)) := funext fun _ => blk1 m c t _
  have h2 : inOf (iblk m c 2 t) = inAt 1 (m ((c : Thread nD τ).loc main_arg2)) := funext fun _ => funext fun _ => blk2 m c t _ _
  have h3 : outOf (iblk m c 3 t) = outAt 1 (m ((c : Thread nD τ).loc main_arg3)) := funext fun _ => funext fun _ => blk3 m c t _ _
  rw [out_eq, ffnV_apply, h0, h1, h2, h3]
  rfl

theorem arr_eq : (dats m 0 c).arrAt 4 cfg0.N = G m c := by
  refine (dats m 0 c).arrAt_eq_of_covers 4 _ (by decide +kernel) fun t hf y => ?_
  blk_simp
  rw [after0_4]
  have hy : y = (ix2 (y 0) (y 1) : S1024x1024.Idx) := by
    funext a; fin_cases a <;> rfl
  rw [hy]
  exact (point_out m c t (y 0) (y 1)).trans (congrArg _ (emb4 t (y 0) (y 1)).symm)

end Cert.Kernel4Ideal.FF

end
-- ==== Proof.R4I.Value.lean ====
/-
  The reference of the second layer's first feed-forward call, read at a row and a column.
-/
module

public import proofs.«01_k».proof.Proof.Gen.Reference4Ideal.Read
public import proofs.«01_k».proof.Proof.Ffn.Whole

@[expose] public section

set_option maxRecDepth 16384

noncomputable section

namespace Cert.Reference4Ideal.Read

open Cert.Reference4Ideal Cert.Reference4Ideal.Gen Cert.Ffn
open Idealize.ShloMosaic Idealize.ShloMosaic.TcCoe Idealize.ShloMosaic.Pointwise

variable (x0 : (⟨S16384x1024, .f32⟩ : BufTy).Contents (Elt Ideal)) (x1 : (⟨S1024, .f32⟩ : BufTy).Contents (Elt Ideal))
  (x2 : (⟨S2x1024x5632, .f32⟩ : BufTy).Contents (Elt Ideal)) (x3 : (⟨S2x2816x1024, .f32⟩ : BufTy).Contents (Elt Ideal))

/-- The norm's stage of a row. -/
theorem norm_eq (r : Fin 16384) (k : Fin 1024) :
    val_main_v12 (F := Ideal) x0 x1 (ix2 r k) = nrm (rowAt (x0) r) (gainAt x1) k := by
  have hs : val_main_v1 (F := Ideal) x0 (idx_main_v2 (idx_main_v8 (ix2 r k)))
      = ∑ i, rowAt (x0) r i * rowAt (x0) r i := by
    rw [val_main_v1_apply, val_main_cst_apply]
    show Ideal.ofBits .f32 0x00000000#32 + _ = _
    rw [Ideal.ofBits_zero_f32, zero_add]
    refine Finset.sum_congr rfl fun i _ => ?_
    have e : idx_main_v1 (idx_main_v2 (idx_main_v8 (ix2 r k))) i = ix2 r i := by
      funext a; fin_cases a <;> rfl
    rw [val_main_v0_apply, e]
    rfl
  have hg : val_main_v11 (F := Ideal) x1 (ix2 r k) = gainAt x1 k := by
    rw [val_main_v11_apply, val_main_v10_apply]
    exact congrArg x1 (by funext a; fin_cases a; rfl)
  rw [val_main_v12_apply, val_main_v9_apply, val_main_v8_apply, val_main_v7_apply, val_main_v6_apply, val_main_v4_apply,
    val_main_v2_apply, hs, hg, val_main_v3_apply, val_main_v5_apply, val_main_cst_0_apply, val_main_cst_1_apply]
  rfl

/-- The weights' stages: the layer's slice. -/
theorem in_eq (i : Fin 1024) (j : Fin 5632) : val_main_v14 (F := Ideal) x2 (ix2 i j) = inAt 1 x2 i j := by
  rw [val_main_v14_apply, val_main_v13_apply]
  refine congrArg x2 ?_
  funext a; apply Fin.ext; fin_cases a
  · rfl
  · show (i.val * 5632 + j.val) / 5632 % 1024 = i.val; omega
  · show (i.val * 5632 + j.val) % 5632 = j.val; omega
theorem out_eq (j : Fin 2816) (k : Fin 1024) : val_main_v16 (F := Ideal) x3 (ix2 j k) = outAt 1 x3 j k := by
  rw [val_main_v16_apply, val_main_v15_apply]
  refine congrArg x3 ?_
  funext a; apply Fin.ext; fin_cases a
  · rfl
  · show (j.val * 1024 + k.val) / 1024 % 2816 = j.val; omega
  · show (j.val * 1024 + k.val) % 1024 = k.val; omega

/-- The first projection's stage. -/
theorem proj_eq (r : Fin 16384) (j : Fin 5632) : val_main_v17 (F := Ideal) x0 x1 x2 (ix2 r j)
    = ∑ i, nrm (rowAt (x0) r) (gainAt x1) i * inAt 1 x2 i j := by
  rw [val_main_v17_apply]
  refine Finset.sum_congr rfl fun i _ => ?_
  have e1 : lidx_main_v17 (ix2 r j) i = ix2 r i := by
    funext a; fin_cases a <;> rfl
  have e2 : ridx_main_v17 (ix2 r j) i = ix2 i j := by
    funext a; fin_cases a <;> rfl
  rw [e1, e2, norm_eq, in_eq]

theorem gate_eq (r : Fin 16384) (j : Fin 2816) : val_main_v20 (F := Ideal) x0 x1 x2 (ix2 r j)
    = silu (val_main_v18 (F := Ideal) x0 x1 x2 (ix2 r j)) := by
  rw [val_main_v20_apply, val_main_call0_v5_apply, val_main_call0_v4_apply, val_main_call0_v3_apply, val_main_call0_v2_apply,
    val_main_call0_v1_apply, val_main_call0_v0_apply, val_main_call0_cst_apply, val_main_call0_cst_0_apply]
  unfold silu
  rw [zero_sub, ← one_eq]
  rfl

/-- The hidden units' stage. -/
theorem hid_eq (r : Fin 16384) (j : Fin 2816) : val_main_v21 (F := Ideal) x0 x1 x2 (ix2 r j)
    = hid (nrm (rowAt (x0) r) (gainAt x1)) (inAt 1 x2) j := by
  have e1 : idx_main_v18 (ix2 r j) = ix2 r (⟨j.val, by omega⟩ : Fin 5632) := by
    funext a; fin_cases a <;> rfl
  have e2 : idx_main_v19 (ix2 r j) = ix2 r (⟨2816 + j.val, by omega⟩ : Fin 5632) := by
    funext a; fin_cases a <;> rfl
  rw [val_main_v21_apply, gate_eq, val_main_v18_apply, val_main_v19_apply, e1, e2, proj_eq, proj_eq]
  rfl

theorem down_eq (r : Fin 16384) (k : Fin 1024) : val_main_v22 (F := Ideal) x0 x1 x2 x3 (ix2 r k)
    = ∑ j, hid (nrm (rowAt (x0) r) (gainAt x1)) (inAt 1 x2) j * outAt 1 x3 j k := by
  rw [val_main_v22_apply]
  refine Finset.sum_congr rfl fun j _ => ?_
  have e1 : lidx_main_v22 (ix2 r k) j = ix2 r j := by
    funext a; fin_cases a <;> rfl
  have e2 : ridx_main_v22 (ix2 r k) j = ix2 j k := by
    funext a; fin_cases a <;> rfl
  rw [e1, e2, hid_eq, out_eq]

/-- The call's row. -/
theorem row_eq (r : Fin 16384) : rowAt (val_main_v25 (F := Ideal) x0 x1 x2 x3) r = plain 1 x0 x1 x2 x3 r := by
  funext k
  show val_main_v25 (F := Ideal) x0 x1 x2 x3 (ix2 r k) = _
  rw [val_main_v25_apply, val_main_v24_apply, val_main_v23_apply, down_eq, val_main_cst_2_apply]
  show rowAt (x0) r k + half * _ = ffn _ _ _ _ k
  rfl

/-- The whole result. -/
theorem val_eq : val_main_v25 (F := Ideal) x0 x1 x2 x3 = fun i => plain 1 x0 x1 x2 x3 (i 0) (i 1) := by
  funext i
  have hi : i = (ix2 (i 0) (i 1) : S16384x1024.Idx) := by
    funext a; fin_cases a <;> rfl
  rw [hi]
  exact congrFun (row_eq x0 x1 x2 x3 (i 0)) (i 1)

end Cert.Reference4Ideal.Read

end
-- ==== Proof.K5I.Out.lean ====
/-
  The result array of the first layer's second feed-forward call, entry by entry, as a function of its arguments.
-/
module

public import proofs.«01_k».proof.Proof.Gen.Kernel5Ideal.Value
public import proofs.«01_k».proof.Proof.Ffn.Read
public import proofs.«01_k».proof.Proof.Ffn.Whole

@[expose] public section

set_option maxRecDepth 16384

noncomputable section

namespace Cert.Kernel5Ideal.FF

open Cert.Kernel5Ideal Cert.Kernel5Ideal.Gen Cert.Ffn
open Idealize.ShloMosaic Idealize.ShloMosaic.TcCoe Idealize.ShloMosaic.Pointwise Idealize.ShloMosaic.StableHlo
open Idealize.ShloMosaic.Pipeline

theorem out_eq (x : Vec Ideal S1024x1024 .f32) (g : Vec Ideal S1x1024 .f32) (wi : Vec Ideal S1x1024x5632 .bf16) (wo : Vec Ideal S1x2816x1024 .f32)
    (a b : Vec Ideal S1024x512 .bf16) (w : Vec Ideal S1024x1024 .bf16) :
    out0_7 (F := Ideal) x g wi wo a b w = ffnV (mixV x a b w) g wi wo := by
  have h : out0_7 (F := Ideal) x g wi wo a b w = View.canon [⟨r0_0, ffnV
      (mixV (View.ld x r0_0) (View.ld a r0_1) (View.ld b r0_1) w) (View.ld g r0_4) wi wo⟩] := rfl
  rw [h, View.ld_unit_lit' _ x (by decide), View.ld_unit_lit' _ a (by decide), View.ld_unit_lit' _ b (by decide), View.ld_unit_lit' _ g (by decide)]
  exact View.canon_cons_unit_lit' _ _ _ (by decide)

variable (m : (ℓ : Loc nD τ sig) → Buf (Elt Ideal) ℓ) (c : Dev nD) (t : Fin cfg0.N)

/-! ## The arrays the call reads -/

theorem V_g (k : Fin 1024) : V m c main_v2 (ix2 0 k) = m ((c : Thread nD τ).loc main_arg1) (ix1 k) := by
  unfold V
  after_results
  pointwise
theorem V_wi (i : S2x1024x5632.Idx) : V m c main_v1 i = m ((c : Thread nD τ).loc main_arg2) i := by
  unfold V
  after_results
  rfl
theorem V_w (i : S1024x1024.Idx) : V m c main_v0 i = m ((c : Thread nD τ).loc main_arg6) i := by
  unfold V
  after_results
  rfl
/-! ## The blocks at a grid point -/

theorem toNat_small (n : ℕ) (h : n < 2 ^ 32) : (BitVec.ofNat 32 n).toNat = n := by
  rw [BitVec.toNat_ofNat, Nat.mod_eq_of_lt h]

def pi : Fin 16 := grid0.coords t 0

theorem win_at : (win0_0.index t 0 = (pi t).val ∧ win0_0.index t 1 = 0) ∧ (win0_1.index t 0 = 0 ∧ win0_1.index t 1 = 0)
    ∧ (win0_2.index t 0 = 0 ∧ win0_2.index t 1 = 0 ∧ win0_2.index t 2 = 0) ∧ (win0_3.index t 0 = 0 ∧ win0_3.index t 1 = 0 ∧ win0_3.index t 2 = 0)
    ∧ (win0_4.index t 0 = (pi t).val ∧ win0_4.index t 1 = 0) ∧ (win0_5.index t 0 = (pi t).val ∧ win0_5.index t 1 = 0)
    ∧ (win0_6.index t 0 = 0 ∧ win0_6.index t 1 = 0)
    ∧ (win0_7.index t 0 = (pi t).val ∧ win0_7.index t 1 = 0) := by
  have h := toNat_small (grid0.coords t 0).val (lt_trans (grid0.coords t 0).isLt (by decide))
  exact ⟨⟨h, rfl⟩, ⟨rfl, rfl⟩, ⟨rfl, rfl, rfl⟩, ⟨rfl, rfl, rfl⟩, ⟨h, rfl⟩, ⟨h, rfl⟩, ⟨rfl, rfl⟩, ⟨h, rfl⟩⟩

/-- Row `r` of the point's block of rows. -/
def row (r : Fin 1024) : Fin 16384 := ⟨(pi t).val * 1024 + r.val, by have := (pi t).isLt; omega⟩

theorem blk0 (r k : Fin 1024) : iblk m c 0 t (ix2 r k) = m ((c : Thread nD τ).loc main_arg0) (ix2 (row t r) k) := by
  show V m c main_arg0 ((cfg0.win 0 |>.blk t).view.emb (ix2 r k)) = _
  rw [V_main_arg0]
  refine congrArg (m ((c : Thread nD τ).loc main_arg0)) ?_
  funext a; apply Fin.ext; fin_cases a <;> blk_simp <;> simp [win_at, row]
theorem blk1 (k : Fin 1024) : iblk m c 1 t (ix2 0 k) = m ((c : Thread nD τ).loc main_arg1) (ix1 k) := by
  show V m c main_v2 ((cfg0.win 1 |>.blk t).view.emb (ix2 0 k)) = _
  refine (congrArg (V m c main_v2) ?_).trans (V_g m c k)
  funext a; apply Fin.ext; fin_cases a <;> blk_simp <;> simp [win_at]
theorem blk2 (i : Fin 1024) (j : Fin 5632) : iblk m c 2 t (ix3 0 i j) = m ((c : Thread nD τ).loc main_arg2) (ix3 0 i j) := by
  show V m c main_v1 ((cfg0.win 2 |>.blk t).view.emb (ix3 0 i j)) = _
  refine (V_wi m c _).trans (congrArg (m ((c : Thread nD τ).loc main_arg2)) ?_)
  funext a; apply Fin.ext; fin_cases a <;> blk_simp <;> simp [win_at]
theorem blk3 (j : Fin 2816) (k : Fin 1024) : iblk m c 3 t (ix3 0 j k) = m ((c : Thread nD τ).loc main_arg3) (ix3 0 j k) := by
  show V m c main_arg3 ((cfg0.win 3 |>.blk t).view.emb (ix3 0 j k)) = _
  rw [V_main_arg3]
  refine congrArg (m ((c : Thread nD τ).loc main_arg3)) ?_
  funext a; apply Fin.ext; fin_cases a <;> blk_simp <;> simp [win_at]
theorem blk4 (r : Fin 1024) (k : Fin 512) : iblk m c 4 t (ix2 r k) = m ((c : Thread nD τ).loc main_arg4) (ix2 (row t r) k) := by
  show V m c main_arg4 ((cfg0.win 4 |>.blk t).view.emb (ix2 r k)) = _
  rw [V_main_arg4]
  refine congrArg (m ((c : Thread nD τ).loc main_arg4)) ?_
  funext a; apply Fin.ext; fin_cases a <;> blk_simp <;> simp [win_at, row]
theorem blk5 (r : Fin 1024) (k : Fin 512) : iblk m c 5 t (ix2 r k) = m ((c : Thread nD τ).loc main_arg5) (ix2 (row t r) k) := by
  show V m c main_arg5 ((cfg0.win 5 |>.blk t).view.emb (ix2 r k)) = _
  rw [V_main_arg5]
  refine congrArg (m ((c : Thread nD τ).loc main_arg5)) ?_
  funext a; apply Fin.ext; fin_cases a <;> blk_simp <;> simp [win_at, row]
theorem blk6 (i k : Fin 1024) : iblk m c 6 t (ix2 i k) = m ((c : Thread nD τ).loc main_arg6) (ix2 i k) := by
  show V m c main_v0 ((cfg0.win 6 |>.blk t).view.emb (ix2 i k)) = _
  refine (V_w m c _).trans (congrArg (m ((c : Thread nD τ).loc main_arg6)) ?_)
  funext a; apply Fin.ext; fin_cases a <;> blk_simp <;> simp [win_at]
theorem emb7 (r k : Fin 1024) : ((cfg0.win 7).blk t).view.emb (ix2 r k) = ix2 (row t r) k := by
  funext a; apply Fin.ext; fin_cases a <;> blk_simp <;> simp [win_at, row]

/-! ## The result -/

/-- The result from the arguments' contents. -/
def G : S16384x1024.Idx → EReal := fun i =>
  mixed 0 (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1)

theorem point_out (r k : Fin 1024) :
    out0_7 (iblk m c 0 t) (iblk m c 1 t) (iblk m c 2 t) (iblk m c 3 t) (iblk m c 4 t) (iblk m c 5 t) (iblk m c 6 t) (ix2 r k)
      = G m c (ix2 (row t r) k) := by
  have h0 : rowOf (iblk m c 0 t) r = rowAt (m ((c : Thread nD τ).loc main_arg0)) (row t r) := funext fun _ => blk0 m c t r _
  have h1 : gainOf (iblk m c 1 t) = gainAt (m ((c : Thread nD τ).loc main_arg1)) := funext fun _ => blk1 m c t _
  have h2 : inOf (iblk m c 2 t) = inAt 0 (m ((c : Thread nD τ).loc main_arg2)) := funext fun _ => funext fun _ => blk2 m c t _ _
  have h3 : outOf (iblk m c 3 t) = outAt 0 (m ((c : Thread nD τ).loc main_arg3)) := funext fun _ => funext fun _ => blk3 m c t _ _
  have h4 : halfOf (iblk m c 4 t) r = halfAt (m ((c : Thread nD τ).loc main_arg4)) (row t r) := funext fun _ => blk4 m c t r _
  have h5 : halfOf (iblk m c 5 t) r = halfAt (m ((c : Thread nD τ).loc main_arg5)) (row t r) := funext fun _ => blk5 m c t r _
  have h6 : mixOf (iblk m c 6 t) = mixAt (m ((c : Thread nD τ).loc main_arg6)) := funext fun _ => funext fun _ => blk6 m c t _ _
  have hm : rowOf (mixV (iblk m c 0 t) (iblk m c 4 t) (iblk m c 5 t) (iblk m c 6 t)) r = mix (rowAt (m ((c : Thread nD τ).loc main_arg0)) (row t r))
      (halfAt (m ((c : Thread nD τ).loc main_arg4)) (row t r)) (halfAt (m ((c : Thread nD τ).loc main_arg5)) (row t r)) (mixAt (m ((c : Thread nD τ).loc main_arg6))) :=
    funext fun i => (mixV_apply _ _ _ _ r i).trans (by rw [h0, h4, h5, h6])
  rw [out_eq, ffnV_apply, hm, h1, h2, h3]
  rfl

theorem arr_eq : (dats m 0 c).arrAt 7 cfg0.N = G m c := by
  refine (dats m 0 c).arrAt_eq_of_covers 7 _ (by decide +kernel) fun t hf y => ?_
  blk_simp
  rw [after0_7]
  have hy : y = (ix2 (y 0) (y 1) : S1024x1024.Idx) := by
    funext a; fin_cases a <;> rfl
  rw [hy]
  exact (point_out m c t (y 0) (y 1)).trans (congrArg _ (emb7 t (y 0) (y 1)).symm)

end Cert.Kernel5Ideal.FF

end
-- ==== Proof.R5I.Value.lean ====
/-
  The reference of the first layer's second feed-forward call, read at a row and a column.
-/
module

public import proofs.«01_k».proof.Proof.Gen.Reference5Ideal.Read
public import proofs.«01_k».proof.Proof.Ffn.Whole

@[expose] public section

set_option maxRecDepth 16384

noncomputable section

namespace Cert.Reference5Ideal.Read

open Cert.Reference5Ideal Cert.Reference5Ideal.Gen Cert.Ffn
open Idealize.ShloMosaic Idealize.ShloMosaic.TcCoe Idealize.ShloMosaic.Pointwise

variable (x0 : (⟨S16384x1024, .f32⟩ : BufTy).Contents (Elt Ideal)) (x1 : (⟨S1024, .f32⟩ : BufTy).Contents (Elt Ideal))
  (x2 : (⟨S2x1024x5632, .f32⟩ : BufTy).Contents (Elt Ideal)) (x3 : (⟨S2x2816x1024, .f32⟩ : BufTy).Contents (Elt Ideal))
  (x4 x5 : (⟨S16384x512, .bf16⟩ : BufTy).Contents (Elt Ideal)) (x6 : (⟨S1024x1024, .f32⟩ : BufTy).Contents (Elt Ideal))

/-- The two halves joined: the first 512 entries of a row, and the rest. -/
theorem left_eq (r : Fin 16384) (i : Fin 512) : val_main_v0 (F := Ideal) x4 x5 (ix2 r (⟨i.val, by omega⟩ : Fin 1024)) = x4 (ix2 r i) := by
  refine concatenate_pair_apply_left (s₁ := S16384x512) (s₂ := S16384x512) (t := S16384x1024) (1 : Fin 2) x4 x5
    concatenates_S16384x512_S16384x512_S16384x1024_d1 _ rfl (ix2 r i) fun a => ?_
  fin_cases a <;> rfl
theorem right_eq (r : Fin 16384) (i : Fin 512) : val_main_v0 (F := Ideal) x4 x5 (ix2 r (⟨512 + i.val, by omega⟩ : Fin 1024)) = x5 (ix2 r i) := by
  refine concatenate_pair_apply_right (s₁ := S16384x512) (s₂ := S16384x512) (t := S16384x1024) (1 : Fin 2) x4 x5
    concatenates_S16384x512_S16384x512_S16384x1024_d1 _ rfl rfl (ix2 r i) (fun a ha => ?_) (Nat.add_comm i.val 512)
  fin_cases a
  · rfl
  · exact absurd rfl ha

/-- The rows after the output projection. -/
theorem mixed_eq (r : Fin 16384) : rowAt (val_main_v3 (F := Ideal) x0 x4 x5 x6) r = mix (rowAt x0 r) (halfAt x4 r) (halfAt x5 r) (mixAt x6) := by
  funext k
  have hd : val_main_v2 (F := Ideal) x4 x5 x6 (ix2 r k) = ∑ i : Fin 1024, HMul.hMul (α := EReal) (β := EReal) (γ := EReal)
      (val_main_v0 (F := Ideal) x4 x5 (ix2 r i)) (mixAt x6 i k) := by
    rw [val_main_v2_apply]
    refine Finset.sum_congr rfl fun i _ => ?_
    have e1 : lidx_main_v2 (ix2 r k) i = ix2 r i := by
      funext a; fin_cases a <;> rfl
    have e2 : ridx_main_v2 (ix2 r k) i = ix2 i k := by
      funext a; fin_cases a <;> rfl
    rw [e1, e2, val_main_v1_apply]
    rfl
  show val_main_v3 (F := Ideal) x0 x4 x5 x6 (ix2 r k) = _
  rw [val_main_v3_apply, hd, sum_joined]
  simp only [left_eq, right_eq]
  exact (add_assoc (G := EReal) _ _ _).symm

/-- The norm's stage of a row. -/
theorem norm_eq (r : Fin 16384) (k : Fin 1024) :
    val_main_v16 (F := Ideal) x0 x1 x4 x5 x6 (ix2 r k) = nrm (rowAt (val_main_v3 (F := Ideal) x0 x4 x5 x6) r) (gainAt x1) k := by
  have hs : val_main_v5 (F := Ideal) x0 x4 x5 x6 (idx_main_v6 (idx_main_v12 (ix2 r k)))
      = ∑ i, rowAt (val_main_v3 (F := Ideal) x0 x4 x5 x6) r i * rowAt (val_main_v3 (F := Ideal) x0 x4 x5 x6) r i := by
    rw [val_main_v5_apply, val_main_cst_apply]
    show Ideal.ofBits .f32 0x00000000#32 + _ = _
    rw [Ideal.ofBits_zero_f32, zero_add]
    refine Finset.sum_congr rfl fun i _ => ?_
    have e : idx_main_v5 (idx_main_v6 (idx_main_v12 (ix2 r k))) i = ix2 r i := by
      funext a; fin_cases a <;> rfl
    rw [val_main_v4_apply, e]
    rfl
  have hg : val_main_v15 (F := Ideal) x1 (ix2 r k) = gainAt x1 k := by
    rw [val_main_v15_apply, val_main_v14_apply]
    exact congrArg x1 (by funext a; fin_cases a; rfl)
  rw [val_main_v16_apply, val_main_v13_apply, val_main_v12_apply, val_main_v11_apply, val_main_v10_apply, val_main_v8_apply,
    val_main_v6_apply, hs, hg, val_main_v7_apply, val_main_v9_apply, val_main_cst_0_apply, val_main_cst_1_apply]
  rfl

/-- The weights' stages: the layer's slice. -/
theorem in_eq (i : Fin 1024) (j : Fin 5632) : val_main_v18 (F := Ideal) x2 (ix2 i j) = inAt 0 x2 i j := by
  rw [val_main_v18_apply, val_main_v17_apply]
  refine congrArg x2 ?_
  funext a; apply Fin.ext; fin_cases a
  · rfl
  · show (i.val * 5632 + j.val) / 5632 % 1024 = i.val; omega
  · show (i.val * 5632 + j.val) % 5632 = j.val; omega
theorem out_eq (j : Fin 2816) (k : Fin 1024) : val_main_v20 (F := Ideal) x3 (ix2 j k) = outAt 0 x3 j k := by
  rw [val_main_v20_apply, val_main_v19_apply]
  refine congrArg x3 ?_
  funext a; apply Fin.ext; fin_cases a
  · rfl
  · show (j.val * 1024 + k.val) / 1024 % 2816 = j.val; omega
  · show (j.val * 1024 + k.val) % 1024 = k.val; omega

/-- The first projection's stage. -/
theorem proj_eq (r : Fin 16384) (j : Fin 5632) : val_main_v21 (F := Ideal) x0 x1 x2 x4 x5 x6 (ix2 r j)
    = ∑ i, nrm (rowAt (val_main_v3 (F := Ideal) x0 x4 x5 x6) r) (gainAt x1) i * inAt 0 x2 i j := by
  rw [val_main_v21_apply]
  refine Finset.sum_congr rfl fun i _ => ?_
  have e1 : lidx_main_v21 (ix2 r j) i = ix2 r i := by
    funext a; fin_cases a <;> rfl
  have e2 : ridx_main_v21 (ix2 r j) i = ix2 i j := by
    funext a; fin_cases a <;> rfl
  rw [e1, e2, norm_eq, in_eq]

theorem gate_eq (r : Fin 16384) (j : Fin 2816) : val_main_v24 (F := Ideal) x0 x1 x2 x4 x5 x6 (ix2 r j)
    = silu (val_main_v22 (F := Ideal) x0 x1 x2 x4 x5 x6 (ix2 r j)) := by
  rw [val_main_v24_apply, val_main_call0_v5_apply, val_main_call0_v4_apply, val_main_call0_v3_apply, val_main_call0_v2_apply,
    val_main_call0_v1_apply, val_main_call0_v0_apply, val_main_call0_cst_apply, val_main_call0_cst_0_apply]
  unfold silu
  rw [zero_sub, ← one_eq]
  rfl

/-- The hidden units' stage. -/
theorem hid_eq (r : Fin 16384) (j : Fin 2816) : val_main_v25 (F := Ideal) x0 x1 x2 x4 x5 x6 (ix2 r j)
    = hid (nrm (rowAt (val_main_v3 (F := Ideal) x0 x4 x5 x6) r) (gainAt x1)) (inAt 0 x2) j := by
  have e1 : idx_main_v22 (ix2 r j) = ix2 r (⟨j.val, by omega⟩ : Fin 5632) := by
    funext a; fin_cases a <;> rfl
  have e2 : idx_main_v23 (ix2 r j) = ix2 r (⟨2816 + j.val, by omega⟩ : Fin 5632) := by
    funext a; fin_cases a <;> rfl
  rw [val_main_v25_apply, gate_eq, val_main_v22_apply, val_main_v23_apply, e1, e2, proj_eq, proj_eq]
  rfl

theorem down_eq (r : Fin 16384) (k : Fin 1024) : val_main_v26 (F := Ideal) x0 x1 x2 x3 x4 x5 x6 (ix2 r k)
    = ∑ j, hid (nrm (rowAt (val_main_v3 (F := Ideal) x0 x4 x5 x6) r) (gainAt x1)) (inAt 0 x2) j * outAt 0 x3 j k := by
  rw [val_main_v26_apply]
  refine Finset.sum_congr rfl fun j _ => ?_
  have e1 : lidx_main_v26 (ix2 r k) j = ix2 r j := by
    funext a; fin_cases a <;> rfl
  have e2 : ridx_main_v26 (ix2 r k) j = ix2 j k := by
    funext a; fin_cases a <;> rfl
  rw [e1, e2, hid_eq, out_eq]

/-- The call's row. -/
theorem row_eq (r : Fin 16384) : rowAt (val_main_v29 (F := Ideal) x0 x1 x2 x3 x4 x5 x6) r = mixed 0 x0 x1 x2 x3 x4 x5 x6 r := by
  funext k
  show val_main_v29 (F := Ideal) x0 x1 x2 x3 x4 x5 x6 (ix2 r k) = _
  rw [val_main_v29_apply, val_main_v28_apply, val_main_v27_apply, down_eq, val_main_cst_2_apply]
  show rowAt (val_main_v3 (F := Ideal) x0 x4 x5 x6) r k + half * _ = ffn _ _ _ _ k
  rw [mixed_eq]
  rfl

/-- The whole result. -/
theorem val_eq : val_main_v29 (F := Ideal) x0 x1 x2 x3 x4 x5 x6 = fun i => mixed 0 x0 x1 x2 x3 x4 x5 x6 (i 0) (i 1) := by
  funext i
  have hi : i = (ix2 (i 0) (i 1) : S16384x1024.Idx) := by
    funext a; fin_cases a <;> rfl
  rw [hi]
  exact congrFun (row_eq x0 x1 x2 x3 x4 x5 x6 (i 0)) (i 1)

end Cert.Reference5Ideal.Read

end
-- ==== Proof.K6I.Whole.lean ====
/-
  The projection on all rows of both sequences: the normed row times the weights' columns, and the gated convolution of the
  row with the two rows before it.
-/
module

public import proofs.«01_k».proof.Proof.Ffn.Maths
public import proofs.«01_k».proof.Proof.Gen.Kernel6Ideal

@[expose] public section

noncomputable section

namespace Cert.Kernel6Ideal.Proj

open Cert.Kernel6Ideal Cert.Ffn
open Idealize.ShloMosaic Idealize.ShloMosaic.Pointwise

/-- A row times one column of the weights. -/
def dotc {n : ℕ} (y : Fin 1024 → EReal) (w : Fin 1024 → Fin n → EReal) (j : Fin n) : EReal := ∑ k, y k * w k j

def rowW (x : S2x8192x1024.Idx → EReal) (b : Fin 2) (n : Fin 8192) : Fin 1024 → EReal := fun k => x (ix3 b n k)
def gainW (g : S1024.Idx → EReal) : Fin 1024 → EReal := fun k => g (ix1 k)
def colsW (o : ℕ) (ho : o ≤ 2560) (w : S1024x3072.Idx → EReal) : Fin 1024 → Fin 512 → EReal := fun k j => w (ix2 k ⟨o + j.val, by omega⟩)

/-- Row `n` of sequence `b` through the 512 columns from column `o`. -/
def projW (o : ℕ) (ho : o ≤ 2560) (x : S2x8192x1024.Idx → EReal) (g : S1024.Idx → EReal) (w : S1024x3072.Idx → EReal) (b : Fin 2) (n : Fin 8192)
    (j : Fin 512) : EReal :=
  dotc (nrm (rowW x b n) (gainW g)) (colsW o ho w) j

/-- The convolution's input. -/
def inW (x : S2x8192x1024.Idx → EReal) (g : S1024.Idx → EReal) (w : S1024x3072.Idx → EReal) (b : Fin 2) (n : Fin 8192) (j : Fin 512) : EReal :=
  projW 512 (by decide) x g w b n j * projW 1024 (by decide) x g w b n j

/-- The sequence after two rows of zeros. -/
def padW (x : S2x8192x1024.Idx → EReal) (g : S1024.Idx → EReal) (w : S1024x3072.Idx → EReal) (b : Fin 2) (n : Fin 8194) (j : Fin 512) : EReal :=
  if h : n.val < 2 then 0 else inW x g w b ⟨n.val - 2, by omega⟩ j

/-- The three taps on the rows ending at row `n`. -/
def convW (x : S2x8192x1024.Idx → EReal) (g : S1024.Idx → EReal) (w : S1024x3072.Idx → EReal) (k : S3x512.Idx → EReal) (b : Fin 2) (n : Fin 8192)
    (j : Fin 512) : EReal :=
  k (ix2 0 j) * padW x g w b ⟨n.val, by omega⟩ j + k (ix2 1 j) * padW x g w b ⟨1 + n.val, by omega⟩ j
    + k (ix2 2 j) * padW x g w b ⟨2 + n.val, by omega⟩ j

/-- The gated convolution. -/
def gatedW (x : S2x8192x1024.Idx → EReal) (g : S1024.Idx → EReal) (w : S1024x3072.Idx → EReal) (k : S3x512.Idx → EReal) (b : Fin 2) (n : Fin 8192)
    (j : Fin 512) : EReal :=
  projW 0 (by decide) x g w b n j * convW x g w k b n j

end Cert.Kernel6Ideal.Proj

end
-- ==== Proof.K6I.Vec.lean ====
/-
  The projection's stored blocks, read at a row and a column: the plain mathematics of that row.
-/
module

public import proofs.«01_k».proof.Proof.Gen.Kernel6Ideal.Frame
public import proofs.«01_k».proof.Proof.K6I.Whole
public import Idealize.ShloMosaic.Lib.Pipeline.ValueKit
public import Idealize.ShloMosaic.Lib.Pointwise

@[expose] public section

set_option maxRecDepth 16384

noncomputable section

namespace Cert.Kernel6Ideal.Proj

open Cert.Kernel6Ideal Cert.Kernel6Ideal.Gen Cert.Ffn
open Idealize.ShloMosaic Idealize.ShloMosaic.Pointwise

/-- Row `r` of a block, the gain and the weights. -/
def rowB (x : Vec Ideal S1x512x1024 .f32) (r : Fin 512) : Fin 1024 → EReal := fun k => x (ix3 0 r k)
def gainB (g : Vec Ideal S1x1024 .f32) : Fin 1024 → EReal := fun k => g (ix2 0 k)
def wB {n : ℕ} (w : (⟨2, ![1024, n]⟩ : Shape).Idx → EReal) : Fin 1024 → Fin n → EReal := fun k j => w (ix2 k j)

/-- The normed row `r`. -/
def xnB (x : Vec Ideal S1x512x1024 .f32) (g : Vec Ideal S1x1024 .f32) (r : Fin 512) : Fin 1024 → EReal := nrm (rowB x r) (gainB g)

theorem pay3_apply (x : Vec Ideal S1x512x1024 .f32) (g : Vec Ideal S1x1024 .f32) (r : Fin 512) (k : Fin 1024) :
    k0_pay3 x g (ix2 r k) = xnB x g r k := by
  unfold k0_pay3
  dsimp only
  pointwise
  rfl

/-- A block of normed rows times a block of columns. -/
def mmV (xn : FVec Ideal S512x1024 .bf16) (w : Vec Ideal S1024x512 .bf16) : FVec Ideal S512x512 .f32 :=
  matmul dot_S512x1024_S1024x512_S512x512_1_0_0_1_n_n none xn
    (shapeCast S1024x512 w shapeCasts_S1024x512_S1024x512 : FVec Ideal S1024x512 .bf16) (constant S512x512 .f32 0x00000000#32)

theorem mmV_apply (xn : FVec Ideal S512x1024 .bf16) (w : Vec Ideal S1024x512 .bf16) (r j : Fin 512) :
    mmV xn w (ix2 r j) = dotc (fun k => xn (ix2 r k)) (wB w) j := by
  unfold mmV
  pointwise
  rfl

theorem mmV_pay3 (x : Vec Ideal S1x512x1024 .f32) (g : Vec Ideal S1x1024 .f32) (w : Vec Ideal S1024x512 .bf16) (r j : Fin 512) :
    mmV (k0_pay3 x g) w (ix2 r j) = dotc (xnB x g r) (wB w) j :=
  (mmV_apply _ _ _ _).trans (congrArg (fun y => dotc y (wB w) j) (funext fun k => pay3_apply x g r k))

theorem cast_apply (v : FVec Ideal S512x512 .f32) (r j : Fin 512) :
    (shapeCast S1x512x512 (truncf .bf16 v bitsLt_bf16_f32 : FVec Ideal S512x512 .bf16) shapeCasts_S512x512_S1x512x512 : FVec Ideal S1x512x512 .bf16) (ix3 0 r j)
      = v (ix2 r j) := by
  pointwise

theorem pay4_apply (x : Vec Ideal S1x512x1024 .f32) (g : Vec Ideal S1x1024 .f32) (w : Vec Ideal S1024x512 .bf16) (r j : Fin 512) :
    k0_pay4 x g w (ix3 0 r j) = dotc (xnB x g r) (wB w) j :=
  (cast_apply (mmV (k0_pay3 x g) w) r j).trans (mmV_pay3 x g w r j)

theorem pay5_apply (x : Vec Ideal S1x512x1024 .f32) (g : Vec Ideal S1x1024 .f32) (w : Vec Ideal S1024x512 .bf16) (r j : Fin 512) :
    k0_pay5 x g w (ix3 0 r j) = dotc (xnB x g r) (wB w) j :=
  (cast_apply (mmV (k0_pay3 x g) w) r j).trans (mmV_pay3 x g w r j)

theorem pay7_apply (x : Vec Ideal S1x512x1024 .f32) (g : Vec Ideal S1x1024 .f32) (w : Vec Ideal S1024x512 .bf16) (r j : Fin 512) :
    k0_pay7 (k0_pay3 x g) (k0_pay6 w) (constant S512x512 .f32 0x00000000#32) (ix3 0 r j) = dotc (xnB x g r) (wB w) j :=
  (cast_apply (mmV (k0_pay3 x g) w) r j).trans (mmV_pay3 x g w r j)

theorem pay8_apply (s : Fin 8) (j : Fin 512) : (k0_pay8 : FVec Ideal S8x512 .f32) (ix2 s j) = (0 : EReal) := by
  unfold k0_pay8
  pointwise

theorem pay2_apply (v : Vec Ideal S8x512 .f32) (s : Fin 8) (j : Fin 512) : k0_pay2 v (ix2 s j) = v (ix2 s j) := by
  unfold k0_pay2
  pointwise

theorem pay9_apply (x : Vec Ideal S1x512x1024 .f32) (g : Vec Ideal S1x1024 .f32) (wc wu : Vec Ideal S1024x512 .bf16) (r j : Fin 512) :
    k0_pay9 (k0_pay3 x g) wc wu (ix2 r j)
      = HMul.hMul (α := EReal) (β := EReal) (γ := EReal) (dotc (xnB x g r) (wB wc) j) (dotc (xnB x g r) (wB wu) j) := by
  have h : k0_pay9 (k0_pay3 x g) wc wu = shapeCast S512x512 (mulf (mmV (k0_pay3 x g) wc) (mmV (k0_pay3 x g) wu)) shapeCasts_S512x512_S512x512 := rfl
  rw [h, ← mmV_pay3, ← mmV_pay3]
  pointwise

theorem pay1_apply (x : Vec Ideal S1x512x1024 .f32) (g : Vec Ideal S1x1024 .f32) (a0 a1 a2 : Vec Ideal S1x512 .f32)
    (e0 e1 e2 : Vec Ideal S512x512 .f32) (w : Vec Ideal S1024x512 .bf16) (r j : Fin 512) :
    k0_pay1 (k0_pay3 x g) (k0_pay10 a0 e0 a1 e1) a2 e2 w (ix3 0 r j)
      = HMul.hMul (α := EReal) (β := EReal) (γ := EReal) (dotc (xnB x g r) (wB w) j)
          (HAdd.hAdd (α := EReal) (β := EReal) (γ := EReal) (HAdd.hAdd (α := EReal) (β := EReal) (γ := EReal)
            (HMul.hMul (α := EReal) (β := EReal) (γ := EReal) (a0 (ix2 0 j)) (e0 (ix2 r j)))
            (HMul.hMul (α := EReal) (β := EReal) (γ := EReal) (a1 (ix2 0 j)) (e1 (ix2 r j))))
            (HMul.hMul (α := EReal) (β := EReal) (γ := EReal) (a2 (ix2 0 j)) (e2 (ix2 r j)))) := by
  refine (cast_apply (mulf (mmV (k0_pay3 x g) w) (addf (k0_pay10 a0 e0 a1 e1) (mulf (broadcastTo S512x512 a2 broadcasts_S1x512_S512x512) e2))) r j).trans ?_
  rw [← mmV_pay3]
  unfold k0_pay10
  dsimp only
  pointwise

/-! ## The eight carried rows and the block's rows in the scratch -/

theorem mem_rows {o n : ℕ} {h} (y : S520x512.Idx) :
    y ∈ (Rect.unit (s := S520x512) ![o, 0] ![n, 512] h).set → o ≤ (y 0).val ∧ (y 0).val < o + n := by
  intro hm
  obtain ⟨i, hi, he⟩ := (LoadRect.mem_set _).mp hm (0 : Fin 2)
  have hi' : i < n := hi
  have he' : (y 0).val = o + 1 * i := he
  omega

theorem emb_rows {o n : ℕ} {h} (y : Fin 520) (s : Fin n) (j : Fin 512) (hy : y.val = o + s.val) :
    (Rect.unit (s := S520x512) ![o, 0] ![n, 512] h).emb (ix2 s j) = (ix2 y j : S520x512.Idx) := by
  funext a; apply Fin.ext; fin_cases a
  · show o + 1 * s.val = y.val; omega
  · show 0 + 1 * j.val = j.val; omega

theorem canon_rows {o n : ℕ} {h} (w : (⟨2, ![n, 512]⟩ : Shape).Idx → Elt Ideal .f32) (L : List (View.Piece (Elt Ideal) S520x512 .f32)) (y : Fin 520)
    (s : Fin n) (j : Fin 512) (hy : y.val = o + s.val) :
    View.canon (⟨Rect.unit (s := S520x512) ![o, 0] ![n, 512] h, w⟩ :: L) (ix2 y j) = w (ix2 s j) := by
  rw [← emb_rows (h := h) y s j hy]
  exact View.canon_cons_emb (Rect.unit (s := S520x512) ![o, 0] ![n, 512] h) w L (ix2 s j)

theorem canon_off {o n : ℕ} {h} (w : (⟨2, ![n, 512]⟩ : Shape).Idx → Elt Ideal .f32) (L : List (View.Piece (Elt Ideal) S520x512 .f32)) (s : Fin 520) (j : Fin 512)
    (hs : s.val < o ∨ o + n ≤ s.val) :
    View.canon (⟨Rect.unit (s := S520x512) ![o, 0] ![n, 512] h, w⟩ :: L) (ix2 s j) = View.canon L (ix2 s j) := by
  refine View.canon_cons_of_not_mem _ L fun hm => ?_
  have h2 := mem_rows (h := h) _ hm
  have h3 : o ≤ s.val ∧ s.val < o + n := h2
  omega

end Cert.Kernel6Ideal.Proj

end
-- ==== Proof.K6I.Case.lean ====
/-
  What one grid point stores, read at a row and a column: at the head of a sequence the eight carried rows are zeros, at
  every other point they are what the point before left.
-/
module

public import proofs.«01_k».proof.Proof.K6I.Vec

@[expose] public section

set_option maxRecDepth 16384

noncomputable section

namespace Cert.Kernel6Ideal.Proj

open Cert.Kernel6Ideal Cert.Kernel6Ideal.Gen Cert.Ffn
open Idealize.ShloMosaic Idealize.ShloMosaic.TcCoe Idealize.ShloMosaic.Pointwise

/-- The 512 columns of the weights from column `o`. -/
def colsB (o : ℕ) (ho : o ≤ 2560) (w : Vec Ideal S1024x3072 .bf16) : Fin 1024 → Fin 512 → EReal := fun k j => w (ix2 k ⟨o + j.val, by omega⟩)

/-- The convolution's input at row `r` of the block. -/
def inB (x : Vec Ideal S1x512x1024 .f32) (g : Vec Ideal S1x1024 .f32) (w : Vec Ideal S1024x3072 .bf16) (r j : Fin 512) : EReal :=
  dotc (xnB x g r) (colsB 512 (by decide) w) j * dotc (xnB x g r) (colsB 1024 (by decide) w) j

/-- Three taps over the rows ending at row `r`, eight rows standing before the block. -/
def tapsB (k : Vec Ideal S3x512 .f32) (e : Fin 520 → Fin 512 → EReal) (r j : Fin 512) : EReal :=
  HMul.hMul (α := EReal) (β := EReal) (γ := EReal) (k (ix2 0 j)) (e ⟨6 + r.val, by omega⟩ j)
    + HMul.hMul (α := EReal) (β := EReal) (γ := EReal) (k (ix2 1 j)) (e ⟨7 + r.val, by omega⟩ j)
    + HMul.hMul (α := EReal) (β := EReal) (γ := EReal) (k (ix2 2 j)) (e ⟨8 + r.val, by omega⟩ j)

/-- The block's rows after eight rows before them. -/
def afterB (hd : Fin 520 → Fin 512 → EReal) (p : Fin 512 → Fin 512 → EReal) (s : Fin 520) (j : Fin 512) : EReal :=
  if h : s.val < 8 then hd s j else p ⟨s.val - 8, by omega⟩ j

theorem afterB_add (hd : Fin 520 → Fin 512 → EReal) (p : Fin 512 → Fin 512 → EReal) (s : Fin 512) (j : Fin 512) (h : 8 + s.val < 520) :
    afterB hd p ⟨8 + s.val, h⟩ j = p s j := by
  unfold afterB
  rw [dif_neg (show ¬ 8 + s.val < 8 by omega)]
  exact congrArg (fun q => p q j) (Fin.ext (show 8 + s.val - 8 = s.val by omega))

/-! ## The loads -/

theorem idx_rows {o n : ℕ} {h} (s : Fin n) (j : Fin 512) (hs : o + s.val < 520) :
    (Rect.unit (s := S520x512) ![o, 0] ![n, 512] h).toLoadRect.idx (ix2 s j) = (ix2 ⟨o + s.val, hs⟩ j : S520x512.Idx) := by
  funext a; apply Fin.ext; fin_cases a
  · show o + 1 * s.val = o + s.val; omega
  · show 0 + 1 * j.val = j.val; omega

theorem xn_ld (arg2 : Memref sig .tc .vmem S1x512x1024 .f32) (harg2 : arg2.IsWhole) (arg3 : Memref sig .tc .vmem S1x1024 .f32) (harg3 : arg3.IsWhole)
    (x : Vec Ideal S1x512x1024 .f32) (g : Vec Ideal S1x1024 .f32) {h h'} (r : Fin 512) :
    xnB (View.readAt (Elt Ideal) arg2.view (Rect.unit ![0, 0, 0] S1x512x1024.size h).toLoadRect (harg2.unread x))
      (View.readAt (Elt Ideal) arg3.view (Rect.unit ![0, 0] S1x1024.size h').toLoadRect (harg3.unread g)) r = xnB x g r := by
  have hx : rowB (View.readAt (Elt Ideal) arg2.view (Rect.unit ![0, 0, 0] S1x512x1024.size h).toLoadRect (harg2.unread x)) r = rowB x r := by
    funext k
    refine (congrFun (Memref.IsWhole.read_unread harg2 x) _).trans (congrArg x ?_)
    funext a; apply Fin.ext; fin_cases a
    · rfl
    · show 0 + 1 * r.val = r.val; omega
    · show 0 + 1 * k.val = k.val; omega
  have hg : gainB (View.readAt (Elt Ideal) arg3.view (Rect.unit ![0, 0] S1x1024.size h').toLoadRect (harg3.unread g)) = gainB g := by
    funext k
    refine (congrFun (Memref.IsWhole.read_unread harg3 g) _).trans (congrArg g ?_)
    funext a; apply Fin.ext; fin_cases a
    · rfl
    · show 0 + 1 * k.val = k.val; omega
  unfold xnB
  rw [hx, hg]

theorem w_ld (arg4 : Memref sig .tc .vmem S1024x3072 .bf16) (harg4 : arg4.IsWhole) (w : Vec Ideal S1024x3072 .bf16) (o : ℕ) (ho : o ≤ 2560) {h} :
    wB (View.readAt (Elt Ideal) arg4.view (Rect.unit (s := S1024x3072) ![0, o] S1024x512.size h).toLoadRect (harg4.unread w)) = colsB o ho w := by
  funext k j
  refine (congrFun (Memref.IsWhole.read_unread harg4 w) _).trans (congrArg w ?_)
  funext a; apply Fin.ext; fin_cases a
  · show 0 + 1 * k.val = k.val; omega
  · show o + 1 * j.val = o + j.val; omega

theorem tap_ld (arg5 : Memref sig .tc .vmem S3x512 .f32) (harg5 : arg5.IsWhole) (x : Vec Ideal S3x512 .f32) (o : Fin 3) {h} (j : Fin 512) :
    View.readAt (Elt Ideal) arg5.view (Rect.unit (s := S3x512) ![o.val, 0] S1x512.size h).toLoadRect (harg5.unread x) (ix2 0 j) = x (ix2 o j) := by
  refine (congrFun (Memref.IsWhole.read_unread harg5 x) _).trans (congrArg x ?_)
  funext a; apply Fin.ext; fin_cases a
  · rfl
  · show 0 + 1 * j.val = j.val; omega

theorem in_ld (arg2 : Memref sig .tc .vmem S1x512x1024 .f32) (harg2 : arg2.IsWhole) (arg3 : Memref sig .tc .vmem S1x1024 .f32) (harg3 : arg3.IsWhole)
    (arg4 : Memref sig .tc .vmem S1024x3072 .bf16) (harg4 : arg4.IsWhole) (x : Vec Ideal S1x512x1024 .f32) (g : Vec Ideal S1x1024 .f32)
    (w : Vec Ideal S1024x3072 .bf16) {h h' h1 h2} (s j : Fin 512) :
    k0_pay9 (k0_pay3 (View.readAt (Elt Ideal) arg2.view (Rect.unit (s := S1x512x1024) ![0, 0, 0] S1x512x1024.size h).toLoadRect (harg2.unread x))
      (View.readAt (Elt Ideal) arg3.view (Rect.unit (s := S1x1024) ![0, 0] S1x1024.size h').toLoadRect (harg3.unread g)))
      (View.readAt (Elt Ideal) arg4.view (Rect.unit (s := S1024x3072) ![0, 512] S1024x512.size h1).toLoadRect (harg4.unread w))
      (View.readAt (Elt Ideal) arg4.view (Rect.unit (s := S1024x3072) ![0, 1024] S1024x512.size h2).toLoadRect (harg4.unread w)) (ix2 s j) = inB x g w s j := by
  refine (pay9_apply _ _ _ _ s j).trans ?_
  rw [xn_ld arg2 harg2 arg3 harg3, w_ld arg4 harg4 w 512 (by decide), w_ld arg4 harg4 w 1024 (by decide)]
  rfl

/-! ## The scratch as a point's loads find it -/

theorem ext_A (v : View sig .tc .vmem S520x512 .f32) (w : Vec Ideal S512x512 .f32) (z : Vec Ideal S8x512 .f32) (p : Fin 512 → Fin 512 → EReal)
    (hw : ∀ s j, w (ix2 s j) = p s j) (hz : ∀ s j, z (ix2 s j) = (0 : EReal)) (o : ℕ) (ho : o ≤ 8) {h h8 h0} (r j : Fin 512) :
    View.readCov v [⟨Rect.unit (s := S520x512) ![8, 0] ![512, 512] h8, w⟩, ⟨Rect.unit (s := S520x512) ![0, 0] ![8, 512] h0, z⟩]
        (Rect.unit (s := S520x512) ![o, 0] ![512, 512] h).toLoadRect (ix2 r j) = afterB (fun _ _ => 0) p ⟨o + r.val, by omega⟩ j := by
  rw [View.readCov_eq_canon']
  refine (congrArg _ (idx_rows r j (by omega))).trans ?_
  unfold afterB
  by_cases hs : o + r.val < 8
  · rw [dif_pos hs]
    refine (canon_off _ _ _ _ (Or.inl hs)).trans ?_
    exact (canon_rows z [] _ ⟨o + r.val, hs⟩ j (Nat.zero_add _).symm).trans (hz _ _)
  · rw [dif_neg hs]
    exact (canon_rows w _ _ ⟨o + r.val - 8, by omega⟩ j (show o + r.val = 8 + (o + r.val - 8) by omega)).trans (hw _ _)

theorem ext_B (arg10 : Memref sig .tc .vmem S520x512 .f32) (harg10 : arg10.IsWhole) (w : Vec Ideal S512x512 .f32) (xs : Vec Ideal S520x512 .f32)
    (p : Fin 512 → Fin 512 → EReal) (hw : ∀ s j, w (ix2 s j) = p s j) (o : ℕ) (ho : o ≤ 8) {h h8} (r j : Fin 512) :
    View.readAt (Elt Ideal) arg10.view (Rect.unit (s := S520x512) ![o, 0] ![512, 512] h).toLoadRect
        (arg10.view.writes (Elt Ideal) (harg10.unread xs) [⟨Rect.unit (s := S520x512) ![8, 0] ![512, 512] h8, w⟩]) (ix2 r j)
      = afterB (fun s j => xs (ix2 s j)) p ⟨o + r.val, by omega⟩ j := by
  rw [View.readAt_apply, idx_rows r j (by omega)]
  unfold afterB
  by_cases hs : o + r.val < 8
  · rw [dif_pos hs]
    refine (View.read_writes_apply_of_forall_not_mem _ _ _ _ fun q hq hm => ?_).trans (congrFun (Memref.IsWhole.read_unread harg10 xs) _)
    obtain rfl := List.mem_singleton.mp hq
    have h2 := mem_rows (h := h8) _ hm
    have h3 : 8 ≤ o + r.val ∧ o + r.val < 8 + 512 := h2
    omega
  · rw [dif_neg hs]
    rw [← emb_rows (h := h8) ⟨o + r.val, by omega⟩ ⟨o + r.val - 8, by omega⟩ j (show o + r.val = 8 + (o + r.val - 8) by omega)]
    exact (View.read_writes_cons_emb _ _ _ _ _ _).trans (hw _ _)

theorem ext_own (v : View sig .tc .vmem S520x512 .f32) (w : Vec Ideal S512x512 .f32) (hd : Fin 520 → Fin 512 → EReal) (p : Fin 512 → Fin 512 → EReal)
    (hw : ∀ s j, w (ix2 s j) = p s j) {h h8} (r j : Fin 512) :
    View.readCov v [⟨Rect.unit (s := S520x512) ![8, 0] ![512, 512] h8, w⟩] (Rect.unit (s := S520x512) ![8, 0] ![512, 512] h).toLoadRect (ix2 r j)
      = afterB hd p ⟨8 + r.val, by omega⟩ j := by
  rw [View.readCov_eq_canon', afterB_add]
  refine (congrArg _ (idx_rows r j (by omega))).trans ?_
  exact (canon_rows w [] _ r j rfl).trans (hw r j)

theorem canon_whole3 {h} (w : Vec Ideal S1x512x512 .bf16) (r j : Fin 512) :
    View.canon [(⟨Rect.unit (s := S1x512x512) ![0, 0, 0] ![1, 512, 512] h, w⟩ : View.Piece (Elt Ideal) S1x512x512 .bf16)] (ix3 0 r j) = w (ix3 0 r j) := by
  have e : (Rect.unit (s := S1x512x512) ![0, 0, 0] ![1, 512, 512] h).emb (ix3 0 r j) = (ix3 0 r j : S1x512x512.Idx) := by
    funext a; apply Fin.ext; fin_cases a
    · rfl
    · show 0 + 1 * r.val = r.val; omega
    · show 0 + 1 * j.val = j.val; omega
  refine (congrArg _ e.symm).trans ?_
  exact View.canon_cons_emb (Rect.unit (s := S1x512x512) ![0, 0, 0] ![1, 512, 512] h) w [] (ix3 0 r j)

/-! ## A point at the head of a sequence -/

section

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole)
  (arg5 : Memref sig .tc .vmem S3x512 .f32) (harg5 : arg5.IsWhole) (arg6 : Memref sig .tc .vmem S1x512x512 .bf16) (harg6 : arg6.IsWhole) (arg7 : Memref sig .tc .vmem S1x512x512 .bf16) (harg7 : arg7.IsWhole)
  (arg8 : Memref sig .tc .vmem S1x512x512 .bf16) (harg8 : arg8.IsWhole) (arg9 : Memref sig .tc .vmem S1x512x512 .bf16) (harg9 : arg9.IsWhole) (arg10 : Memref sig .tc .vmem S520x512 .f32) (harg10 : arg10.IsWhole)
  (hc0 : cond0_0 i) (x : Vec Ideal S1x512x1024 .f32) (g : Vec Ideal S1x1024 .f32) (w : Vec Ideal S1024x3072 .bf16) (k : Vec Ideal S3x512 .f32)

theorem gated_A (r j : Fin 512) :
    out0_A_4 (F := Ideal) c i arg2 harg2 arg3 harg3 arg4 harg4 arg5 harg5 arg6 harg6 arg7 harg7 arg8 harg8 arg9 harg9 arg10 harg10 hc0 x g w k (ix3 0 r j)
      = dotc (xnB x g r) (colsB 0 (by decide) w) j * tapsB k (afterB (fun _ _ => 0) (inB x g w)) r j := by
  unfold out0_A_4
  rw [View.read_writes_junk_eq_canon]
  unfold kernelRun0_A
  dsimp only
  refine (canon_whole3 _ r j).trans ?_
  refine (pay1_apply _ _ _ _ _ _ _ _ _ r j).trans ?_
  rw [xn_ld arg2 harg2 arg3 harg3, w_ld arg4 harg4 w 0 (by decide)]
  unfold tapsB
  refine congrArg _ ?_
  refine congrArg₂ (α := EReal) (β := EReal) (γ := EReal) (· + ·) (congrArg₂ (α := EReal) (β := EReal) (γ := EReal) (· + ·) ?_ ?_) ?_
  · exact congrArg₂ (α := EReal) (β := EReal) (γ := EReal) (· * ·) (tap_ld arg5 harg5 k 0 j) (ext_A arg10.view _ _ (inB x g w) (in_ld arg2 harg2 arg3 harg3 arg4 harg4 x g w) pay8_apply 6 (by decide) r j)
  · exact congrArg₂ (α := EReal) (β := EReal) (γ := EReal) (· * ·) (tap_ld arg5 harg5 k 1 j) (ext_A arg10.view _ _ (inB x g w) (in_ld arg2 harg2 arg3 harg3 arg4 harg4 x g w) pay8_apply 7 (by decide) r j)
  · exact congrArg₂ (α := EReal) (β := EReal) (γ := EReal) (· * ·) (tap_ld arg5 harg5 k 2 j) (ext_A arg10.view _ _ (inB x g w) (in_ld arg2 harg2 arg3 harg3 arg4 harg4 x g w) pay8_apply 8 (by decide) r j)

theorem query_A (r j : Fin 512) :
    out0_A_5 (F := Ideal) c i arg2 harg2 arg3 harg3 arg4 harg4 arg5 harg5 arg6 harg6 arg7 harg7 arg8 harg8 arg9 harg9 arg10 harg10 hc0 x g w k (ix3 0 r j)
      = dotc (xnB x g r) (colsB 1536 (by decide) w) j := by
  unfold out0_A_5
  rw [View.read_writes_junk_eq_canon]
  unfold kernelRun0_A
  dsimp only
  refine (canon_whole3 _ r j).trans ?_
  refine (pay4_apply _ _ _ r j).trans ?_
  rw [xn_ld arg2 harg2 arg3 harg3, w_ld arg4 harg4 w 1536 (by decide)]

theorem key_A (r j : Fin 512) :
    out0_A_6 (F := Ideal) c i arg2 harg2 arg3 harg3 arg4 harg4 arg5 harg5 arg6 harg6 arg7 harg7 arg8 harg8 arg9 harg9 arg10 harg10 hc0 x g w k (ix3 0 r j)
      = dotc (xnB x g r) (colsB 2048 (by decide) w) j := by
  unfold out0_A_6
  rw [View.read_writes_junk_eq_canon]
  unfold kernelRun0_A
  dsimp only
  refine (canon_whole3 _ r j).trans ?_
  refine (pay5_apply _ _ _ r j).trans ?_
  rw [xn_ld arg2 harg2 arg3 harg3, w_ld arg4 harg4 w 2048 (by decide)]

theorem value_A (r j : Fin 512) :
    out0_A_7 (F := Ideal) c i arg2 harg2 arg3 harg3 arg4 harg4 arg5 harg5 arg6 harg6 arg7 harg7 arg8 harg8 arg9 harg9 arg10 harg10 hc0 x g w k (ix3 0 r j)
      = dotc (xnB x g r) (colsB 2560 (by decide) w) j := by
  unfold out0_A_7
  rw [View.read_writes_junk_eq_canon]
  unfold kernelRun0_A
  dsimp only
  refine (canon_whole3 _ r j).trans ?_
  refine (pay7_apply _ _ _ r j).trans ?_
  rw [xn_ld arg2 harg2 arg3 harg3, w_ld arg4 harg4 w 2560 (by decide)]

/-- What the point leaves in the eight carried rows: the last eight of its own. -/
theorem left_A (s : Fin 8) (j : Fin 512) :
    sout0_A_0 (F := Ideal) c i arg2 harg2 arg3 harg3 arg4 harg4 arg5 harg5 arg6 harg6 arg7 harg7 arg8 harg8 arg9 harg9 arg10 harg10 hc0 x g w k (ix2 ⟨s.val, by omega⟩ j) = inB x g w ⟨504 + s.val, by omega⟩ j := by
  unfold sout0_A_0
  rw [View.read_writes_junk_eq_canon]
  unfold kernelRun0_A
  dsimp only
  refine (canon_rows _ _ _ s j (Nat.zero_add _).symm).trans ((pay2_apply _ s j).trans ?_)
  unfold kernelRun0_A.sl.v75
  rw [View.readCov_eq_canon']
  refine (congrArg _ (idx_rows s j (by omega))).trans ?_
  exact (canon_rows _ _ _ (⟨504 + s.val, by omega⟩ : Fin 512) j (show 512 + s.val = 8 + (504 + s.val) by omega)).trans (in_ld arg2 harg2 arg3 harg3 arg4 harg4 x g w _ j)

end

/-! ## A point after another of its sequence -/

section

variable (c : Dev nD) (i : grid0.Coords) (arg2 : Memref sig .tc .vmem S1x512x1024 .f32) (harg2 : arg2.IsWhole) (arg3 : Memref sig .tc .vmem S1x1024 .f32) (harg3 : arg3.IsWhole) (arg4 : Memref sig .tc .vmem S1024x3072 .bf16) (harg4 : arg4.IsWhole)
  (arg5 : Memref sig .tc .vmem S3x512 .f32) (harg5 : arg5.IsWhole) (arg6 : Memref sig .tc .vmem S1x512x512 .bf16) (harg6 : arg6.IsWhole) (arg7 : Memref sig .tc .vmem S1x512x512 .bf16) (harg7 : arg7.IsWhole)
  (arg8 : Memref sig .tc .vmem S1x512x512 .bf16) (harg8 : arg8.IsWhole) (arg9 : Memref sig .tc .vmem S1x512x512 .bf16) (harg9 : arg9.IsWhole) (arg10 : Memref sig .tc .vmem S520x512 .f32) (harg10 : arg10.IsWhole)
  (hc0 : ¬cond0_0 i) (x : Vec Ideal S1x512x1024 .f32) (g : Vec Ideal S1x1024 .f32) (w : Vec Ideal S1024x3072 .bf16) (k : Vec Ideal S3x512 .f32) (xs : Vec Ideal S520x512 .f32)

theorem gated_B (r j : Fin 512) :
    out0_B_4 (F := Ideal) c i arg2 harg2 arg3 harg3 arg4 harg4 arg5 harg5 arg6 harg6 arg7 harg7 arg8 harg8 arg9 harg9 arg10 harg10 hc0 x g w k xs (ix3 0 r j)
      = dotc (xnB x g r) (colsB 0 (by decide) w) j * tapsB k (afterB (fun s j => xs (ix2 s j)) (inB x g w)) r j := by
  unfold out0_B_4
  rw [View.read_writes_junk_eq_canon]
  unfold kernelRun0_B
  dsimp only
  refine (canon_whole3 _ r j).trans ?_
  refine (pay1_apply _ _ _ _ _ _ _ _ _ r j).trans ?_
  rw [xn_ld arg2 harg2 arg3 harg3, w_ld arg4 harg4 w 0 (by decide)]
  unfold tapsB
  refine congrArg _ ?_
  refine congrArg₂ (α := EReal) (β := EReal) (γ := EReal) (· + ·) (congrArg₂ (α := EReal) (β := EReal) (γ := EReal) (· + ·) ?_ ?_) ?_
  · exact congrArg₂ (α := EReal) (β := EReal) (γ := EReal) (· * ·) (tap_ld arg5 harg5 k 0 j) (ext_B arg10 harg10 _ xs (inB x g w) (in_ld arg2 harg2 arg3 harg3 arg4 harg4 x g w) 6 (by decide) r j)
  · exact congrArg₂ (α := EReal) (β := EReal) (γ := EReal) (· * ·) (tap_ld arg5 harg5 k 1 j) (ext_B arg10 harg10 _ xs (inB x g w) (in_ld arg2 harg2 arg3 harg3 arg4 harg4 x g w) 7 (by decide) r j)
  · exact congrArg₂ (α := EReal) (β := EReal) (γ := EReal) (· * ·) (tap_ld arg5 harg5 k 2 j) (ext_own arg10.view _ _ (inB x g w) (in_ld arg2 harg2 arg3 harg3 arg4 harg4 x g w) r j)

theorem query_B (r j : Fin 512) :
    out0_B_5 (F := Ideal) c i arg2 harg2 arg3 harg3 arg4 harg4 arg5 harg5 arg6 harg6 arg7 harg7 arg8 harg8 arg9 harg9 arg10 harg10 hc0 x g w k xs (ix3 0 r j)
      = dotc (xnB x g r) (colsB 1536 (by decide) w) j := by
  unfold out0_B_5
  rw [View.read_writes_junk_eq_canon]
  unfold kernelRun0_B
  dsimp only
  refine (canon_whole3 _ r j).trans ?_
  refine (pay4_apply _ _ _ r j).trans ?_
  rw [xn_ld arg2 harg2 arg3 harg3, w_ld arg4 harg4 w 1536 (by decide)]

theorem key_B (r j : Fin 512) :
    out0_B_6 (F := Ideal) c i arg2 harg2 arg3 harg3 arg4 harg4 arg5 harg5 arg6 harg6 arg7 harg7 arg8 harg8 arg9 harg9 arg10 harg10 hc0 x g w k xs (ix3 0 r j)
      = dotc (xnB x g r) (colsB 2048 (by decide) w) j := by
  unfold out0_B_6
  rw [View.read_writes_junk_eq_canon]
  unfold kernelRun0_B
  dsimp only
  refine (canon_whole3 _ r j).trans ?_
  refine (pay5_apply _ _ _ r j).trans ?_
  rw [xn_ld arg2 harg2 arg3 harg3, w_ld arg4 harg4 w 2048 (by decide)]

theorem value_B (r j : Fin 512) :
    out0_B_7 (F := Ideal) c i arg2 harg2 arg3 harg3 arg4 harg4 arg5 harg5 arg6 harg6 arg7 harg7 arg8 harg8 arg9 harg9 arg10 harg10 hc0 x g w k xs (ix3 0 r j)
      = dotc (xnB x g r) (colsB 2560 (by decide) w) j := by
  unfold out0_B_7
  rw [View.read_writes_junk_eq_canon]
  unfold kernelRun0_B
  dsimp only
  refine (canon_whole3 _ r j).trans ?_
  refine (pay7_apply _ _ _ r j).trans ?_
  rw [xn_ld arg2 harg2 arg3 harg3, w_ld arg4 harg4 w 2560 (by decide)]

/-- What the point leaves in the eight carried rows: the last eight of its own. -/
theorem left_B (s : Fin 8) (j : Fin 512) :
    sout0_B_0 (F := Ideal) c i arg2 harg2 arg3 harg3 arg4 harg4 arg5 harg5 arg6 harg6 arg7 harg7 arg8 harg8 arg9 harg9 arg10 harg10 hc0 x g w k xs (ix2 ⟨s.val, by omega⟩ j) = inB x g w ⟨504 + s.val, by omega⟩ j := by
  unfold sout0_B_0
  rw [View.read_writes_junk_eq_canon]
  unfold kernelRun0_B
  dsimp only
  refine (canon_rows _ _ _ s j (Nat.zero_add _).symm).trans ((pay2_apply _ s j).trans ?_)
  unfold kernelRun0_B.sl.v75
  rw [View.readCov_eq_canon']
  refine (congrArg _ (idx_rows s j (by omega))).trans ?_
  exact (canon_rows _ _ _ (⟨504 + s.val, by omega⟩ : Fin 512) j (show 512 + s.val = 8 + (504 + s.val) by omega)).trans (in_ld arg2 harg2 arg3 harg3 arg4 harg4 x g w _ j)

end

end Cert.Kernel6Ideal.Proj

end
-- ==== Proof.K6I.Out.lean ====
/-
  The four result arrays of the projection, entry by entry, as functions of its arguments.
-/
module

public import proofs.«01_k».proof.Proof.Gen.Kernel6Ideal.Value
public import proofs.«01_k».proof.Proof.K6I.Case

@[expose] public section

set_option maxRecDepth 16384

noncomputable section

namespace Cert.Kernel6Ideal.Proj

open Cert.Kernel6Ideal Cert.Kernel6Ideal.Gen Cert.Ffn
open Idealize.ShloMosaic Idealize.ShloMosaic.TcCoe Idealize.ShloMosaic.Pointwise Idealize.ShloMosaic.StableHlo
open Idealize.ShloMosaic.Pipeline

variable (m : (ℓ : Loc nD τ sig) → Buf (Elt Ideal) ℓ) (c : Dev nD) (t : Fin cfg0.N)

/-! ## The arrays the call reads -/

theorem V_g (k : Fin 1024) : V m c main_v1 (ix2 0 k) = m ((c : Thread nD τ).loc main_arg1) (ix1 k) := by
  unfold V
  after_results
  pointwise
theorem V_w (i : S1024x3072.Idx) : V m c main_v0 i = m ((c : Thread nD τ).loc main_arg2) i := by
  unfold V
  after_results
  rfl

/-! ## The blocks at a grid point -/

theorem toNat_small (n : ℕ) (h : n < 2 ^ 32) : (BitVec.ofNat 32 n).toNat = n := by
  rw [BitVec.toNat_ofNat, Nat.mod_eq_of_lt h]

def pb : Fin 2 := grid0.coords t 0
def pi : Fin 16 := grid0.coords t 1

/-- The point's sequence and tile from its number. -/
theorem coords_at : ∀ t : Fin cfg0.N, (pb t).val = t.val / 16 ∧ (pi t).val = t.val % 16 := by
  decide +kernel

theorem win_at : (win0_0.index t 0 = (pb t).val ∧ win0_0.index t 1 = (pi t).val ∧ win0_0.index t 2 = 0) ∧ (win0_1.index t 0 = 0 ∧ win0_1.index t 1 = 0)
    ∧ (win0_2.index t 0 = 0 ∧ win0_2.index t 1 = 0) ∧ (win0_3.index t 0 = 0 ∧ win0_3.index t 1 = 0) := by
  have h0 := toNat_small (grid0.coords t 0).val (lt_trans (grid0.coords t 0).isLt (by decide))
  have h1 := toNat_small (grid0.coords t 1).val (lt_trans (grid0.coords t 1).isLt (by decide))
  exact ⟨⟨h0, h1, rfl⟩, ⟨rfl, rfl⟩, ⟨rfl, rfl⟩, ⟨rfl, rfl⟩⟩

theorem win_at4 : win0_4.index t 0 = (pb t).val ∧ win0_4.index t 1 = (pi t).val ∧ win0_4.index t 2 = 0 :=
  ⟨toNat_small (grid0.coords t 0).val (lt_trans (grid0.coords t 0).isLt (by decide)),
    toNat_small (grid0.coords t 1).val (lt_trans (grid0.coords t 1).isLt (by decide)), rfl⟩
theorem win_at5 : win0_5.index t 0 = (pb t).val ∧ win0_5.index t 1 = (pi t).val ∧ win0_5.index t 2 = 0 :=
  ⟨toNat_small (grid0.coords t 0).val (lt_trans (grid0.coords t 0).isLt (by decide)),
    toNat_small (grid0.coords t 1).val (lt_trans (grid0.coords t 1).isLt (by decide)), rfl⟩
theorem win_at6 : win0_6.index t 0 = (pb t).val ∧ win0_6.index t 1 = (pi t).val ∧ win0_6.index t 2 = 0 :=
  ⟨toNat_small (grid0.coords t 0).val (lt_trans (grid0.coords t 0).isLt (by decide)),
    toNat_small (grid0.coords t 1).val (lt_trans (grid0.coords t 1).isLt (by decide)), rfl⟩
theorem win_at7 : win0_7.index t 0 = (pb t).val ∧ win0_7.index t 1 = (pi t).val ∧ win0_7.index t 2 = 0 :=
  ⟨toNat_small (grid0.coords t 0).val (lt_trans (grid0.coords t 0).isLt (by decide)),
    toNat_small (grid0.coords t 1).val (lt_trans (grid0.coords t 1).isLt (by decide)), rfl⟩

/-- Row `r` of the point's block of rows. -/
def row (r : Fin 512) : Fin 8192 := ⟨(pi t).val * 512 + r.val, by have := (pi t).isLt; omega⟩

theorem blk0 (r : Fin 512) (k : Fin 1024) : iblk m c 0 t (ix3 0 r k) = m ((c : Thread nD τ).loc main_arg0) (ix3 (pb t) (row t r) k) := by
  show V m c main_arg0 ((cfg0.win 0 |>.blk t).view.emb (ix3 0 r k)) = _
  rw [V_main_arg0]
  refine congrArg (m ((c : Thread nD τ).loc main_arg0)) ?_
  funext a; apply Fin.ext; fin_cases a <;> blk_simp <;> simp [win_at, row]
theorem blk1 (k : Fin 1024) : iblk m c 1 t (ix2 0 k) = m ((c : Thread nD τ).loc main_arg1) (ix1 k) := by
  show V m c main_v1 ((cfg0.win 1 |>.blk t).view.emb (ix2 0 k)) = _
  refine (congrArg (V m c main_v1) ?_).trans (V_g m c k)
  funext a; apply Fin.ext; fin_cases a <;> blk_simp <;> simp [win_at]
theorem blk2 (i : Fin 1024) (j : Fin 3072) : iblk m c 2 t (ix2 i j) = m ((c : Thread nD τ).loc main_arg2) (ix2 i j) := by
  show V m c main_v0 ((cfg0.win 2 |>.blk t).view.emb (ix2 i j)) = _
  refine (V_w m c _).trans (congrArg (m ((c : Thread nD τ).loc main_arg2)) ?_)
  funext a; apply Fin.ext; fin_cases a <;> blk_simp <;> simp [win_at]
theorem blk3 (o : Fin 3) (j : Fin 512) : iblk m c 3 t (ix2 o j) = m ((c : Thread nD τ).loc main_arg3) (ix2 o j) := by
  show V m c main_arg3 ((cfg0.win 3 |>.blk t).view.emb (ix2 o j)) = _
  rw [V_main_arg3]
  refine congrArg (m ((c : Thread nD τ).loc main_arg3)) ?_
  funext a; apply Fin.ext; fin_cases a <;> blk_simp <;> simp [win_at]
theorem emb4 (r j : Fin 512) : ((cfg0.win 4).blk t).view.emb (ix3 0 r j) = ix3 (pb t) (row t r) j := by
  funext a; apply Fin.ext; fin_cases a <;> blk_simp <;> simp [win_at4, row]
theorem emb5 (r j : Fin 512) : ((cfg0.win 5).blk t).view.emb (ix3 0 r j) = ix3 (pb t) (row t r) j := by
  funext a; apply Fin.ext; fin_cases a <;> blk_simp <;> simp [win_at5, row]
theorem emb6 (r j : Fin 512) : ((cfg0.win 6).blk t).view.emb (ix3 0 r j) = ix3 (pb t) (row t r) j := by
  funext a; apply Fin.ext; fin_cases a <;> blk_simp <;> simp [win_at6, row]
theorem emb7 (r j : Fin 512) : ((cfg0.win 7).blk t).view.emb (ix3 0 r j) = ix3 (pb t) (row t r) j := by
  funext a; apply Fin.ext; fin_cases a <;> blk_simp <;> simp [win_at7, row]

/-! ## What a point computes, from the arguments -/

theorem proj_point (o : ℕ) (ho : o ≤ 2560) (r j : Fin 512) :
    dotc (xnB (iblk m c 0 t) (iblk m c 1 t) r) (colsB o ho (iblk m c 2 t)) j
      = projW o ho (m ((c : Thread nD τ).loc main_arg0)) (m ((c : Thread nD τ).loc main_arg1)) (m ((c : Thread nD τ).loc main_arg2)) (pb t) (row t r) j := by
  have h0 : rowB (iblk m c 0 t) r = rowW (m ((c : Thread nD τ).loc main_arg0)) (pb t) (row t r) := funext fun _ => blk0 m c t r _
  have h1 : gainB (iblk m c 1 t) = gainW (m ((c : Thread nD τ).loc main_arg1)) := funext fun _ => blk1 m c t _
  have h2 : colsB o ho (iblk m c 2 t) = colsW o ho (m ((c : Thread nD τ).loc main_arg2)) := funext fun _ => funext fun _ => blk2 m c t _ _
  unfold xnB projW
  rw [h0, h1, h2]

theorem in_point (r j : Fin 512) :
    inB (iblk m c 0 t) (iblk m c 1 t) (iblk m c 2 t) r j
      = inW (m ((c : Thread nD τ).loc main_arg0)) (m ((c : Thread nD τ).loc main_arg1)) (m ((c : Thread nD τ).loc main_arg2)) (pb t) (row t r) j := by
  unfold inB inW
  rw [proj_point, proj_point]

theorem in_congr (x : S2x8192x1024.Idx → EReal) (g : S1024.Idx → EReal) (w : S1024x3072.Idx → EReal) {b b' : Fin 2} {n n' : Fin 8192} (j : Fin 512)
    (hb : b.val = b'.val) (hn : n.val = n'.val) : inW x g w b n j = inW x g w b' n' j := by
  obtain rfl := Fin.ext hb
  obtain rfl := Fin.ext hn
  rfl

/-! ## The five contents a point holds, one by one -/

theorem part4_A (h0 : t.val % 16 = 0) : (outsAt0 m c t.val t.isLt).1
    = out0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      ((hcond0_0 t).mpr h0) (iblk m c 0 t) (iblk m c 1 t) (iblk m c 2 t) (iblk m c 3 t) := by
  have h := congrArg (fun p => p.1) (outsAt0_A m c t h0)
  dsimp only at h
  exact h
theorem part5_A (h0 : t.val % 16 = 0) : (outsAt0 m c t.val t.isLt).2.1
    = out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      ((hcond0_0 t).mpr h0) (iblk m c 0 t) (iblk m c 1 t) (iblk m c 2 t) (iblk m c 3 t) := by
  have h := congrArg (fun p => p.2.1) (outsAt0_A m c t h0)
  dsimp only at h
  exact h
theorem part6_A (h0 : t.val % 16 = 0) : (outsAt0 m c t.val t.isLt).2.2.1
    = out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      ((hcond0_0 t).mpr h0) (iblk m c 0 t) (iblk m c 1 t) (iblk m c 2 t) (iblk m c 3 t) := by
  have h := congrArg (fun p => p.2.2.1) (outsAt0_A m c t h0)
  dsimp only at h
  exact h
theorem part7_A (h0 : t.val % 16 = 0) : (outsAt0 m c t.val t.isLt).2.2.2.1
    = out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      ((hcond0_0 t).mpr h0) (iblk m c 0 t) (iblk m c 1 t) (iblk m c 2 t) (iblk m c 3 t) := by
  have h := congrArg (fun p => p.2.2.2.1) (outsAt0_A m c t h0)
  dsimp only at h
  exact h
theorem part8_A (h0 : t.val % 16 = 0) : (outsAt0 m c t.val t.isLt).2.2.2.2
    = sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      ((hcond0_0 t).mpr h0) (iblk m c 0 t) (iblk m c 1 t) (iblk m c 2 t) (iblk m c 3 t) := by
  have h := congrArg (fun p => p.2.2.2.2) (outsAt0_A m c t h0)
  dsimp only at h
  exact h
theorem part4_B (h0 : ¬ t.val % 16 = 0) : (outsAt0 m c t.val t.isLt).1
    = out0_B_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (fun h => h0 ((hcond0_0 t).mp h)) (iblk m c 0 t) (iblk m c 1 t) (iblk m c 2 t) (iblk m c 3 t)
      (outsAt0 m c (t.val - 1) (Nat.lt_of_le_of_lt (Nat.sub_le _ _) t.isLt)).2.2.2.2 := by
  have h := congrArg (fun p => p.1) (outsAt0_B m c t h0)
  dsimp only at h
  exact h
theorem part5_B (h0 : ¬ t.val % 16 = 0) : (outsAt0 m c t.val t.isLt).2.1
    = out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (fun h => h0 ((hcond0_0 t).mp h)) (iblk m c 0 t) (iblk m c 1 t) (iblk m c 2 t) (iblk m c 3 t)
      (outsAt0 m c (t.val - 1) (Nat.lt_of_le_of_lt (Nat.sub_le _ _) t.isLt)).2.2.2.2 := by
  have h := congrArg (fun p => p.2.1) (outsAt0_B m c t h0)
  dsimp only at h
  exact h
theorem part6_B (h0 : ¬ t.val % 16 = 0) : (outsAt0 m c t.val t.isLt).2.2.1
    = out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (fun h => h0 ((hcond0_0 t).mp h)) (iblk m c 0 t) (iblk m c 1 t) (iblk m c 2 t) (iblk m c 3 t)
      (outsAt0 m c (t.val - 1) (Nat.lt_of_le_of_lt (Nat.sub_le _ _) t.isLt)).2.2.2.2 := by
  have h := congrArg (fun p => p.2.2.1) (outsAt0_B m c t h0)
  dsimp only at h
  exact h
theorem part7_B (h0 : ¬ t.val % 16 = 0) : (outsAt0 m c t.val t.isLt).2.2.2.1
    = out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (fun h => h0 ((hcond0_0 t).mp h)) (iblk m c 0 t) (iblk m c 1 t) (iblk m c 2 t) (iblk m c 3 t)
      (outsAt0 m c (t.val - 1) (Nat.lt_of_le_of_lt (Nat.sub_le _ _) t.isLt)).2.2.2.2 := by
  have h := congrArg (fun p => p.2.2.2.1) (outsAt0_B m c t h0)
  dsimp only at h
  exact h
theorem part8_B (h0 : ¬ t.val % 16 = 0) : (outsAt0 m c t.val t.isLt).2.2.2.2
    = sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (fun h => h0 ((hcond0_0 t).mp h)) (iblk m c 0 t) (iblk m c 1 t) (iblk m c 2 t) (iblk m c 3 t)
      (outsAt0 m c (t.val - 1) (Nat.lt_of_le_of_lt (Nat.sub_le _ _) t.isLt)).2.2.2.2 := by
  have h := congrArg (fun p => p.2.2.2.2) (outsAt0_B m c t h0)
  dsimp only at h
  exact h

/-- What a point leaves in the eight carried rows. -/
theorem left_point (s : Fin 8) (j : Fin 512) :
    (outsAt0 m c t.val t.isLt).2.2.2.2 (ix2 ⟨s.val, by omega⟩ j) = inB (iblk m c 0 t) (iblk m c 1 t) (iblk m c 2 t) ⟨504 + s.val, by omega⟩ j := by
  by_cases h0 : t.val % 16 = 0
  · rw [part8_A m c t h0]
    exact left_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      ((hcond0_0 t).mpr h0) (iblk m c 0 t) (iblk m c 1 t) (iblk m c 2 t) (iblk m c 3 t) s j
  · rw [part8_B m c t h0]
    exact left_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (fun h => h0 ((hcond0_0 t).mp h)) (iblk m c 0 t) (iblk m c 1 t) (iblk m c 2 t) (iblk m c 3 t)
      (outsAt0 m c (t.val - 1) (Nat.lt_of_le_of_lt (Nat.sub_le _ _) t.isLt)).2.2.2.2 s j

/-- The rows the taps read, the padded sequence's. -/
theorem pad_at (hd : Fin 520 → Fin 512 → EReal)
    (hA : t.val % 16 = 0 → ∀ s j, hd s j = 0)
    (hB : ¬ t.val % 16 = 0 → ∀ (s : Fin 520) (j : Fin 512) (h : s.val < 8), hd s j
      = inB (iblk m c 0 ⟨t.val - 1, Nat.lt_of_le_of_lt (Nat.sub_le _ _) t.isLt⟩) (iblk m c 1 ⟨t.val - 1, Nat.lt_of_le_of_lt (Nat.sub_le _ _) t.isLt⟩)
          (iblk m c 2 ⟨t.val - 1, Nat.lt_of_le_of_lt (Nat.sub_le _ _) t.isLt⟩) ⟨504 + s.val, by omega⟩ j)
    (r j : Fin 512) (q : Fin 3) (s : Fin 520) (hs : s.val = 6 + q.val + r.val) (n : Fin 8194) (hn : n.val = q.val + (row t r).val) :
    afterB hd (inB (iblk m c 0 t) (iblk m c 1 t) (iblk m c 2 t)) s j
      = padW (m ((c : Thread nD τ).loc main_arg0)) (m ((c : Thread nD τ).loc main_arg1)) (m ((c : Thread nD τ).loc main_arg2)) (pb t) n j := by
  have ht := coords_at t
  have hrow : (row t r).val = (t.val % 16) * 512 + r.val := by rw [← ht.2]; rfl
  have hq := q.isLt
  unfold afterB padW
  by_cases h8 : s.val < 8
  · rw [dif_pos h8]
    by_cases h0 : t.val % 16 = 0
    · rw [hA h0, dif_pos (show n.val < 2 by omega)]
    · have ht' := coords_at ⟨t.val - 1, Nat.lt_of_le_of_lt (Nat.sub_le _ _) t.isLt⟩
      have e1 : (t.val - 1) / 16 = t.val / 16 := by omega
      have e2 : (t.val - 1) % 16 = t.val % 16 - 1 := by omega
      rw [hB h0 s j h8, in_point, dif_neg (show ¬ n.val < 2 by omega)]
      refine in_congr _ _ _ j (by rw [ht'.1, ht.1]; exact e1) ?_
      show (pi _).val * 512 + (504 + s.val) = n.val - 2
      rw [ht'.2]
      show (t.val - 1) % 16 * 512 + (504 + s.val) = n.val - 2
      omega
  · rw [dif_neg h8, in_point, dif_neg (show ¬ n.val < 2 by omega)]
    refine in_congr _ _ _ j rfl ?_
    show (pi t).val * 512 + (s.val - 8) = n.val - 2
    rw [ht.2]
    omega

theorem taps_point (hd : Fin 520 → Fin 512 → EReal)
    (hA : t.val % 16 = 0 → ∀ s j, hd s j = 0)
    (hB : ¬ t.val % 16 = 0 → ∀ (s : Fin 520) (j : Fin 512) (h : s.val < 8), hd s j
      = inB (iblk m c 0 ⟨t.val - 1, Nat.lt_of_le_of_lt (Nat.sub_le _ _) t.isLt⟩) (iblk m c 1 ⟨t.val - 1, Nat.lt_of_le_of_lt (Nat.sub_le _ _) t.isLt⟩)
          (iblk m c 2 ⟨t.val - 1, Nat.lt_of_le_of_lt (Nat.sub_le _ _) t.isLt⟩) ⟨504 + s.val, by omega⟩ j)
    (r j : Fin 512) :
    dotc (xnB (iblk m c 0 t) (iblk m c 1 t) r) (colsB 0 (by decide) (iblk m c 2 t)) j
        * tapsB (iblk m c 3 t) (afterB hd (inB (iblk m c 0 t) (iblk m c 1 t) (iblk m c 2 t))) r j
      = gatedW (m ((c : Thread nD τ).loc main_arg0)) (m ((c : Thread nD τ).loc main_arg1)) (m ((c : Thread nD τ).loc main_arg2))
          (m ((c : Thread nD τ).loc main_arg3)) (pb t) (row t r) j := by
  unfold gatedW tapsB convW
  rw [proj_point, blk3, blk3, blk3,
    pad_at m c t hd hA hB r j 0 ⟨6 + r.val, by omega⟩ rfl ⟨(row t r).val, by omega⟩ (Nat.zero_add _).symm,
    pad_at m c t hd hA hB r j 1 ⟨7 + r.val, by omega⟩ rfl ⟨1 + (row t r).val, by omega⟩ rfl,
    pad_at m c t hd hA hB r j 2 ⟨8 + r.val, by omega⟩ rfl ⟨2 + (row t r).val, by omega⟩ rfl]

/-! ## The results -/

def G4 : S2x8192x512.Idx → EReal := fun i =>
  gatedW (m ((c : Thread nD τ).loc main_arg0)) (m ((c : Thread nD τ).loc main_arg1)) (m ((c : Thread nD τ).loc main_arg2)) (m ((c : Thread nD τ).loc main_arg3)) (i 0) (i 1) (i 2)

theorem point4 (r j : Fin 512) : (outsAt0 m c t.val t.isLt).1 (ix3 0 r j) = G4 m c (ix3 (pb t) (row t r) j) := by
  by_cases h0 : t.val % 16 = 0
  · rw [part4_A m c t h0]
    refine (gated_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      ((hcond0_0 t).mpr h0) (iblk m c 0 t) (iblk m c 1 t) (iblk m c 2 t) (iblk m c 3 t) r j).trans ?_
    exact taps_point m c t _ (fun _ _ _ => rfl) (fun h => absurd h0 h) r j
  · rw [part4_B m c t h0]
    refine (gated_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (fun h => h0 ((hcond0_0 t).mp h)) (iblk m c 0 t) (iblk m c 1 t) (iblk m c 2 t) (iblk m c 3 t)
      (outsAt0 m c (t.val - 1) (Nat.lt_of_le_of_lt (Nat.sub_le _ _) t.isLt)).2.2.2.2 r j).trans ?_
    exact taps_point m c t _ (fun h => absurd h h0)
      (fun _ s j h => left_point m c ⟨t.val - 1, Nat.lt_of_le_of_lt (Nat.sub_le _ _) t.isLt⟩ ⟨s.val, h⟩ j) r j

theorem arr4 : (dats m 0 c).arrAt 4 cfg0.N = G4 m c := by
  refine (dats m 0 c).arrAt_eq_of_covers 4 _ (by decide +kernel) fun t hf y => ?_
  blk_simp
  rw [after0_4]
  have hy : y = (ix3 0 (y 1) (y 2) : S1x512x512.Idx) := by
    funext a; fin_cases a
    · exact Subsingleton.elim (α := Fin 1) _ _
    · rfl
    · rfl
  rw [hy]
  exact (point4 m c t (y 1) (y 2)).trans (congrArg _ (emb4 t (y 1) (y 2)).symm)

def G5 : S2x8192x512.Idx → EReal := fun i =>
  projW 1536 (by decide) (m ((c : Thread nD τ).loc main_arg0)) (m ((c : Thread nD τ).loc main_arg1)) (m ((c : Thread nD τ).loc main_arg2)) (i 0) (i 1) (i 2)

theorem point5 (r j : Fin 512) : (outsAt0 m c t.val t.isLt).2.1 (ix3 0 r j) = G5 m c (ix3 (pb t) (row t r) j) := by
  by_cases h0 : t.val % 16 = 0
  · rw [part5_A m c t h0]
    refine (query_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      ((hcond0_0 t).mpr h0) (iblk m c 0 t) (iblk m c 1 t) (iblk m c 2 t) (iblk m c 3 t) r j).trans ?_
    exact proj_point m c t 1536 (by decide) r j
  · rw [part5_B m c t h0]
    refine (query_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (fun h => h0 ((hcond0_0 t).mp h)) (iblk m c 0 t) (iblk m c 1 t) (iblk m c 2 t) (iblk m c 3 t)
      (outsAt0 m c (t.val - 1) (Nat.lt_of_le_of_lt (Nat.sub_le _ _) t.isLt)).2.2.2.2 r j).trans ?_
    exact proj_point m c t 1536 (by decide) r j

theorem arr5 : (dats m 0 c).arrAt 5 cfg0.N = G5 m c := by
  refine (dats m 0 c).arrAt_eq_of_covers 5 _ (by decide +kernel) fun t hf y => ?_
  blk_simp
  rw [after0_5]
  have hy : y = (ix3 0 (y 1) (y 2) : S1x512x512.Idx) := by
    funext a; fin_cases a
    · exact Subsingleton.elim (α := Fin 1) _ _
    · rfl
    · rfl
  rw [hy]
  exact (point5 m c t (y 1) (y 2)).trans (congrArg _ (emb5 t (y 1) (y 2)).symm)

def G6 : S2x8192x512.Idx → EReal := fun i =>
  projW 2048 (by decide) (m ((c : Thread nD τ).loc main_arg0)) (m ((c : Thread nD τ).loc main_arg1)) (m ((c : Thread nD τ).loc main_arg2)) (i 0) (i 1) (i 2)

theorem point6 (r j : Fin 512) : (outsAt0 m c t.val t.isLt).2.2.1 (ix3 0 r j) = G6 m c (ix3 (pb t) (row t r) j) := by
  by_cases h0 : t.val % 16 = 0
  · rw [part6_A m c t h0]
    refine (key_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      ((hcond0_0 t).mpr h0) (iblk m c 0 t) (iblk m c 1 t) (iblk m c 2 t) (iblk m c 3 t) r j).trans ?_
    exact proj_point m c t 2048 (by decide) r j
  · rw [part6_B m c t h0]
    refine (key_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (fun h => h0 ((hcond0_0 t).mp h)) (iblk m c 0 t) (iblk m c 1 t) (iblk m c 2 t) (iblk m c 3 t)
      (outsAt0 m c (t.val - 1) (Nat.lt_of_le_of_lt (Nat.sub_le _ _) t.isLt)).2.2.2.2 r j).trans ?_
    exact proj_point m c t 2048 (by decide) r j

theorem arr6 : (dats m 0 c).arrAt 6 cfg0.N = G6 m c := by
  refine (dats m 0 c).arrAt_eq_of_covers 6 _ (by decide +kernel) fun t hf y => ?_
  blk_simp
  rw [after0_6]
  have hy : y = (ix3 0 (y 1) (y 2) : S1x512x512.Idx) := by
    funext a; fin_cases a
    · exact Subsingleton.elim (α := Fin 1) _ _
    · rfl
    · rfl
  rw [hy]
  exact (point6 m c t (y 1) (y 2)).trans (congrArg _ (emb6 t (y 1) (y 2)).symm)

def G7 : S2x8192x512.Idx → EReal := fun i =>
  projW 2560 (by decide) (m ((c : Thread nD τ).loc main_arg0)) (m ((c : Thread nD τ).loc main_arg1)) (m ((c : Thread nD τ).loc main_arg2)) (i 0) (i 1) (i 2)

theorem point7 (r j : Fin 512) : (outsAt0 m c t.val t.isLt).2.2.2.1 (ix3 0 r j) = G7 m c (ix3 (pb t) (row t r) j) := by
  by_cases h0 : t.val % 16 = 0
  · rw [part7_A m c t h0]
    refine (value_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      ((hcond0_0 t).mpr h0) (iblk m c 0 t) (iblk m c 1 t) (iblk m c 2 t) (iblk m c 3 t) r j).trans ?_
    exact proj_point m c t 2560 (by decide) r j
  · rw [part7_B m c t h0]
    refine (value_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _)
      (fun h => h0 ((hcond0_0 t).mp h)) (iblk m c 0 t) (iblk m c 1 t) (iblk m c 2 t) (iblk m c 3 t)
      (outsAt0 m c (t.val - 1) (Nat.lt_of_le_of_lt (Nat.sub_le _ _) t.isLt)).2.2.2.2 r j).trans ?_
    exact proj_point m c t 2560 (by decide) r j

theorem arr7 : (dats m 0 c).arrAt 7 cfg0.N = G7 m c := by
  refine (dats m 0 c).arrAt_eq_of_covers 7 _ (by decide +kernel) fun t hf y => ?_
  blk_simp
  rw [after0_7]
  have hy : y = (ix3 0 (y 1) (y 2) : S1x512x512.Idx) := by
    funext a; fin_cases a
    · exact Subsingleton.elim (α := Fin 1) _ _
    · rfl
    · rfl
  rw [hy]
  exact (point7 m c t (y 1) (y 2)).trans (congrArg _ (emb7 t (y 1) (y 2)).symm)

end Cert.Kernel6Ideal.Proj

end
-- ==== Proof.R6I.Value.lean ====
/-
  The reference of the projection, read at a sequence, a row and a column.
-/
module

public import proofs.«01_k».proof.Proof.Gen.Reference6Ideal.Read
public import proofs.«01_k».proof.Proof.K6I.Whole
public import Idealize.ShloMosaic.Lib.KernelVsHost

@[expose] public section

set_option maxRecDepth 16384

noncomputable section

namespace Cert.Reference6Ideal.Read

open Cert.Reference6Ideal Cert.Reference6Ideal.Gen Cert.Ffn Cert.Kernel6Ideal.Proj
open Idealize.ShloMosaic Idealize.ShloMosaic.TcCoe Idealize.ShloMosaic.Pointwise

variable (x0 : (⟨S2x8192x1024, .f32⟩ : BufTy).Contents (Elt Ideal)) (x1 : (⟨S1024, .f32⟩ : BufTy).Contents (Elt Ideal))
  (x2 : (⟨S1024x3072, .f32⟩ : BufTy).Contents (Elt Ideal)) (x3 : (⟨S3x512, .f32⟩ : BufTy).Contents (Elt Ideal))

/-- The norm's stage. -/
theorem norm_eq (b : Fin 2) (n : Fin 8192) (k : Fin 1024) :
    val_main_v12 (F := Ideal) x0 x1 (ix3 b n k) = nrm (rowW x0 b n) (gainW x1) k := by
  have hs : val_main_v1 (F := Ideal) x0 (idx_main_v2 (idx_main_v8 (ix3 b n k))) = ∑ i, rowW x0 b n i * rowW x0 b n i := by
    rw [val_main_v1_apply, val_main_cst_apply]
    show Ideal.ofBits .f32 0x00000000#32 + _ = _
    rw [Ideal.ofBits_zero_f32, zero_add]
    refine Finset.sum_congr rfl fun i _ => ?_
    have e : idx_main_v1 (idx_main_v2 (idx_main_v8 (ix3 b n k))) i = ix3 b n i := by
      funext a; fin_cases a <;> rfl
    rw [val_main_v0_apply, e]
    rfl
  have hg : val_main_v11 (F := Ideal) x1 (ix3 b n k) = gainW x1 k := by
    rw [val_main_v11_apply, val_main_v10_apply]
    exact congrArg x1 (by funext a; fin_cases a; rfl)
  rw [val_main_v12_apply, val_main_v9_apply, val_main_v8_apply, val_main_v7_apply, val_main_v6_apply, val_main_v4_apply,
    val_main_v2_apply, hs, hg, val_main_v3_apply, val_main_v5_apply, val_main_cst_0_apply, val_main_cst_1_apply]
  rfl

/-- The weights' stage. -/
theorem proj_eq (o : ℕ) (ho : o ≤ 2560) (b : Fin 2) (n : Fin 8192) (j : Fin 512) :
    val_main_v13 (F := Ideal) x0 x1 x2 (ix3 b n ⟨o + j.val, by omega⟩) = projW o ho x0 x1 x2 b n j := by
  rw [val_main_v13_apply]
  unfold projW dotc
  refine Finset.sum_congr rfl fun i _ => ?_
  have e1 : lidx_main_v13 (ix3 b n ⟨o + j.val, by omega⟩) i = ix3 b n i := by
    funext a; fin_cases a <;> rfl
  have e2 : ridx_main_v13 (ix3 b n ⟨o + j.val, by omega⟩) i = ix2 i ⟨o + j.val, by omega⟩ := by
    funext a; fin_cases a <;> rfl
  rw [e1, e2, norm_eq]
  rfl

/-! ## The six parts -/

theorem part_b (b : Fin 2) (n : Fin 8192) (j : Fin 512) :
    val_main_v14 (F := Ideal) x0 x1 x2 (ix3 b n j) = projW 0 (by decide) x0 x1 x2 b n j := by
  rw [val_main_v14_apply, ← proj_eq]
  refine congrArg _ ?_
  funext a; fin_cases a
  · rfl
  · rfl
  · exact Fin.ext (Nat.zero_add _).symm

theorem part_c (b : Fin 2) (n : Fin 8192) (j : Fin 512) :
    val_main_v15 (F := Ideal) x0 x1 x2 (ix3 b n j) = projW 512 (by decide) x0 x1 x2 b n j := by
  rw [val_main_v15_apply, ← proj_eq]
  refine congrArg _ ?_
  funext a; fin_cases a <;> rfl

theorem part_u (b : Fin 2) (n : Fin 8192) (j : Fin 512) :
    val_main_v16 (F := Ideal) x0 x1 x2 (ix3 b n j) = projW 1024 (by decide) x0 x1 x2 b n j := by
  rw [val_main_v16_apply, ← proj_eq]
  refine congrArg _ ?_
  funext a; fin_cases a <;> rfl

theorem part_q (b : Fin 2) (n : Fin 8192) (j : Fin 512) :
    val_main_v17 (F := Ideal) x0 x1 x2 (ix3 b n j) = projW 1536 (by decide) x0 x1 x2 b n j := by
  rw [val_main_v17_apply, ← proj_eq]
  refine congrArg _ ?_
  funext a; fin_cases a <;> rfl

theorem part_k (b : Fin 2) (n : Fin 8192) (j : Fin 512) :
    val_main_v18 (F := Ideal) x0 x1 x2 (ix3 b n j) = projW 2048 (by decide) x0 x1 x2 b n j := by
  rw [val_main_v18_apply, ← proj_eq]
  refine congrArg _ ?_
  funext a; fin_cases a <;> rfl

theorem part_v (b : Fin 2) (n : Fin 8192) (j : Fin 512) :
    val_main_v19 (F := Ideal) x0 x1 x2 (ix3 b n j) = projW 2560 (by decide) x0 x1 x2 b n j := by
  rw [val_main_v19_apply, ← proj_eq]
  refine congrArg _ ?_
  funext a; fin_cases a <;> rfl

/-- The convolution's input. -/
theorem in_eq (b : Fin 2) (n : Fin 8192) (j : Fin 512) :
    val_main_v20 (F := Ideal) x0 x1 x2 (ix3 b n j) = inW x0 x1 x2 b n j := by
  rw [val_main_v20_apply, part_c, part_u]
  rfl

theorem zero_eq (i : S_.Idx) : val_main_call0_v0 (F := Ideal) i = (0 : EReal) := by
  rw [val_main_call0_v0_apply, val_main_c_apply]
  show ((((0x00000000#32 : BitVec 32).toInt : ℝ)) : EReal) = 0
  simp

/-- The padded sequence. -/
theorem pad_eq (b : Fin 2) (n : Fin 8194) (j : Fin 512) :
    val_main_v21 (F := Ideal) x0 x1 x2 (ix3 b n j) = padW x0 x1 x2 b n j := by
  unfold val_main_v21 padW
  by_cases h : n.val < 2
  · rw [dif_pos h]
    refine (pad_apply_of_not_inside _ _ _ _ _ _ _ _ 1 ?_).trans (zero_eq _)
    intro hh
    have h1 : 2 ≤ n.val := hh.1
    omega
  · rw [dif_neg h, ← in_eq]
    refine pad_apply_of_inside _ _ _ _ _ _ _ _ _ fun a => ?_
    fin_cases a
    · show b.val = 0 + b.val * (0 + 1); omega
    · show n.val = 2 + (n.val - 2) * (0 + 1); omega
    · show j.val = 0 + j.val * (0 + 1); omega

theorem seq0 (b : Fin 2) (n : Fin 8192) (j : Fin 512) :
    val_main_v22 (F := Ideal) x0 x1 x2 (ix3 b n j) = padW x0 x1 x2 b ⟨n.val, by omega⟩ j := by
  rw [val_main_v22_apply, ← pad_eq]
  refine congrArg _ ?_
  funext a; fin_cases a <;> rfl

theorem tap0 (b : Fin 2) (n : Fin 8192) (j : Fin 512) : val_main_v26 (F := Ideal) x3 (ix3 b n j) = x3 (ix2 0 j) := by
  rw [val_main_v26_apply, val_main_v25_apply, val_main_v24_apply, val_main_v23_apply]
  refine congrArg x3 ?_
  funext a; fin_cases a
  · rfl
  · exact Fin.ext (Nat.mod_eq_of_lt j.isLt)

theorem seq1 (b : Fin 2) (n : Fin 8192) (j : Fin 512) :
    val_main_v28 (F := Ideal) x0 x1 x2 (ix3 b n j) = padW x0 x1 x2 b ⟨1 + n.val, by omega⟩ j := by
  rw [val_main_v28_apply, ← pad_eq]
  refine congrArg _ ?_
  funext a; fin_cases a <;> rfl

theorem tap1 (b : Fin 2) (n : Fin 8192) (j : Fin 512) : val_main_v32 (F := Ideal) x3 (ix3 b n j) = x3 (ix2 1 j) := by
  rw [val_main_v32_apply, val_main_v31_apply, val_main_v30_apply, val_main_v29_apply]
  refine congrArg x3 ?_
  funext a; fin_cases a
  · rfl
  · exact Fin.ext (Nat.mod_eq_of_lt j.isLt)

theorem seq2 (b : Fin 2) (n : Fin 8192) (j : Fin 512) :
    val_main_v34 (F := Ideal) x0 x1 x2 (ix3 b n j) = padW x0 x1 x2 b ⟨2 + n.val, by omega⟩ j := by
  rw [val_main_v34_apply, ← pad_eq]
  refine congrArg _ ?_
  funext a; fin_cases a <;> rfl

theorem tap2 (b : Fin 2) (n : Fin 8192) (j : Fin 512) : val_main_v38 (F := Ideal) x3 (ix3 b n j) = x3 (ix2 2 j) := by
  rw [val_main_v38_apply, val_main_v37_apply, val_main_v36_apply, val_main_v35_apply]
  refine congrArg x3 ?_
  funext a; fin_cases a
  · rfl
  · exact Fin.ext (Nat.mod_eq_of_lt j.isLt)

theorem conv_eq (b : Fin 2) (n : Fin 8192) (j : Fin 512) :
    val_main_v41 (F := Ideal) x0 x1 x2 x3 (ix3 b n j) = convW x0 x1 x2 x3 b n j := by
  rw [val_main_v41_apply, val_main_v40_apply, val_main_v27_apply, val_main_v33_apply, val_main_v39_apply, tap0, tap1, tap2, seq0, seq1, seq2]
  unfold convW
  rw [mul_comm (x3 (ix2 0 j)), mul_comm (x3 (ix2 1 j)), mul_comm (x3 (ix2 2 j))]
  rfl

theorem gated_at (b : Fin 2) (n : Fin 8192) (j : Fin 512) :
    val_main_v43 (F := Ideal) x0 x1 x2 x3 (ix3 b n j) = gatedW x0 x1 x2 x3 b n j := by
  rw [val_main_v43_apply, val_main_v42_apply, part_b, conv_eq]
  rfl

/-! ## The four results -/

theorem gated_eq : val_main_v43 (F := Ideal) x0 x1 x2 x3 = fun i => gatedW x0 x1 x2 x3 (i 0) (i 1) (i 2) := by
  funext i
  have hi : i = ix3 (i 0) (i 1) (i 2) := by
    funext a; fin_cases a <;> rfl
  exact (congrArg _ hi).trans (gated_at x0 x1 x2 x3 _ _ _)

theorem query_eq : val_main_v44 (F := Ideal) x0 x1 x2 = fun i => projW 1536 (by decide) x0 x1 x2 (i 0) (i 1) (i 2) := by
  funext i
  have hi : i = ix3 (i 0) (i 1) (i 2) := by
    funext a; fin_cases a <;> rfl
  refine (congrArg _ hi).trans ?_
  exact (val_main_v44_apply _ _ _ _).trans (part_q x0 x1 x2 _ _ _)

theorem key_eq : val_main_v45 (F := Ideal) x0 x1 x2 = fun i => projW 2048 (by decide) x0 x1 x2 (i 0) (i 1) (i 2) := by
  funext i
  have hi : i = ix3 (i 0) (i 1) (i 2) := by
    funext a; fin_cases a <;> rfl
  refine (congrArg _ hi).trans ?_
  exact (val_main_v45_apply _ _ _ _).trans (part_k x0 x1 x2 _ _ _)

theorem value_eq : val_main_v46 (F := Ideal) x0 x1 x2 = fun i => projW 2560 (by decide) x0 x1 x2 (i 0) (i 1) (i 2) := by
  funext i
  have hi : i = ix3 (i 0) (i 1) (i 2) := by
    funext a; fin_cases a <;> rfl
  refine (congrArg _ hi).trans ?_
  exact (val_main_v46_apply _ _ _ _).trans (part_v x0 x1 x2 _ _ _)

end Cert.Reference6Ideal.Read

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.K.Run
public import proofs.«01_k».proof.Proof.KI.Run
public import proofs.«01_k».proof.Proof.Equal
public import proofs.«01_k».proof.Proof.K2I.Out
public import proofs.«01_k».proof.Proof.R2I.Value
public import proofs.«01_k».proof.Proof.K3I.Out
public import proofs.«01_k».proof.Proof.R3I.Value
public import proofs.«01_k».proof.Proof.K4I.Out
public import proofs.«01_k».proof.Proof.R4I.Value
public import proofs.«01_k».proof.Proof.K5I.Out
public import proofs.«01_k».proof.Proof.R5I.Value
public import proofs.«01_k».proof.Proof.K6I.Out
public import proofs.«01_k».proof.Proof.R6I.Value
public import Idealize.ShloMosaic.Adequacy
public import Idealize.ShloMosaic.Init

@[expose] public section

noncomputable section

namespace Cert.Proof

open Idealize.ShloMosaic Idealize.SL.Sem Cert.Kernel

theorem frame_kernel : Cert.quiescent_Kernel (hKernel := Cert.Kernel.Gen.facts) := fun m g _ =>
  (θ_run _ _ _).mono (fun _ h => ⟨fun c => (h.1 c).2, h.2⟩) (Cert.Kernel.SB.run m g)

theorem frame_kernelIdeal : Cert.quiescent_KernelIdeal (hKernelIdeal := Cert.KernelIdeal.Gen.facts) := fun m g _ =>
  (θ_run _ _ _).mono (fun _ h => ⟨fun c => (h.1 c).2, h.2⟩) (Cert.KernelIdeal.SB.run m g)

theorem preserves : Cert.preserves_Kernel_KernelIdeal :=
  ⟨IdealRules.named_const.statement Cert.KernelIdeal.κ "log2e" .f32 0x3FB8AA3B#32 (((Real.log 2)⁻¹ : ℝ) : EReal) rfl,
    IdealRules.named_const.statement Cert.KernelIdeal.κ "no_past" .f32 0xC61C4000#32 ⊥ rfl,
    IdealRules.named_const.statement Cert.KernelIdeal.κ "dead" .f32 0xC3200000#32 ⊥ rfl⟩

theorem frame_referenceIdeal : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

theorem algebraic : Cert.algebraic_KernelIdeal_ReferenceIdeal (hKernelIdeal := Cert.KernelIdeal.Gen.facts)
    (hReferenceIdeal := Cert.ReferenceIdeal.Gen.facts) := fun m g m' g' _ hargs => by
  refine ⟨fun c => (Cert.KernelIdeal.SB.dats m 0 c).arrAt 4 (Cert.KernelIdeal.cfg0 (F := Ideal)).N,
    (θ_run _ _ _).mono (fun _ h => h.1) (Cert.KernelIdeal.SB.run m g),
    (θ_run _ _ _).mono (fun r h c => ⟨(h c).1.trans ?_, (h c).2⟩) (Cert.ReferenceIdeal.Value.run m' g')⟩
  rw [Cert.ReferenceIdeal.Read.val_main_v25_eq, (hargs c).1, (hargs c).2.1, (hargs c).2.2]
  exact ((Cert.KernelIdeal.SB.arr_eq m c).trans (equal _ _ _)).symm

theorem frame_kernel2 : Cert.quiescent_Kernel2 (hKernel2 := Cert.Kernel2.Gen.facts) := fun m g _ => Cert.Kernel2.Gen.frame m g

theorem frame_kernel2Ideal : Cert.quiescent_Kernel2Ideal (hKernel2Ideal := Cert.Kernel2Ideal.Gen.facts) := fun m g _ => Cert.Kernel2Ideal.Gen.frame m g

theorem frame_reference2Ideal : Cert.quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Value.run m g)

theorem preserves2 : Cert.preserves_Kernel2_Kernel2Ideal := trivial

theorem algebraic2 : Cert.algebraic_Kernel2Ideal_Reference2Ideal (hKernel2Ideal := Cert.Kernel2Ideal.Gen.facts)
    (hReference2Ideal := Cert.Reference2Ideal.Gen.facts) := fun m g m' g' _ hargs => by
  refine ⟨fun c => (Cert.Kernel2Ideal.Gen.dats m 0 c).arrAt 8 Cert.Kernel2Ideal.cfg0.N,
    Cert.Kernel2Ideal.Value.run_blocks m g,
    (θ_run _ _ _).mono (fun r h c => ⟨(h c).1.trans ?_, (h c).2⟩) (Cert.Reference2Ideal.Value.run m' g')⟩
  rw [Cert.Reference2Ideal.Read.val_main_v42_eq, (hargs c).1, (hargs c).2.1, (hargs c).2.2.1, (hargs c).2.2.2.1, (hargs c).2.2.2.2.1, (hargs c).2.2.2.2.2.1, (hargs c).2.2.2.2.2.2.1, (hargs c).2.2.2.2.2.2.2]
  exact (Cert.Reference2Ideal.Read.val_eq _ _ _ _ _ _ _ _).trans (Cert.Kernel2Ideal.FF.arr_eq m c).symm

theorem frame_kernel3 : Cert.quiescent_Kernel3 (hKernel3 := Cert.Kernel3.Gen.facts) := fun m g _ => Cert.Kernel3.Gen.frame m g

theorem frame_kernel3Ideal : Cert.quiescent_Kernel3Ideal (hKernel3Ideal := Cert.Kernel3Ideal.Gen.facts) := fun m g _ => Cert.Kernel3Ideal.Gen.frame m g

theorem frame_reference3Ideal : Cert.quiescent_Reference3Ideal (hReference3Ideal := Cert.Reference3Ideal.Gen.facts) := fun m g _ =>
  (θ_run _ _ _).mono (fun r h => ⟨fun c => (h c).2, sem_eq_zero_of_no_sems (by decide) r.2⟩) (Cert.Reference3Ideal.Value.run m g)

theorem preserves3 : Cert.preserves_Kernel3_Kernel3Ideal := trivial

theorem algebraic3 : Cert.algebraic_Kernel3Ideal_Reference3Ideal (hKernel3Ideal := Cert.Kernel3Ideal.Gen.facts)
    (hReference3Ideal := Cert.Reference3Ideal.Gen.facts) := fun m g m' g' _ hargs => by
  refine ⟨fun c => (Cert.Kernel3Ideal.Gen.dats m 0 c).arrAt 4 Cert.Kernel3Ideal.cfg0.N,
    Cert.Kernel3Ideal.Value.run_blocks m g,
    (θ_run _ _ _).mono (fun r h c => ⟨(h c).1.trans ?_, (h c).2⟩) (Cert.Reference3Ideal.Value.run m' g')⟩
  rw [Cert.Reference3Ideal.Read.val_main_v25_eq, (hargs c).1, (hargs c).2.1, (hargs c).2.2.1, (hargs c).2.2.2]
  exact (Cert.Reference3Ideal.Read.val_eq _ _ _ _).trans (Cert.Kernel3Ideal.FF.arr_eq m c).symm

theorem frame_kernel4 : Cert.quiescent_Kernel4 (hKernel4 := Cert.Kernel4.Gen.facts) := fun m g _ => Cert.Kernel4.Gen.frame m g

theorem frame_kernel4Ideal : Cert.quiescent_Kernel4Ideal (hKernel4Ideal := Cert.Kernel4Ideal.Gen.facts) := fun m g _ => Cert.Kernel4Ideal.Gen.frame m g

theorem frame_reference4Ideal : Cert.quiescent_Reference4Ideal (hReference4Ideal := Cert.Reference4Ideal.Gen.facts) := fun m g _ =>
  (θ_run _ _ _).mono (fun r h => ⟨fun c => (h c).2, sem_eq_zero_of_no_sems (by decide) r.2⟩) (Cert.Reference4Ideal.Value.run m g)

theorem preserves4 : Cert.preserves_Kernel4_Kernel4Ideal := trivial

theorem algebraic4 : Cert.algebraic_Kernel4Ideal_Reference4Ideal (hKernel4Ideal := Cert.Kernel4Ideal.Gen.facts)
    (hReference4Ideal := Cert.Reference4Ideal.Gen.facts) := fun m g m' g' _ hargs => by
  refine ⟨fun c => (Cert.Kernel4Ideal.Gen.dats m 0 c).arrAt 4 Cert.Kernel4Ideal.cfg0.N,
    Cert.Kernel4Ideal.Value.run_blocks m g,
    (θ_run _ _ _).mono (fun r h c => ⟨(h c).1.trans ?_, (h c).2⟩) (Cert.Reference4Ideal.Value.run m' g')⟩
  rw [Cert.Reference4Ideal.Read.val_main_v25_eq, (hargs c).1, (hargs c).2.1, (hargs c).2.2.1, (hargs c).2.2.2]
  exact (Cert.Reference4Ideal.Read.val_eq _ _ _ _).trans (Cert.Kernel4Ideal.FF.arr_eq m c).symm

theorem frame_kernel5 : Cert.quiescent_Kernel5 (hKernel5 := Cert.Kernel5.Gen.facts) := fun m g _ => Cert.Kernel5.Gen.frame m g

theorem frame_kernel5Ideal : Cert.quiescent_Kernel5Ideal (hKernel5Ideal := Cert.Kernel5Ideal.Gen.facts) := fun m g _ => Cert.Kernel5Ideal.Gen.frame m g

theorem frame_reference5Ideal : Cert.quiescent_Reference5Ideal (hReference5Ideal := Cert.Reference5Ideal.Gen.facts) := fun m g _ =>
  (θ_run _ _ _).mono (fun r h => ⟨fun c => (h c).2, sem_eq_zero_of_no_sems (by decide) r.2⟩) (Cert.Reference5Ideal.Value.run m g)

theorem preserves5 : Cert.preserves_Kernel5_Kernel5Ideal := trivial

theorem algebraic5 : Cert.algebraic_Kernel5Ideal_Reference5Ideal (hKernel5Ideal := Cert.Kernel5Ideal.Gen.facts)
    (hReference5Ideal := Cert.Reference5Ideal.Gen.facts) := fun m g m' g' _ hargs => by
  refine ⟨fun c => (Cert.Kernel5Ideal.Gen.dats m 0 c).arrAt 7 Cert.Kernel5Ideal.cfg0.N,
    Cert.Kernel5Ideal.Value.run_blocks m g,
    (θ_run _ _ _).mono (fun r h c => ⟨(h c).1.trans ?_, (h c).2⟩) (Cert.Reference5Ideal.Value.run m' g')⟩
  rw [Cert.Reference5Ideal.Read.val_main_v29_eq, (hargs c).1, (hargs c).2.1, (hargs c).2.2.1, (hargs c).2.2.2.1, (hargs c).2.2.2.2.1, (hargs c).2.2.2.2.2.1, (hargs c).2.2.2.2.2.2]
  exact (Cert.Reference5Ideal.Read.val_eq _ _ _ _ _ _ _).trans (Cert.Kernel5Ideal.FF.arr_eq m c).symm

theorem frame_kernel6 : Cert.quiescent_Kernel6 (hKernel6 := Cert.Kernel6.Gen.facts) := fun m g _ => Cert.Kernel6.Gen.frame m g

theorem frame_kernel6Ideal : Cert.quiescent_Kernel6Ideal (hKernel6Ideal := Cert.Kernel6Ideal.Gen.facts) := fun m g _ => Cert.Kernel6Ideal.Gen.frame m g

theorem frame_reference6Ideal : Cert.quiescent_Reference6Ideal (hReference6Ideal := Cert.Reference6Ideal.Gen.facts) := fun m g _ =>
  (θ_run _ _ _).mono (fun r h => ⟨fun c => (h c).2.2.2.2, sem_eq_zero_of_no_sems (by decide) r.2⟩) (Cert.Reference6Ideal.Value.run m g)

theorem preserves6 : Cert.preserves_Kernel6_Kernel6Ideal := trivial

theorem algebraic6 : Cert.algebraic_Kernel6Ideal_Reference6Ideal (hKernel6Ideal := Cert.Kernel6Ideal.Gen.facts)
    (hReference6Ideal := Cert.Reference6Ideal.Gen.facts) := fun m g m' g' _ hargs => by
  refine ⟨fun c => (Cert.Kernel6Ideal.Gen.dats m 0 c).arrAt 4 Cert.Kernel6Ideal.cfg0.N,
    fun c => (Cert.Kernel6Ideal.Gen.dats m 0 c).arrAt 5 Cert.Kernel6Ideal.cfg0.N,
    fun c => (Cert.Kernel6Ideal.Gen.dats m 0 c).arrAt 6 Cert.Kernel6Ideal.cfg0.N,
    fun c => (Cert.Kernel6Ideal.Gen.dats m 0 c).arrAt 7 Cert.Kernel6Ideal.cfg0.N,
    Cert.Kernel6Ideal.Value.run_blocks m g,
    (θ_run _ _ _).mono (fun r h c => ⟨(h c).1.trans ?_, (h c).2.1.trans ?_, (h c).2.2.1.trans ?_, (h c).2.2.2.1.trans ?_, (h c).2.2.2.2⟩)
      (Cert.Reference6Ideal.Value.run m' g')⟩
  · rw [Cert.Reference6Ideal.Read.val_main_v43_eq, (hargs c).1, (hargs c).2.1, (hargs c).2.2.1, (hargs c).2.2.2]
    exact (Cert.Reference6Ideal.Read.gated_eq _ _ _ _).trans (Cert.Kernel6Ideal.Proj.arr4 m c).symm
  · rw [Cert.Reference6Ideal.Read.val_main_v44_eq, (hargs c).1, (hargs c).2.1, (hargs c).2.2.1]
    exact (Cert.Reference6Ideal.Read.query_eq _ _ _).trans (Cert.Kernel6Ideal.Proj.arr5 m c).symm
  · rw [Cert.Reference6Ideal.Read.val_main_v45_eq, (hargs c).1, (hargs c).2.1, (hargs c).2.2.1]
    exact (Cert.Reference6Ideal.Read.key_eq _ _ _).trans (Cert.Kernel6Ideal.Proj.arr6 m c).symm
  · rw [Cert.Reference6Ideal.Read.val_main_v46_eq, (hargs c).1, (hargs c).2.1, (hargs c).2.2.1]
    exact (Cert.Reference6Ideal.Read.value_eq _ _ _).trans (Cert.Kernel6Ideal.Proj.arr7 m c).symm

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    frame_kernel, frame_kernelIdeal, frame_referenceIdeal, frame_kernel2,
    frame_kernel2Ideal, frame_reference2Ideal, frame_kernel3, frame_kernel3Ideal,
    frame_reference3Ideal, frame_kernel4, frame_kernel4Ideal, frame_reference4Ideal,
    frame_kernel5, frame_kernel5Ideal, frame_reference5Ideal,
    frame_kernel6, frame_kernel6Ideal, frame_reference6Ideal,
    preserves, algebraic, preserves2, algebraic2,
    preserves3, algebraic3, preserves4, algebraic4,
    preserves5, algebraic5,
    preserves6, algebraic6⟩

end Cert.Proof
